-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_KernelIdeal [hPre_tame_KernelIdeal : Cert.Pre_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_ReferenceIdeal [hPre_tame_ReferenceIdeal : Cert.Pre_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame_KernelIdeal [hKernelIdeal : Cert.KernelIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame_ReferenceIdeal [hReferenceIdeal : Cert.ReferenceIdeal.Facts] [hPre_tame_ReferenceIdeal : Cert.Pre_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_127" .f32 0x3C010204#32 ((127⁻¹ : ℝ) : EReal)

def algebraic_KernelIdeal_ReferenceIdeal_pre_tame_KernelIdeal [hKernelIdeal : Cert.KernelIdeal.Facts] [hReferenceIdeal : Cert.ReferenceIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 2]⟩ ⟨2, ![4096, 2]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![4096, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame_KernelIdeal : Cert.Pre_tame_KernelIdeal.Facts) (hPre_tame_ReferenceIdeal : Cert.Pre_tame_ReferenceIdeal.Facts),
    quiescent_Kernel (hKernel := hKernel)
    ∧ quiescent_KernelIdeal (hKernelIdeal := hKernelIdeal)
    ∧ quiescent_KernelIdeal_pre_tame_KernelIdeal (hKernelIdeal := hKernelIdeal) (hPre_tame_KernelIdeal := hPre_tame_KernelIdeal)
    ∧ quiescent_ReferenceIdeal (hReferenceIdeal := hReferenceIdeal)
    ∧ quiescent_ReferenceIdeal_pre_tame_ReferenceIdeal (hReferenceIdeal := hReferenceIdeal) (hPre_tame_ReferenceIdeal := hPre_tame_ReferenceIdeal)
    ∧ preserves_Kernel_KernelIdeal
    ∧ algebraic_KernelIdeal_ReferenceIdeal_pre_tame_KernelIdeal (hKernelIdeal := hKernelIdeal) (hReferenceIdeal := hReferenceIdeal) (hPre_tame_KernelIdeal := hPre_tame_KernelIdeal)
-- ==== Pre_tame_KernelIdeal.lean ====
abbrev S256x128 : Shape := ⟨2, ![256, 128]⟩
abbrev S128x32 : Shape := ⟨2, ![128, 32]⟩
abbrev S256x2 : Shape := ⟨2, ![256, 2]⟩
abbrev S2x128x256 : Shape := ⟨3, ![2, 128, 256]⟩
abbrev S_ : Shape := ⟨0, ![]⟩

class Facts : Prop where
  bitsLt_bf16_f32 : FTy.bits .bf16 < FTy.bits .f32
  bcast_S_S256x128 : S_.BroadcastsInDim S256x128 (![] : Fin 0 → Fin S256x128.rank)
  reducesTo_S256x128_S_d0_1 : S256x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S256x2 : S_.BroadcastsInDim S256x2 (![] : Fin 0 → Fin S256x2.rank)
  reducesTo_S256x2_S_d0_1 : S256x2.ReducesTo [0, 1] S_

variable [Facts]

def fn_part1 {F : FTy → Type} [FloatOps F] (main_v14 : IVec S_ 1) (main_v16 : IVec S256x2 1) : IVec S_ 1 :=
  let main_c_5 : IVec S_ 1 := constantI S_ 1 1#1
  let main_v17 : IVec S_ 1 := (fun x v => Host.reduce IntOp.andi x v reducesTo_S256x2_S_d0_1 h_S_) main_v16 main_c_5
  let main_v18 : IVec S_ 1 := andi main_v14 main_v17
  main_v18

def fn {F : FTy → Type} [FloatOps F] (main_arg0 : FVec F S256x128 .bf16) (main_arg1 : FVec F S128x32 .bf16) (main_arg2 : IVec S256x2 32) (main_arg3 : FVec F S2x128x256 .bf16) : IVec S_ 1 :=
  let main_v0 : FVec F S256x128 .f32 := (extf .f32 · bitsLt_bf16_f32) main_arg0
  let main_v1 : FVec F S256x128 .f32 := Host.absf main_v0
  let main_cst : FVec F S_ .f32 := constant S_ .f32 0x7F800000#32
  let main_v2 : FVec F S256x128 .f32 := broadcastInDim S256x128 ![] bcast_S_S256x128 main_cst
  let main_v3 : IVec S256x128 1 := cmpf .olt main_v1 main_v2
  let main_c : IVec S_ 1 := constantI S_ 1 1#1
  let main_v4 : IVec S_ 1 := (fun x v => Host.reduce IntOp.andi x v reducesTo_S256x128_S_d0_1 h_S_) main_v3 main_c
  let main_v5 : FVec F S128x32 .f32 := (extf .f32 · bitsLt_bf16_f32) main_arg1
  let main_v6 : FVec F S128x32 .f32 := Host.absf main_v5
  let main_cst_0 : FVec F S_ .f32 := constant S_ .f32 0x7F800000#32
  let main_v7 : FVec F S128x32 .f32 := broadcastInDim S128x32 ![] bcast_S_S128x32 main_cst_0
  let main_v8 : IVec S128x32 1 := cmpf .olt main_v6 main_v7
  let main_c_1 : IVec S_ 1 := constantI S_ 1 1#1
  let main_v9 : IVec S_ 1 := (fun x v => Host.reduce IntOp.andi x v reducesTo_S128x32_S_d0_1 h_S_) main_v8 main_c_1
  let main_v10 : IVec S_ 1 := andi main_v4 main_v9
  let main_c_2 : IVec S_ 32 := constantI S_ 32 0#32
  let main_v11 : IVec S256x2 32 := broadcastInDim S256x2 ![] bcast_S_S256x2 main_c_2
  let main_v12 : IVec S256x2 1 := cmpi .sge main_arg2 main_v11
  let main_c_3 : IVec S_ 1 := constantI S_ 1 1#1
  let main_v13 : IVec S_ 1 := (fun x v => Host.reduce IntOp.andi x v reducesTo_S256x2_S_d0_1 h_S_) main_v12 main_c_3
  let main_v14 : IVec S_ 1 := andi main_v10 main_v13
  let main_c_4 : IVec S_ 32 := constantI S_ 32 32#32
  let main_v15 : IVec S256x2 32 := broadcastInDim S256x2 ![] bcast_S_S256x2 main_c_4
  let main_v16 : IVec S256x2 1 := cmpi .slt main_arg2 main_v15
  fn_part1 (F := F) main_v14 main_v16
-- ==== Pre_tame_ReferenceIdeal.lean ====
abbrev S4096x128 : Shape := ⟨2, ![4096, 128]⟩
abbrev S128x32 : Shape := ⟨2, ![128, 32]⟩
abbrev S4096x2 : Shape := ⟨2, ![4096, 2]⟩
abbrev S32x128x256 : Shape := ⟨3, ![32, 128, 256]⟩
abbrev S_ : Shape := ⟨0, ![]⟩

class Facts : Prop where
  bitsLt_bf16_f32 : FTy.bits .bf16 < FTy.bits .f32
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S4096x2 : S_.BroadcastsInDim S4096x2 (![] : Fin 0 → Fin S4096x2.rank)
  reducesTo_S4096x2_S_d0_1 : S4096x2.ReducesTo [0, 1] S_

variable [Facts]

def fn_part1 {F : FTy → Type} [FloatOps F] (main_v14 : IVec S_ 1) (main_v16 : IVec S4096x2 1) : IVec S_ 1 :=
  let main_c_5 : IVec S_ 1 := constantI S_ 1 1#1
  let main_v17 : IVec S_ 1 := (fun x v => Host.reduce IntOp.andi x v reducesTo_S4096x2_S_d0_1 h_S_) main_v16 main_c_5
  let main_v18 : IVec S_ 1 := andi main_v14 main_v17
  main_v18

def fn {F : FTy → Type} [FloatOps F] (main_arg0 : FVec F S4096x128 .bf16) (main_arg1 : FVec F S128x32 .bf16) (main_arg2 : IVec S4096x2 32) (main_arg3 : FVec F S32x128x256 .bf16) : IVec S_ 1 :=
  let main_v0 : FVec F S4096x128 .f32 := (extf .f32 · bitsLt_bf16_f32) main_arg0
  let main_v1 : FVec F S4096x128 .f32 := Host.absf main_v0
  let main_cst : FVec F S_ .f32 := constant S_ .f32 0x7F800000#32
  let main_v2 : FVec F S4096x128 .f32 := broadcastInDim S4096x128 ![] bcast_S_S4096x128 main_cst
  let main_v3 : IVec S4096x128 1 := cmpf .olt main_v1 main_v2
  let main_c : IVec S_ 1 := constantI S_ 1 1#1
  let main_v4 : IVec S_ 1 := (fun x v => Host.reduce IntOp.andi x v reducesTo_S4096x128_S_d0_1 h_S_) main_v3 main_c
  let main_v5 : FVec F S128x32 .f32 := (extf .f32 · bitsLt_bf16_f32) main_arg1
  let main_v6 : FVec F S128x32 .f32 := Host.absf main_v5
  let main_cst_0 : FVec F S_ .f32 := constant S_ .f32 0x7F800000#32
  let main_v7 : FVec F S128x32 .f32 := broadcastInDim S128x32 ![] bcast_S_S128x32 main_cst_0
  let main_v8 : IVec S128x32 1 := cmpf .olt main_v6 main_v7
  let main_c_1 : IVec S_ 1 := constantI S_ 1 1#1
  let main_v9 : IVec S_ 1 := (fun x v => Host.reduce IntOp.andi x v reducesTo_S128x32_S_d0_1 h_S_) main_v8 main_c_1
  let main_v10 : IVec S_ 1 := andi main_v4 main_v9
  let main_c_2 : IVec S_ 32 := constantI S_ 32 0#32
  let main_v11 : IVec S4096x2 32 := broadcastInDim S4096x2 ![] bcast_S_S4096x2 main_c_2
  let main_v12 : IVec S4096x2 1 := cmpi .sge main_arg2 main_v11
  let main_c_3 : IVec S_ 1 := constantI S_ 1 1#1
  let main_v13 : IVec S_ 1 := (fun x v => Host.reduce IntOp.andi x v reducesTo_S4096x2_S_d0_1 h_S_) main_v12 main_c_3
  let main_v14 : IVec S_ 1 := andi main_v10 main_v13
  let main_c_4 : IVec S_ 32 := constantI S_ 32 32#32
  let main_v15 : IVec S4096x2 32 := broadcastInDim S4096x2 ![] bcast_S_S4096x2 main_c_4
  let main_v16 : IVec S4096x2 1 := cmpi .slt main_arg2 main_v15
  fn_part1 (F := F) main_v14 main_v16
-- ==== Kernel.lean ====
abbrev S256x128 : Shape := ⟨2, ![256, 128]⟩
abbrev S128x32 : Shape := ⟨2, ![128, 32]⟩
abbrev S256x2 : Shape := ⟨2, ![256, 2]⟩
abbrev S2x128x256 : Shape := ⟨3, ![2, 128, 256]⟩
abbrev S256x256 : Shape := ⟨2, ![256, 256]⟩
abbrev S4x4x2x128x256 : Shape := ⟨5, ![4, 4, 2, 128, 256]⟩
abbrev S4x4x2 : Shape := ⟨3, ![4, 4, 2]⟩
abbrev S3 : Shape := ⟨1, ![3]⟩
abbrev S4x4 : Shape := ⟨2, ![4, 4]⟩
abbrev S2 : Shape := ⟨1, ![2]⟩
abbrev S2x1x1 : Shape := ⟨3, ![2, 1, 1]⟩
abbrev S1x1x2x128x256 : Shape := ⟨5, ![1, 1, 2, 128, 256]⟩
abbrev S1x1x2 : Shape := ⟨3, ![1, 1, 2]⟩
abbrev S_ : Shape := ⟨0, ![]⟩
abbrev S1 : Shape := ⟨1, ![1]⟩
abbrev S1x1 : Shape := ⟨2, ![1, 1]⟩
abbrev S256x32 : Shape := ⟨2, ![256, 32]⟩
abbrev S256 : Shape := ⟨1, ![256]⟩
abbrev S256x1 : Shape := ⟨2, ![256, 1]⟩
abbrev S256x32x1 : Shape := ⟨3, ![256, 32, 1]⟩
abbrev S256x1x128 : Shape := ⟨3, ![256, 1, 128]⟩
abbrev S256x32x128 : Shape := ⟨3, ![256, 32, 128]⟩
abbrev S1x8x1 : Shape := ⟨3, ![1, 8, 1]⟩
abbrev S1x1x1 : Shape := ⟨3, ![1, 1, 1]⟩
abbrev S256x8x128 : Shape := ⟨3, ![256, 8, 128]⟩
abbrev S256x1024 : Shape := ⟨2, ![256, 1024]⟩
abbrev S1x4x2x128x256 : Shape := ⟨5, ![1, 4, 2, 128, 256]⟩
abbrev S4x2x128x256 : Shape := ⟨4, ![4, 2, 128, 256]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .bf16⟩
  | .hbm, ⟨1, _⟩ => ⟨S128x32, .bf16⟩
  | .hbm, ⟨2, _⟩ => ⟨S256x2, .i32⟩
  | .hbm, ⟨3, _⟩ => ⟨S2x128x256, .bf16⟩
  | .hbm, ⟨4, _⟩ => ⟨S256x256, .f32⟩
  | .local _ .vmem, ⟨0, _⟩ => ⟨S256x128, .bf16⟩
  | .local _ .vmem, ⟨1, _⟩ => ⟨S128x32, .bf16⟩
  | .local _ .vmem, ⟨2, _⟩ => ⟨S256x2, .i32⟩
  | .local _ .vmem, ⟨3, _⟩ => ⟨S2x128x256, .bf16⟩
  | .local _ .vmem, ⟨4, _⟩ => ⟨S256x256, .f32⟩
  | .local _ .vmem, ⟨5, _⟩ => ⟨S4x4x2x128x256, .i8⟩
  | .local _ .vmem, ⟨6, _⟩ => ⟨S4x4x2, .f32⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 93 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | _ => false

abbrev sig : RefSig :=
  (ofTc nBuf bufTy 1 93 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_20 : BitVec 32 := 4#32
  let v47 : BitVec 32 := Scalar.muli v19 c4_i32_20
  let c4_i32_5 : BitVec 32 := 4#32
  let v20 : BitVec 32 := Scalar.remsi v2 c4_i32_5
  let c1_i32_21 : BitVec 32 := 1#32
  let v48 : BitVec 32 := Scalar.addi v20 c1_i32_21
  let c4_i32_22 : BitVec 32 := 4#32
  let v49 : BitVec 32 := Scalar.remsi v48 c4_i32_22
  let v50 : BitVec 32 := Scalar.addi v47 v49
  let c1_i32_24 : BitVec 32 := 1#32
  let v51 : BitVec 32 := Scalar.muli v50 c1_i32_24
  let v52 : BitVec 32 := Scalar.addi c0_i32_25 v51
  v52.toNat
def k0_dev2 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_26 : BitVec 32 := 4#32
  let v53 : BitVec 32 := Scalar.muli v19 c4_i32_26
  let c4_i32_5 : BitVec 32 := 4#32
  let v20 : BitVec 32 := Scalar.remsi v2 c4_i32_5
  let c2_i32 : BitVec 32 := 2#32
  let v54 : BitVec 32 := Scalar.addi v20 c2_i32
  let c4_i32_27 : BitVec 32 := 4#32
  let v55 : BitVec 32 := Scalar.remsi v54 c4_i32_27
  let v56 : BitVec 32 := Scalar.addi v53 v55
  let c1_i32_29 : BitVec 32 := 1#32
  let v57 : BitVec 32 := Scalar.muli v56 c1_i32_29
  let v58 : BitVec 32 := Scalar.addi c0_i32_30 v57
  v58.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_31 : BitVec 32 := 4#32
  let v59 : BitVec 32 := Scalar.muli v19 c4_i32_31
  let c4_i32_5 : BitVec 32 := 4#32
  let v20 : BitVec 32 := Scalar.remsi v2 c4_i32_5
  let c3_i32 : BitVec 32 := 3#32
  let v60 : BitVec 32 := Scalar.addi v20 c3_i32
  let c4_i32_32 : BitVec 32 := 4#32
  let v61 : BitVec 32 := Scalar.remsi v60 c4_i32_32
  let v62 : BitVec 32 := Scalar.addi v59 v61
  let c1_i32_34 : BitVec 32 := 1#32
  let v63 : BitVec 32 := Scalar.muli v62 c1_i32_34
  let v64 : BitVec 32 := Scalar.addi c0_i32_35 v63
  v64.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_36 : BitVec 32 := 3#32
  let v65 : BitVec 1 := Scalar.cmpi .slt v19 c3_i32_36
  let v66 : BitVec 32 := Scalar.extui v65
  let c0_i32_37 : BitVec 32 := 0#32
  let v67 : BitVec 1 := Scalar.cmpi .ne v66 c0_i32_37
  v67

def k0_dev4 (d0 : Dev nD) : Nat :=
  let c0_i32_880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_877 : BitVec 32 := 4#32
  let v982 : BitVec 32 := Scalar.addi v2 c4_i32_877
  let c1_i32_879 : BitVec 32 := 1#32
  let v983 : BitVec 32 := Scalar.muli v982 c1_i32_879
  let v984 : BitVec 32 := Scalar.addi c0_i32_880 v983
  v984.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_38 : BitVec 32 := 0#32
  let v68 : BitVec 1 := Scalar.cmpi .sgt v19 c0_i32_38
  let v69 : BitVec 32 := Scalar.extui v68
  let c0_i32_39 : BitVec 32 := 0#32
  let v70 : BitVec 1 := Scalar.cmpi .ne v69 c0_i32_39
  v70

def k0_dev5 (d0 : Dev nD) : Nat :=
  let c0_i32_880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_877 : BitVec 32 := 4#32
  let v982 : BitVec 32 := Scalar.subi v2 c4_i32_877
  let c1_i32_879 : BitVec 32 := 1#32
  let v983 : BitVec 32 := Scalar.muli v982 c1_i32_879
  let v984 : BitVec 32 := Scalar.addi c0_i32_880 v983
  v984.toNat
def k0_amt1 (d0 : Dev nD) : BitVec 32 :=
  let c3_i32_41 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_40 : BitVec 32 := 3#32
  let v71 : BitVec 1 := Scalar.cmpi .slt v19 c3_i32_40
  let v72 : BitVec 32 := Scalar.extui v71
  let v73 : BitVec 32 := Scalar.addi c3_i32_41 v72
  let c0_i32_42 : BitVec 32 := 0#32
  let v74 : BitVec 1 := Scalar.cmpi .sgt v19 c0_i32_42
  let v75 : BitVec 32 := Scalar.extui v74
  let v76 : BitVec 32 := Scalar.addi v73 v75
  v76

def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_43 : BitVec 32 := 3#32
  let v77 : BitVec 1 := Scalar.cmpi .slt v19 c3_i32_43
  let v78 : BitVec 32 := Scalar.extui v77
  let c0_i32_44 : BitVec 32 := 0#32
  let v79 : BitVec 1 := Scalar.cmpi .ne v78 c0_i32_44
  v79

def k0_dev6 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_877 : BitVec 32 := 4#32
  let v982 : BitVec 32 := Scalar.addi v2 c4_i32_877
  let c1_i32_884 : BitVec 32 := 1#32
  let v983 : BitVec 32 := Scalar.muli v982 c1_i32_884
  let v984 : BitVec 32 := Scalar.addi c0_i32_885 v983
  v984.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_45 : BitVec 32 := 3#32
  let v80 : BitVec 1 := Scalar.cmpi .slt v19 c3_i32_45
  let v81 : BitVec 32 := Scalar.extui v80
  let c0_i32_46 : BitVec 32 := 0#32
  let v82 : BitVec 1 := Scalar.cmpi .ne v81 c0_i32_46
  v82

def k0_dev7 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_877 : BitVec 32 := 4#32
  let v982 : BitVec 32 := Scalar.addi v2 c4_i32_877
  let c1_i32_884 : BitVec 32 := 1#32
  let v983 : BitVec 32 := Scalar.muli v982 c1_i32_884
  let v984 : BitVec 32 := Scalar.addi c0_i32_885 v983
  v984.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_47 : BitVec 32 := 0#32
  let v83 : BitVec 1 := Scalar.cmpi .sgt v19 c0_i32_47
  let v84 : BitVec 32 := Scalar.extui v83
  let c0_i32_48 : BitVec 32 := 0#32
  let v85 : BitVec 1 := Scalar.cmpi .ne v84 c0_i32_48
  v85

def k0_dev8 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_877 : BitVec 32 := 4#32
  let v982 : BitVec 32 := Scalar.subi v2 c4_i32_877
  let c1_i32_884 : BitVec 32 := 1#32
  let v983 : BitVec 32 := Scalar.muli v982 c1_i32_884
  let v984 : BitVec 32 := Scalar.addi c0_i32_885 v983
  v984.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_49 : BitVec 32 := 0#32
  let v86 : BitVec 1 := Scalar.cmpi .sgt v19 c0_i32_49
  let v87 : BitVec 32 := Scalar.extui v86
  let c0_i32_50 : BitVec 32 := 0#32
  let v88 : BitVec 1 := Scalar.cmpi .ne v87 c0_i32_50
  v88

def k0_dev9 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_877 : BitVec 32 := 4#32
  let v982 : BitVec 32 := Scalar.subi v2 c4_i32_877
  let c1_i32_884 : BitVec 32 := 1#32
  let v983 : BitVec 32 := Scalar.muli v982 c1_i32_884
  let v984 : BitVec 32 := Scalar.addi c0_i32_885 v983
  v984.toNat
def k0_dev10 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_51 : BitVec 32 := 4#32
  let v89 : BitVec 32 := Scalar.muli v19 c4_i32_51
  let c4_i32_5 : BitVec 32 := 4#32
  let v20 : BitVec 32 := Scalar.remsi v2 c4_i32_5
  let c1_i32_52 : BitVec 32 := 1#32
  let v90 : BitVec 32 := Scalar.addi v20 c1_i32_52
  let c4_i32_53 : BitVec 32 := 4#32
  let v91 : BitVec 32 := Scalar.remsi v90 c4_i32_53
  let v92 : BitVec 32 := Scalar.addi v89 v91
  let c1_i32_62 : BitVec 32 := 1#32
  let v93 : BitVec 32 := Scalar.muli v92 c1_i32_62
  let v94 : BitVec 32 := Scalar.addi c0_i32_63 v93
  v94.toNat
def k0_dev11 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_70 : BitVec 32 := 4#32
  let v103 : BitVec 32 := Scalar.muli v19 c4_i32_70
  let c4_i32_5 : BitVec 32 := 4#32
  let v20 : BitVec 32 := Scalar.remsi v2 c4_i32_5
  let c1_i32_71 : BitVec 32 := 1#32
  let v104 : BitVec 32 := Scalar.addi v20 c1_i32_71
  let c4_i32_72 : BitVec 32 := 4#32
  let v105 : BitVec 32 := Scalar.remsi v104 c4_i32_72
  let v106 : BitVec 32 := Scalar.addi v103 v105
  let c1_i32_81 : BitVec 32 := 1#32
  let v107 : BitVec 32 := Scalar.muli v106 c1_i32_81
  let v108 : BitVec 32 := Scalar.addi c0_i32_82 v107
  v108.toNat
def k0_dev12 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_85 : BitVec 32 := 4#32
  let v117 : BitVec 32 := Scalar.muli v19 c4_i32_85
  let c4_i32_5 : BitVec 32 := 4#32
  let v20 : BitVec 32 := Scalar.remsi v2 c4_i32_5
  let c2_i32_86 : BitVec 32 := 2#32
  let v118 : BitVec 32 := Scalar.addi v20 c2_i32_86
  let c4_i32_87 : BitVec 32 := 4#32
  let v119 : BitVec 32 := Scalar.remsi v118 c4_i32_87
  let v120 : BitVec 32 := Scalar.addi v117 v119
  let c1_i32_96 : BitVec 32 := 1#32
  let v121 : BitVec 32 := Scalar.muli v120 c1_i32_96
  let v122 : BitVec 32 := Scalar.addi c0_i32_97 v121
  v122.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_104 : BitVec 32 := 4#32
  let v131 : BitVec 32 := Scalar.muli v19 c4_i32_104
  let c4_i32_5 : BitVec 32 := 4#32
  let v20 : BitVec 32 := Scalar.remsi v2 c4_i32_5
  let c2_i32_105 : BitVec 32 := 2#32
  let v132 : BitVec 32 := Scalar.addi v20 c2_i32_105
  let c4_i32_106 : BitVec 32 := 4#32
  let v133 : BitVec 32 := Scalar.remsi v132 c4_i32_106
  let v134 : BitVec 32 := Scalar.addi v131 v133
  let c1_i32_115 : BitVec 32 := 1#32
  let v135 : BitVec 32 := Scalar.muli v134 c1_i32_115
  let v136 : BitVec 32 := Scalar.addi c0_i32_116 v135
  v136.toNat
def k0_dev14 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_119 : BitVec 32 := 4#32
  let v145 : BitVec 32 := Scalar.muli v19 c4_i32_119
  let c4_i32_5 : BitVec 32 := 4#32
  let v20 : BitVec 32 := Scalar.remsi v2 c4_i32_5
  let c3_i32_120 : BitVec 32 := 3#32
  let v146 : BitVec 32 := Scalar.addi v20 c3_i32_120
  let c4_i32_121 : BitVec 32 := 4#32
  let v147 : BitVec 32 := Scalar.remsi v146 c4_i32_121
  let v148 : BitVec 32 := Scalar.addi v145 v147
  let c1_i32_130 : BitVec 32 := 1#32
  let v149 : BitVec 32 := Scalar.muli v148 c1_i32_130
  let v150 : BitVec 32 := Scalar.addi c0_i32_131 v149
  v150.toNat
def k0_dev15 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_138 : BitVec 32 := 4#32
  let v159 : BitVec 32 := Scalar.muli v19 c4_i32_138
  let c4_i32_5 : BitVec 32 := 4#32
  let v20 : BitVec 32 := Scalar.remsi v2 c4_i32_5
  let c3_i32_139 : BitVec 32 := 3#32
  let v160 : BitVec 32 := Scalar.addi v20 c3_i32_139
  let c4_i32_140 : BitVec 32 := 4#32
  let v161 : BitVec 32 := Scalar.remsi v160 c4_i32_140
  let v162 : BitVec 32 := Scalar.addi v159 v161
  let c1_i32_149 : BitVec 32 := 1#32
  let v163 : BitVec 32 := Scalar.muli v162 c1_i32_149
  let v164 : BitVec 32 := Scalar.addi c0_i32_150 v163
  v164.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_153 : BitVec 32 := 1#32
  let v173 : BitVec 1 := Scalar.cmpi .sge v19 c1_i32_153
  let c3_i32_157 : BitVec 32 := 3#32
  let v179 : BitVec 1 := Scalar.cmpi .slt v19 c3_i32_157
  let v180 : BitVec 1 := Scalar.andi v173 v179
  let v181 : BitVec 32 := Scalar.extui v180
  let c0_i32_158 : BitVec 32 := 0#32
  let v182 : BitVec 1 := Scalar.cmpi .ne v181 c0_i32_158
  v182

def k0_dev16 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_877 : BitVec 32 := 4#32
  let v982 : BitVec 32 := Scalar.addi v2 c4_i32_877
  let c1_i32_884 : BitVec 32 := 1#32
  let v983 : BitVec 32 := Scalar.muli v982 c1_i32_884
  let v984 : BitVec 32 := Scalar.addi c0_i32_885 v983
  v984.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_153 : BitVec 32 := 1#32
  let v173 : BitVec 1 := Scalar.cmpi .sge v19 c1_i32_153
  let c3_i32_159 : BitVec 32 := 3#32
  let v183 : BitVec 1 := Scalar.cmpi .slt v19 c3_i32_159
  let v184 : BitVec 1 := Scalar.andi v173 v183
  let v185 : BitVec 32 := Scalar.extui v184
  let c0_i32_160 : BitVec 32 := 0#32
  let v186 : BitVec 1 := Scalar.cmpi .ne v185 c0_i32_160
  v186

def k0_dev17 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_877 : BitVec 32 := 4#32
  let v982 : BitVec 32 := Scalar.addi v2 c4_i32_877
  let c1_i32_884 : BitVec 32 := 1#32
  let v983 : BitVec 32 := Scalar.muli v982 c1_i32_884
  let v984 : BitVec 32 := Scalar.addi c0_i32_885 v983
  v984.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_153 : BitVec 32 := 1#32
  let v173 : BitVec 1 := Scalar.cmpi .sge v19 c1_i32_153
  let v187 : BitVec 32 := Scalar.extui v173
  let c0_i32_161 : BitVec 32 := 0#32
  let v188 : BitVec 1 := Scalar.cmpi .ne v187 c0_i32_161
  v188

def k0_dev18 (d0 : Dev nD) : Nat :=
  let c0_i32_889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_877 : BitVec 32 := 4#32
  let v982 : BitVec 32 := Scalar.muli v19 c4_i32_877
  let c4_i32_5 : BitVec 32 := 4#32
  let v20 : BitVec 32 := Scalar.remsi v2 c4_i32_5
  let c1_i32_878 : BitVec 32 := 1#32
  let v983 : BitVec 32 := Scalar.addi v20 c1_i32_878
  let c4_i32_879 : BitVec 32 := 4#32
  let v984 : BitVec 32 := Scalar.remsi v983 c4_i32_879
  let v985 : BitVec 32 := Scalar.addi v982 v984
  let c1_i32_888 : BitVec 32 := 1#32
  let v986 : BitVec 32 := Scalar.muli v985 c1_i32_888
  let v987 : BitVec 32 := Scalar.addi c0_i32_889 v986
  v987.toNat
def k0_dev19 (d0 : Dev nD) : Nat :=
  let c0_i32_908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_896 : BitVec 32 := 4#32
  let v996 : BitVec 32 := Scalar.muli v19 c4_i32_896
  let c4_i32_5 : BitVec 32 := 4#32
  let v20 : BitVec 32 := Scalar.remsi v2 c4_i32_5
  let c1_i32_897 : BitVec 32 := 1#32
  let v997 : BitVec 32 := Scalar.addi v20 c1_i32_897
  let c4_i32_898 : BitVec 32 := 4#32
  let v998 : BitVec 32 := Scalar.remsi v997 c4_i32_898
  let v999 : BitVec 32 := Scalar.addi v996 v998
  let c1_i32_907 : BitVec 32 := 1#32
  let v1000 : BitVec 32 := Scalar.muli v999 c1_i32_907
  let v1001 : BitVec 32 := Scalar.addi c0_i32_908 v1000
  v1001.toNat
def k0_dev20 (d0 : Dev nD) : Nat :=
  let c0_i32_923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_911 : BitVec 32 := 4#32
  let v1010 : BitVec 32 := Scalar.muli v19 c4_i32_911
  let c4_i32_5 : BitVec 32 := 4#32
  let v20 : BitVec 32 := Scalar.remsi v2 c4_i32_5
  let c2_i32_912 : BitVec 32 := 2#32
  let v1011 : BitVec 32 := Scalar.addi v20 c2_i32_912
  let c4_i32_913 : BitVec 32 := 4#32
  let v1012 : BitVec 32 := Scalar.remsi v1011 c4_i32_913
  let v1013 : BitVec 32 := Scalar.addi v1010 v1012
  let c1_i32_922 : BitVec 32 := 1#32
  let v1014 : BitVec 32 := Scalar.muli v1013 c1_i32_922
  let v1015 : BitVec 32 := Scalar.addi c0_i32_923 v1014
  v1015.toNat
def k0_dev21 (d0 : Dev nD) : Nat :=
  let c0_i32_942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_930 : BitVec 32 := 4#32
  let v1024 : BitVec 32 := Scalar.muli v19 c4_i32_930
  let c4_i32_5 : BitVec 32 := 4#32
  let v20 : BitVec 32 := Scalar.remsi v2 c4_i32_5
  let c2_i32_931 : BitVec 32 := 2#32
  let v1025 : BitVec 32 := Scalar.addi v20 c2_i32_931
  let c4_i32_932 : BitVec 32 := 4#32
  let v1026 : BitVec 32 := Scalar.remsi v1025 c4_i32_932
  let v1027 : BitVec 32 := Scalar.addi v1024 v1026
  let c1_i32_941 : BitVec 32 := 1#32
  let v1028 : BitVec 32 := Scalar.muli v1027 c1_i32_941
  let v1029 : BitVec 32 := Scalar.addi c0_i32_942 v1028
  v1029.toNat
def k0_dev22 (d0 : Dev nD) : Nat :=
  let c0_i32_957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_945 : BitVec 32 := 4#32
  let v1038 : BitVec 32 := Scalar.muli v19 c4_i32_945
  let c4_i32_5 : BitVec 32 := 4#32
  let v20 : BitVec 32 := Scalar.remsi v2 c4_i32_5
  let c3_i32_946 : BitVec 32 := 3#32
  let v1039 : BitVec 32 := Scalar.addi v20 c3_i32_946
  let c4_i32_947 : BitVec 32 := 4#32
  let v1040 : BitVec 32 := Scalar.remsi v1039 c4_i32_947
  let v1041 : BitVec 32 := Scalar.addi v1038 v1040
  let c1_i32_956 : BitVec 32 := 1#32
  let v1042 : BitVec 32 := Scalar.muli v1041 c1_i32_956
  let v1043 : BitVec 32 := Scalar.addi c0_i32_957 v1042
  v1043.toNat
def k0_dev23 (d0 : Dev nD) : Nat :=
  let c0_i32_976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_964 : BitVec 32 := 4#32
  let v1052 : BitVec 32 := Scalar.muli v19 c4_i32_964
  let c4_i32_5 : BitVec 32 := 4#32
  let v20 : BitVec 32 := Scalar.remsi v2 c4_i32_5
  let c3_i32_965 : BitVec 32 := 3#32
  let v1053 : BitVec 32 := Scalar.addi v20 c3_i32_965
  let c4_i32_966 : BitVec 32 := 4#32
  let v1054 : BitVec 32 := Scalar.remsi v1053 c4_i32_966
  let v1055 : BitVec 32 := Scalar.addi v1052 v1054
  let c1_i32_975 : BitVec 32 := 1#32
  let v1056 : BitVec 32 := Scalar.muli v1055 c1_i32_975
  let v1057 : BitVec 32 := Scalar.addi c0_i32_976 v1056
  v1057.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_154 : BitVec 32 := 2#32
  let v174 : BitVec 1 := Scalar.cmpi .sle v19 c2_i32_154
  let c0_i32_164 : BitVec 32 := 0#32
  let v193 : BitVec 1 := Scalar.cmpi .sgt v19 c0_i32_164
  let v194 : BitVec 1 := Scalar.andi v174 v193
  let v195 : BitVec 32 := Scalar.extui v194
  let c0_i32_165 : BitVec 32 := 0#32
  let v196 : BitVec 1 := Scalar.cmpi .ne v195 c0_i32_165
  v196

def k0_dev24 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_877 : BitVec 32 := 4#32
  let v982 : BitVec 32 := Scalar.subi v2 c4_i32_877
  let c1_i32_884 : BitVec 32 := 1#32
  let v983 : BitVec 32 := Scalar.muli v982 c1_i32_884
  let v984 : BitVec 32 := Scalar.addi c0_i32_885 v983
  v984.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_154 : BitVec 32 := 2#32
  let v174 : BitVec 1 := Scalar.cmpi .sle v19 c2_i32_154
  let c0_i32_166 : BitVec 32 := 0#32
  let v197 : BitVec 1 := Scalar.cmpi .sgt v19 c0_i32_166
  let v198 : BitVec 1 := Scalar.andi v174 v197
  let v199 : BitVec 32 := Scalar.extui v198
  let c0_i32_167 : BitVec 32 := 0#32
  let v200 : BitVec 1 := Scalar.cmpi .ne v199 c0_i32_167
  v200

def k0_dev25 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_877 : BitVec 32 := 4#32
  let v982 : BitVec 32 := Scalar.subi v2 c4_i32_877
  let c1_i32_884 : BitVec 32 := 1#32
  let v983 : BitVec 32 := Scalar.muli v982 c1_i32_884
  let v984 : BitVec 32 := Scalar.addi c0_i32_885 v983
  v984.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_154 : BitVec 32 := 2#32
  let v174 : BitVec 1 := Scalar.cmpi .sle v19 c2_i32_154
  let v201 : BitVec 32 := Scalar.extui v174
  let c0_i32_168 : BitVec 32 := 0#32
  let v202 : BitVec 1 := Scalar.cmpi .ne v201 c0_i32_168
  v202

def k0_dev26 (d0 : Dev nD) : Nat :=
  let c0_i32_889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_877 : BitVec 32 := 4#32
  let v982 : BitVec 32 := Scalar.muli v19 c4_i32_877
  let c4_i32_5 : BitVec 32 := 4#32
  let v20 : BitVec 32 := Scalar.remsi v2 c4_i32_5
  let c1_i32_878 : BitVec 32 := 1#32
  let v983 : BitVec 32 := Scalar.addi v20 c1_i32_878
  let c4_i32_879 : BitVec 32 := 4#32
  let v984 : BitVec 32 := Scalar.remsi v983 c4_i32_879
  let v985 : BitVec 32 := Scalar.addi v982 v984
  let c1_i32_888 : BitVec 32 := 1#32
  let v986 : BitVec 32 := Scalar.muli v985 c1_i32_888
  let v987 : BitVec 32 := Scalar.addi c0_i32_889 v986
  v987.toNat
def k0_dev27 (d0 : Dev nD) : Nat :=
  let c0_i32_908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_896 : BitVec 32 := 4#32
  let v996 : BitVec 32 := Scalar.muli v19 c4_i32_896
  let c4_i32_5 : BitVec 32 := 4#32
  let v20 : BitVec 32 := Scalar.remsi v2 c4_i32_5
  let c1_i32_897 : BitVec 32 := 1#32
  let v997 : BitVec 32 := Scalar.addi v20 c1_i32_897
  let c4_i32_898 : BitVec 32 := 4#32
  let v998 : BitVec 32 := Scalar.remsi v997 c4_i32_898
  let v999 : BitVec 32 := Scalar.addi v996 v998
  let c1_i32_907 : BitVec 32 := 1#32
  let v1000 : BitVec 32 := Scalar.muli v999 c1_i32_907
  let v1001 : BitVec 32 := Scalar.addi c0_i32_908 v1000
  v1001.toNat
def k0_dev28 (d0 : Dev nD) : Nat :=
  let c0_i32_923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_911 : BitVec 32 := 4#32
  let v1010 : BitVec 32 := Scalar.muli v19 c4_i32_911
  let c4_i32_5 : BitVec 32 := 4#32
  let v20 : BitVec 32 := Scalar.remsi v2 c4_i32_5
  let c2_i32_912 : BitVec 32 := 2#32
  let v1011 : BitVec 32 := Scalar.addi v20 c2_i32_912
  let c4_i32_913 : BitVec 32 := 4#32
  let v1012 : BitVec 32 := Scalar.remsi v1011 c4_i32_913
  let v1013 : BitVec 32 := Scalar.addi v1010 v1012
  let c1_i32_922 : BitVec 32 := 1#32
  let v1014 : BitVec 32 := Scalar.muli v1013 c1_i32_922
  let v1015 : BitVec 32 := Scalar.addi c0_i32_923 v1014
  v1015.toNat
def k0_dev29 (d0 : Dev nD) : Nat :=
  let c0_i32_942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_930 : BitVec 32 := 4#32
  let v1024 : BitVec 32 := Scalar.muli v19 c4_i32_930
  let c4_i32_5 : BitVec 32 := 4#32
  let v20 : BitVec 32 := Scalar.remsi v2 c4_i32_5
  let c2_i32_931 : BitVec 32 := 2#32
  let v1025 : BitVec 32 := Scalar.addi v20 c2_i32_931
  let c4_i32_932 : BitVec 32 := 4#32
  let v1026 : BitVec 32 := Scalar.remsi v1025 c4_i32_932
  let v1027 : BitVec 32 := Scalar.addi v1024 v1026
  let c1_i32_941 : BitVec 32 := 1#32
  let v1028 : BitVec 32 := Scalar.muli v1027 c1_i32_941
  let v1029 : BitVec 32 := Scalar.addi c0_i32_942 v1028
  v1029.toNat
def k0_dev30 (d0 : Dev nD) : Nat :=
  let c0_i32_957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_945 : BitVec 32 := 4#32
  let v1038 : BitVec 32 := Scalar.muli v19 c4_i32_945
  let c4_i32_5 : BitVec 32 := 4#32
  let v20 : BitVec 32 := Scalar.remsi v2 c4_i32_5
  let c3_i32_946 : BitVec 32 := 3#32
  let v1039 : BitVec 32 := Scalar.addi v20 c3_i32_946
  let c4_i32_947 : BitVec 32 := 4#32
  let v1040 : BitVec 32 := Scalar.remsi v1039 c4_i32_947
  let v1041 : BitVec 32 := Scalar.addi v1038 v1040
  let c1_i32_956 : BitVec 32 := 1#32
  let v1042 : BitVec 32 := Scalar.muli v1041 c1_i32_956
  let v1043 : BitVec 32 := Scalar.addi c0_i32_957 v1042
  v1043.toNat
def k0_dev31 (d0 : Dev nD) : Nat :=
  let c0_i32_976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_964 : BitVec 32 := 4#32
  let v1052 : BitVec 32 := Scalar.muli v19 c4_i32_964
  let c4_i32_5 : BitVec 32 := 4#32
  let v20 : BitVec 32 := Scalar.remsi v2 c4_i32_5
  let c3_i32_965 : BitVec 32 := 3#32
  let v1053 : BitVec 32 := Scalar.addi v20 c3_i32_965
  let c4_i32_966 : BitVec 32 := 4#32
  let v1054 : BitVec 32 := Scalar.remsi v1053 c4_i32_966
  let v1055 : BitVec 32 := Scalar.addi v1052 v1054
  let c1_i32_975 : BitVec 32 := 1#32
  let v1056 : BitVec 32 := Scalar.muli v1055 c1_i32_975
  let v1057 : BitVec 32 := Scalar.addi c0_i32_976 v1056
  v1057.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_169 : BitVec 32 := 2#32
  let v203 : BitVec 1 := Scalar.cmpi .sge v19 c2_i32_169
  let c3_i32_173 : BitVec 32 := 3#32
  let v209 : BitVec 1 := Scalar.cmpi .slt v19 c3_i32_173
  let v210 : BitVec 1 := Scalar.andi v203 v209
  let v211 : BitVec 32 := Scalar.extui v210
  let c0_i32_174 : BitVec 32 := 0#32
  let v212 : BitVec 1 := Scalar.cmpi .ne v211 c0_i32_174
  v212

def k0_dev32 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_877 : BitVec 32 := 4#32
  let v982 : BitVec 32 := Scalar.addi v2 c4_i32_877
  let c1_i32_884 : BitVec 32 := 1#32
  let v983 : BitVec 32 := Scalar.muli v982 c1_i32_884
  let v984 : BitVec 32 := Scalar.addi c0_i32_885 v983
  v984.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_169 : BitVec 32 := 2#32
  let v203 : BitVec 1 := Scalar.cmpi .sge v19 c2_i32_169
  let c3_i32_175 : BitVec 32 := 3#32
  let v213 : BitVec 1 := Scalar.cmpi .slt v19 c3_i32_175
  let v214 : BitVec 1 := Scalar.andi v203 v213
  let v215 : BitVec 32 := Scalar.extui v214
  let c0_i32_176 : BitVec 32 := 0#32
  let v216 : BitVec 1 := Scalar.cmpi .ne v215 c0_i32_176
  v216

def k0_dev33 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_877 : BitVec 32 := 4#32
  let v982 : BitVec 32 := Scalar.addi v2 c4_i32_877
  let c1_i32_884 : BitVec 32 := 1#32
  let v983 : BitVec 32 := Scalar.muli v982 c1_i32_884
  let v984 : BitVec 32 := Scalar.addi c0_i32_885 v983
  v984.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_169 : BitVec 32 := 2#32
  let v203 : BitVec 1 := Scalar.cmpi .sge v19 c2_i32_169
  let v217 : BitVec 32 := Scalar.extui v203
  let c0_i32_177 : BitVec 32 := 0#32
  let v218 : BitVec 1 := Scalar.cmpi .ne v217 c0_i32_177
  v218

def k0_dev34 (d0 : Dev nD) : Nat :=
  let c0_i32_889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_877 : BitVec 32 := 4#32
  let v982 : BitVec 32 := Scalar.muli v19 c4_i32_877
  let c4_i32_5 : BitVec 32 := 4#32
  let v20 : BitVec 32 := Scalar.remsi v2 c4_i32_5
  let c1_i32_878 : BitVec 32 := 1#32
  let v983 : BitVec 32 := Scalar.addi v20 c1_i32_878
  let c4_i32_879 : BitVec 32 := 4#32
  let v984 : BitVec 32 := Scalar.remsi v983 c4_i32_879
  let v985 : BitVec 32 := Scalar.addi v982 v984
  let c1_i32_888 : BitVec 32 := 1#32
  let v986 : BitVec 32 := Scalar.muli v985 c1_i32_888
  let v987 : BitVec 32 := Scalar.addi c0_i32_889 v986
  v987.toNat
def k0_dev35 (d0 : Dev nD) : Nat :=
  let c0_i32_908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_896 : BitVec 32 := 4#32
  let v996 : BitVec 32 := Scalar.muli v19 c4_i32_896
  let c4_i32_5 : BitVec 32 := 4#32
  let v20 : BitVec 32 := Scalar.remsi v2 c4_i32_5
  let c1_i32_897 : BitVec 32 := 1#32
  let v997 : BitVec 32 := Scalar.addi v20 c1_i32_897
  let c4_i32_898 : BitVec 32 := 4#32
  let v998 : BitVec 32 := Scalar.remsi v997 c4_i32_898
  let v999 : BitVec 32 := Scalar.addi v996 v998
  let c1_i32_907 : BitVec 32 := 1#32
  let v1000 : BitVec 32 := Scalar.muli v999 c1_i32_907
  let v1001 : BitVec 32 := Scalar.addi c0_i32_908 v1000
  v1001.toNat
def k0_dev36 (d0 : Dev nD) : Nat :=
  let c0_i32_923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_911 : BitVec 32 := 4#32
  let v1010 : BitVec 32 := Scalar.muli v19 c4_i32_911
  let c4_i32_5 : BitVec 32 := 4#32
  let v20 : BitVec 32 := Scalar.remsi v2 c4_i32_5
  let c2_i32_912 : BitVec 32 := 2#32
  let v1011 : BitVec 32 := Scalar.addi v20 c2_i32_912
  let c4_i32_913 : BitVec 32 := 4#32
  let v1012 : BitVec 32 := Scalar.remsi v1011 c4_i32_913
  let v1013 : BitVec 32 := Scalar.addi v1010 v1012
  let c1_i32_922 : BitVec 32 := 1#32
  let v1014 : BitVec 32 := Scalar.muli v1013 c1_i32_922
  let v1015 : BitVec 32 := Scalar.addi c0_i32_923 v1014
  v1015.toNat
def k0_dev37 (d0 : Dev nD) : Nat :=
  let c0_i32_942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_930 : BitVec 32 := 4#32
  let v1024 : BitVec 32 := Scalar.muli v19 c4_i32_930
  let c4_i32_5 : BitVec 32 := 4#32
  let v20 : BitVec 32 := Scalar.remsi v2 c4_i32_5
  let c2_i32_931 : BitVec 32 := 2#32
  let v1025 : BitVec 32 := Scalar.addi v20 c2_i32_931
  let c4_i32_932 : BitVec 32 := 4#32
  let v1026 : BitVec 32 := Scalar.remsi v1025 c4_i32_932
  let v1027 : BitVec 32 := Scalar.addi v1024 v1026
  let c1_i32_941 : BitVec 32 := 1#32
  let v1028 : BitVec 32 := Scalar.muli v1027 c1_i32_941
  let v1029 : BitVec 32 := Scalar.addi c0_i32_942 v1028
  v1029.toNat
def k0_dev38 (d0 : Dev nD) : Nat :=
  let c0_i32_957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_945 : BitVec 32 := 4#32
  let v1038 : BitVec 32 := Scalar.muli v19 c4_i32_945
  let c4_i32_5 : BitVec 32 := 4#32
  let v20 : BitVec 32 := Scalar.remsi v2 c4_i32_5
  let c3_i32_946 : BitVec 32 := 3#32
  let v1039 : BitVec 32 := Scalar.addi v20 c3_i32_946
  let c4_i32_947 : BitVec 32 := 4#32
  let v1040 : BitVec 32 := Scalar.remsi v1039 c4_i32_947
  let v1041 : BitVec 32 := Scalar.addi v1038 v1040
  let c1_i32_956 : BitVec 32 := 1#32
  let v1042 : BitVec 32 := Scalar.muli v1041 c1_i32_956
  let v1043 : BitVec 32 := Scalar.addi c0_i32_957 v1042
  v1043.toNat
def k0_dev39 (d0 : Dev nD) : Nat :=
  let c0_i32_976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_964 : BitVec 32 := 4#32
  let v1052 : BitVec 32 := Scalar.muli v19 c4_i32_964
  let c4_i32_5 : BitVec 32 := 4#32
  let v20 : BitVec 32 := Scalar.remsi v2 c4_i32_5
  let c3_i32_965 : BitVec 32 := 3#32
  let v1053 : BitVec 32 := Scalar.addi v20 c3_i32_965
  let c4_i32_966 : BitVec 32 := 4#32
  let v1054 : BitVec 32 := Scalar.remsi v1053 c4_i32_966
  let v1055 : BitVec 32 := Scalar.addi v1052 v1054
  let c1_i32_975 : BitVec 32 := 1#32
  let v1056 : BitVec 32 := Scalar.muli v1055 c1_i32_975
  let v1057 : BitVec 32 := Scalar.addi c0_i32_976 v1056
  v1057.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_170 : BitVec 32 := 1#32
  let v204 : BitVec 1 := Scalar.cmpi .sle v19 c1_i32_170
  let c0_i32_180 : BitVec 32 := 0#32
  let v223 : BitVec 1 := Scalar.cmpi .sgt v19 c0_i32_180
  let v224 : BitVec 1 := Scalar.andi v204 v223
  let v225 : BitVec 32 := Scalar.extui v224
  let c0_i32_181 : BitVec 32 := 0#32
  let v226 : BitVec 1 := Scalar.cmpi .ne v225 c0_i32_181
  v226

def k0_dev40 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_877 : BitVec 32 := 4#32
  let v982 : BitVec 32 := Scalar.subi v2 c4_i32_877
  let c1_i32_884 : BitVec 32 := 1#32
  let v983 : BitVec 32 := Scalar.muli v982 c1_i32_884
  let v984 : BitVec 32 := Scalar.addi c0_i32_885 v983
  v984.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_170 : BitVec 32 := 1#32
  let v204 : BitVec 1 := Scalar.cmpi .sle v19 c1_i32_170
  let c0_i32_182 : BitVec 32 := 0#32
  let v227 : BitVec 1 := Scalar.cmpi .sgt v19 c0_i32_182
  let v228 : BitVec 1 := Scalar.andi v204 v227
  let v229 : BitVec 32 := Scalar.extui v228
  let c0_i32_183 : BitVec 32 := 0#32
  let v230 : BitVec 1 := Scalar.cmpi .ne v229 c0_i32_183
  v230

def k0_dev41 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_877 : BitVec 32 := 4#32
  let v982 : BitVec 32 := Scalar.subi v2 c4_i32_877
  let c1_i32_884 : BitVec 32 := 1#32
  let v983 : BitVec 32 := Scalar.muli v982 c1_i32_884
  let v984 : BitVec 32 := Scalar.addi c0_i32_885 v983
  v984.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_170 : BitVec 32 := 1#32
  let v204 : BitVec 1 := Scalar.cmpi .sle v19 c1_i32_170
  let v231 : BitVec 32 := Scalar.extui v204
  let c0_i32_184 : BitVec 32 := 0#32
  let v232 : BitVec 1 := Scalar.cmpi .ne v231 c0_i32_184
  v232

def k0_dev42 (d0 : Dev nD) : Nat :=
  let c0_i32_889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_877 : BitVec 32 := 4#32
  let v982 : BitVec 32 := Scalar.muli v19 c4_i32_877
  let c4_i32_5 : BitVec 32 := 4#32
  let v20 : BitVec 32 := Scalar.remsi v2 c4_i32_5
  let c1_i32_878 : BitVec 32 := 1#32
  let v983 : BitVec 32 := Scalar.addi v20 c1_i32_878
  let c4_i32_879 : BitVec 32 := 4#32
  let v984 : BitVec 32 := Scalar.remsi v983 c4_i32_879
  let v985 : BitVec 32 := Scalar.addi v982 v984
  let c1_i32_888 : BitVec 32 := 1#32
  let v986 : BitVec 32 := Scalar.muli v985 c1_i32_888
  let v987 : BitVec 32 := Scalar.addi c0_i32_889 v986
  v987.toNat
def k0_dev43 (d0 : Dev nD) : Nat :=
  let c0_i32_908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_896 : BitVec 32 := 4#32
  let v996 : BitVec 32 := Scalar.muli v19 c4_i32_896
  let c4_i32_5 : BitVec 32 := 4#32
  let v20 : BitVec 32 := Scalar.remsi v2 c4_i32_5
  let c1_i32_897 : BitVec 32 := 1#32
  let v997 : BitVec 32 := Scalar.addi v20 c1_i32_897
  let c4_i32_898 : BitVec 32 := 4#32
  let v998 : BitVec 32 := Scalar.remsi v997 c4_i32_898
  let v999 : BitVec 32 := Scalar.addi v996 v998
  let c1_i32_907 : BitVec 32 := 1#32
  let v1000 : BitVec 32 := Scalar.muli v999 c1_i32_907
  let v1001 : BitVec 32 := Scalar.addi c0_i32_908 v1000
  v1001.toNat
def k0_dev44 (d0 : Dev nD) : Nat :=
  let c0_i32_923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_911 : BitVec 32 := 4#32
  let v1010 : BitVec 32 := Scalar.muli v19 c4_i32_911
  let c4_i32_5 : BitVec 32 := 4#32
  let v20 : BitVec 32 := Scalar.remsi v2 c4_i32_5
  let c2_i32_912 : BitVec 32 := 2#32
  let v1011 : BitVec 32 := Scalar.addi v20 c2_i32_912
  let c4_i32_913 : BitVec 32 := 4#32
  let v1012 : BitVec 32 := Scalar.remsi v1011 c4_i32_913
  let v1013 : BitVec 32 := Scalar.addi v1010 v1012
  let c1_i32_922 : BitVec 32 := 1#32
  let v1014 : BitVec 32 := Scalar.muli v1013 c1_i32_922
  let v1015 : BitVec 32 := Scalar.addi c0_i32_923 v1014
  v1015.toNat
def k0_dev45 (d0 : Dev nD) : Nat :=
  let c0_i32_942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_930 : BitVec 32 := 4#32
  let v1024 : BitVec 32 := Scalar.muli v19 c4_i32_930
  let c4_i32_5 : BitVec 32 := 4#32
  let v20 : BitVec 32 := Scalar.remsi v2 c4_i32_5
  let c2_i32_931 : BitVec 32 := 2#32
  let v1025 : BitVec 32 := Scalar.addi v20 c2_i32_931
  let c4_i32_932 : BitVec 32 := 4#32
  let v1026 : BitVec 32 := Scalar.remsi v1025 c4_i32_932
  let v1027 : BitVec 32 := Scalar.addi v1024 v1026
  let c1_i32_941 : BitVec 32 := 1#32
  let v1028 : BitVec 32 := Scalar.muli v1027 c1_i32_941
  let v1029 : BitVec 32 := Scalar.addi c0_i32_942 v1028
  v1029.toNat
def k0_dev46 (d0 : Dev nD) : Nat :=
  let c0_i32_957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_945 : BitVec 32 := 4#32
  let v1038 : BitVec 32 := Scalar.muli v19 c4_i32_945
  let c4_i32_5 : BitVec 32 := 4#32
  let v20 : BitVec 32 := Scalar.remsi v2 c4_i32_5
  let c3_i32_946 : BitVec 32 := 3#32
  let v1039 : BitVec 32 := Scalar.addi v20 c3_i32_946
  let c4_i32_947 : BitVec 32 := 4#32
  let v1040 : BitVec 32 := Scalar.remsi v1039 c4_i32_947
  let v1041 : BitVec 32 := Scalar.addi v1038 v1040
  let c1_i32_956 : BitVec 32 := 1#32
  let v1042 : BitVec 32 := Scalar.muli v1041 c1_i32_956
  let v1043 : BitVec 32 := Scalar.addi c0_i32_957 v1042
  v1043.toNat
def k0_dev47 (d0 : Dev nD) : Nat :=
  let c0_i32_976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_964 : BitVec 32 := 4#32
  let v1052 : BitVec 32 := Scalar.muli v19 c4_i32_964
  let c4_i32_5 : BitVec 32 := 4#32
  let v20 : BitVec 32 := Scalar.remsi v2 c4_i32_5
  let c3_i32_965 : BitVec 32 := 3#32
  let v1053 : BitVec 32 := Scalar.addi v20 c3_i32_965
  let c4_i32_966 : BitVec 32 := 4#32
  let v1054 : BitVec 32 := Scalar.remsi v1053 c4_i32_966
  let v1055 : BitVec 32 := Scalar.addi v1052 v1054
  let c1_i32_975 : BitVec 32 := 1#32
  let v1056 : BitVec 32 := Scalar.muli v1055 c1_i32_975
  let v1057 : BitVec 32 := Scalar.addi c0_i32_976 v1056
  v1057.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_185 : BitVec 32 := 3#32
  let v233 : BitVec 1 := Scalar.cmpi .sge v19 c3_i32_185
  let v239 : BitVec 32 := Scalar.extui v233
  let c0_i32_189 : BitVec 32 := 0#32
  let v240 : BitVec 1 := Scalar.cmpi .ne v239 c0_i32_189
  v240

def k0_dev48 (d0 : Dev nD) : Nat :=
  let c0_i32_889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_877 : BitVec 32 := 4#32
  let v982 : BitVec 32 := Scalar.muli v19 c4_i32_877
  let c4_i32_5 : BitVec 32 := 4#32
  let v20 : BitVec 32 := Scalar.remsi v2 c4_i32_5
  let c1_i32_878 : BitVec 32 := 1#32
  let v983 : BitVec 32 := Scalar.addi v20 c1_i32_878
  let c4_i32_879 : BitVec 32 := 4#32
  let v984 : BitVec 32 := Scalar.remsi v983 c4_i32_879
  let v985 : BitVec 32 := Scalar.addi v982 v984
  let c1_i32_888 : BitVec 32 := 1#32
  let v986 : BitVec 32 := Scalar.muli v985 c1_i32_888
  let v987 : BitVec 32 := Scalar.addi c0_i32_889 v986
  v987.toNat
def k0_dev49 (d0 : Dev nD) : Nat :=
  let c0_i32_908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_896 : BitVec 32 := 4#32
  let v996 : BitVec 32 := Scalar.muli v19 c4_i32_896
  let c4_i32_5 : BitVec 32 := 4#32
  let v20 : BitVec 32 := Scalar.remsi v2 c4_i32_5
  let c1_i32_897 : BitVec 32 := 1#32
  let v997 : BitVec 32 := Scalar.addi v20 c1_i32_897
  let c4_i32_898 : BitVec 32 := 4#32
  let v998 : BitVec 32 := Scalar.remsi v997 c4_i32_898
  let v999 : BitVec 32 := Scalar.addi v996 v998
  let c1_i32_907 : BitVec 32 := 1#32
  let v1000 : BitVec 32 := Scalar.muli v999 c1_i32_907
  let v1001 : BitVec 32 := Scalar.addi c0_i32_908 v1000
  v1001.toNat
def k0_dev50 (d0 : Dev nD) : Nat :=
  let c0_i32_923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_911 : BitVec 32 := 4#32
  let v1010 : BitVec 32 := Scalar.muli v19 c4_i32_911
  let c4_i32_5 : BitVec 32 := 4#32
  let v20 : BitVec 32 := Scalar.remsi v2 c4_i32_5
  let c2_i32_912 : BitVec 32 := 2#32
  let v1011 : BitVec 32 := Scalar.addi v20 c2_i32_912
  let c4_i32_913 : BitVec 32 := 4#32
  let v1012 : BitVec 32 := Scalar.remsi v1011 c4_i32_913
  let v1013 : BitVec 32 := Scalar.addi v1010 v1012
  let c1_i32_922 : BitVec 32 := 1#32
  let v1014 : BitVec 32 := Scalar.muli v1013 c1_i32_922
  let v1015 : BitVec 32 := Scalar.addi c0_i32_923 v1014
  v1015.toNat
def k0_dev51 (d0 : Dev nD) : Nat :=
  let c0_i32_942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_930 : BitVec 32 := 4#32
  let v1024 : BitVec 32 := Scalar.muli v19 c4_i32_930
  let c4_i32_5 : BitVec 32 := 4#32
  let v20 : BitVec 32 := Scalar.remsi v2 c4_i32_5
  let c2_i32_931 : BitVec 32 := 2#32
  let v1025 : BitVec 32 := Scalar.addi v20 c2_i32_931
  let c4_i32_932 : BitVec 32 := 4#32
  let v1026 : BitVec 32 := Scalar.remsi v1025 c4_i32_932
  let v1027 : BitVec 32 := Scalar.addi v1024 v1026
  let c1_i32_941 : BitVec 32 := 1#32
  let v1028 : BitVec 32 := Scalar.muli v1027 c1_i32_941
  let v1029 : BitVec 32 := Scalar.addi c0_i32_942 v1028
  v1029.toNat
def k0_dev52 (d0 : Dev nD) : Nat :=
  let c0_i32_957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_945 : BitVec 32 := 4#32
  let v1038 : BitVec 32 := Scalar.muli v19 c4_i32_945
  let c4_i32_5 : BitVec 32 := 4#32
  let v20 : BitVec 32 := Scalar.remsi v2 c4_i32_5
  let c3_i32_946 : BitVec 32 := 3#32
  let v1039 : BitVec 32 := Scalar.addi v20 c3_i32_946
  let c4_i32_947 : BitVec 32 := 4#32
  let v1040 : BitVec 32 := Scalar.remsi v1039 c4_i32_947
  let v1041 : BitVec 32 := Scalar.addi v1038 v1040
  let c1_i32_956 : BitVec 32 := 1#32
  let v1042 : BitVec 32 := Scalar.muli v1041 c1_i32_956
  let v1043 : BitVec 32 := Scalar.addi c0_i32_957 v1042
  v1043.toNat
def k0_dev53 (d0 : Dev nD) : Nat :=
  let c0_i32_976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_964 : BitVec 32 := 4#32
  let v1052 : BitVec 32 := Scalar.muli v19 c4_i32_964
  let c4_i32_5 : BitVec 32 := 4#32
  let v20 : BitVec 32 := Scalar.remsi v2 c4_i32_5
  let c3_i32_965 : BitVec 32 := 3#32
  let v1053 : BitVec 32 := Scalar.addi v20 c3_i32_965
  let c4_i32_966 : BitVec 32 := 4#32
  let v1054 : BitVec 32 := Scalar.remsi v1053 c4_i32_966
  let v1055 : BitVec 32 := Scalar.addi v1052 v1054
  let c1_i32_975 : BitVec 32 := 1#32
  let v1056 : BitVec 32 := Scalar.muli v1055 c1_i32_975
  let v1057 : BitVec 32 := Scalar.addi c0_i32_976 v1056
  v1057.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_186 : BitVec 32 := 0#32
  let v234 : BitVec 1 := Scalar.cmpi .sle v19 c0_i32_186
  let v245 : BitVec 32 := Scalar.extui v234
  let c0_i32_192 : BitVec 32 := 0#32
  let v246 : BitVec 1 := Scalar.cmpi .ne v245 c0_i32_192
  v246

def k0_dev54 (d0 : Dev nD) : Nat :=
  let c0_i32_889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_877 : BitVec 32 := 4#32
  let v982 : BitVec 32 := Scalar.muli v19 c4_i32_877
  let c4_i32_5 : BitVec 32 := 4#32
  let v20 : BitVec 32 := Scalar.remsi v2 c4_i32_5
  let c1_i32_878 : BitVec 32 := 1#32
  let v983 : BitVec 32 := Scalar.addi v20 c1_i32_878
  let c4_i32_879 : BitVec 32 := 4#32
  let v984 : BitVec 32 := Scalar.remsi v983 c4_i32_879
  let v985 : BitVec 32 := Scalar.addi v982 v984
  let c1_i32_888 : BitVec 32 := 1#32
  let v986 : BitVec 32 := Scalar.muli v985 c1_i32_888
  let v987 : BitVec 32 := Scalar.addi c0_i32_889 v986
  v987.toNat
def k0_dev55 (d0 : Dev nD) : Nat :=
  let c0_i32_908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_896 : BitVec 32 := 4#32
  let v996 : BitVec 32 := Scalar.muli v19 c4_i32_896
  let c4_i32_5 : BitVec 32 := 4#32
  let v20 : BitVec 32 := Scalar.remsi v2 c4_i32_5
  let c1_i32_897 : BitVec 32 := 1#32
  let v997 : BitVec 32 := Scalar.addi v20 c1_i32_897
  let c4_i32_898 : BitVec 32 := 4#32
  let v998 : BitVec 32 := Scalar.remsi v997 c4_i32_898
  let v999 : BitVec 32 := Scalar.addi v996 v998
  let c1_i32_907 : BitVec 32 := 1#32
  let v1000 : BitVec 32 := Scalar.muli v999 c1_i32_907
  let v1001 : BitVec 32 := Scalar.addi c0_i32_908 v1000
  v1001.toNat
def k0_dev56 (d0 : Dev nD) : Nat :=
  let c0_i32_923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_911 : BitVec 32 := 4#32
  let v1010 : BitVec 32 := Scalar.muli v19 c4_i32_911
  let c4_i32_5 : BitVec 32 := 4#32
  let v20 : BitVec 32 := Scalar.remsi v2 c4_i32_5
  let c2_i32_912 : BitVec 32 := 2#32
  let v1011 : BitVec 32 := Scalar.addi v20 c2_i32_912
  let c4_i32_913 : BitVec 32 := 4#32
  let v1012 : BitVec 32 := Scalar.remsi v1011 c4_i32_913
  let v1013 : BitVec 32 := Scalar.addi v1010 v1012
  let c1_i32_922 : BitVec 32 := 1#32
  let v1014 : BitVec 32 := Scalar.muli v1013 c1_i32_922
  let v1015 : BitVec 32 := Scalar.addi c0_i32_923 v1014
  v1015.toNat
def k0_dev57 (d0 : Dev nD) : Nat :=
  let c0_i32_942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_930 : BitVec 32 := 4#32
  let v1024 : BitVec 32 := Scalar.muli v19 c4_i32_930
  let c4_i32_5 : BitVec 32 := 4#32
  let v20 : BitVec 32 := Scalar.remsi v2 c4_i32_5
  let c2_i32_931 : BitVec 32 := 2#32
  let v1025 : BitVec 32 := Scalar.addi v20 c2_i32_931
  let c4_i32_932 : BitVec 32 := 4#32
  let v1026 : BitVec 32 := Scalar.remsi v1025 c4_i32_932
  let v1027 : BitVec 32 := Scalar.addi v1024 v1026
  let c1_i32_941 : BitVec 32 := 1#32
  let v1028 : BitVec 32 := Scalar.muli v1027 c1_i32_941
  let v1029 : BitVec 32 := Scalar.addi c0_i32_942 v1028
  v1029.toNat
def k0_dev58 (d0 : Dev nD) : Nat :=
  let c0_i32_957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_945 : BitVec 32 := 4#32
  let v1038 : BitVec 32 := Scalar.muli v19 c4_i32_945
  let c4_i32_5 : BitVec 32 := 4#32
  let v20 : BitVec 32 := Scalar.remsi v2 c4_i32_5
  let c3_i32_946 : BitVec 32 := 3#32
  let v1039 : BitVec 32 := Scalar.addi v20 c3_i32_946
  let c4_i32_947 : BitVec 32 := 4#32
  let v1040 : BitVec 32 := Scalar.remsi v1039 c4_i32_947
  let v1041 : BitVec 32 := Scalar.addi v1038 v1040
  let c1_i32_956 : BitVec 32 := 1#32
  let v1042 : BitVec 32 := Scalar.muli v1041 c1_i32_956
  let v1043 : BitVec 32 := Scalar.addi c0_i32_957 v1042
  v1043.toNat
def k0_dev59 (d0 : Dev nD) : Nat :=
  let c0_i32_976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_964 : BitVec 32 := 4#32
  let v1052 : BitVec 32 := Scalar.muli v19 c4_i32_964
  let c4_i32_5 : BitVec 32 := 4#32
  let v20 : BitVec 32 := Scalar.remsi v2 c4_i32_5
  let c3_i32_965 : BitVec 32 := 3#32
  let v1053 : BitVec 32 := Scalar.addi v20 c3_i32_965
  let c4_i32_966 : BitVec 32 := 4#32
  let v1054 : BitVec 32 := Scalar.remsi v1053 c4_i32_966
  let v1055 : BitVec 32 := Scalar.addi v1052 v1054
  let c1_i32_975 : BitVec 32 := 1#32
  let v1056 : BitVec 32 := Scalar.muli v1055 c1_i32_975
  let v1057 : BitVec 32 := Scalar.addi c0_i32_976 v1056
  v1057.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "inv_127" => some ((127⁻¹ : ℝ) : EReal)
  | _ => none
-- ==== ReferenceIdeal.lean ====
abbrev S4096x128 : Shape := ⟨2, ![4096, 128]⟩
abbrev S128x32 : Shape := ⟨2, ![128, 32]⟩
abbrev S4096x2 : Shape := ⟨2, ![4096, 2]⟩
abbrev S32x128x256 : Shape := ⟨3, ![32, 128, 256]⟩
abbrev S4096x32 : Shape := ⟨2, ![4096, 32]⟩
abbrev S_ : Shape := ⟨0, ![]⟩
abbrev S4096 : Shape := ⟨1, ![4096]⟩
abbrev S4096x1 : Shape := ⟨2, ![4096, 1]⟩
abbrev S32 : Shape := ⟨1, ![32]⟩
abbrev S32x1x1 : Shape := ⟨3, ![32, 1, 1]⟩
abbrev S4096x32x256 : Shape := ⟨3, ![4096, 32, 256]⟩
abbrev S4096x2x1 : Shape := ⟨3, ![4096, 2, 1]⟩
abbrev S4096x1x1 : Shape := ⟨3, ![4096, 1, 1]⟩
abbrev S4096x1x256 : Shape := ⟨3, ![4096, 1, 256]⟩
abbrev S4096x256 : Shape := ⟨2, ![4096, 256]⟩

abbrev nBuf : Space → Nat
  | .hbm => 86
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x32, .bf16⟩
  | .hbm, ⟨2, _⟩ => ⟨S4096x2, .i32⟩
  | .hbm, ⟨3, _⟩ => ⟨S32x128x256, .bf16⟩
  | .hbm, ⟨4, _⟩ => ⟨S4096x128, .f32⟩
  | .hbm, ⟨5, _⟩ => ⟨S128x32, .f32⟩
  | .hbm, ⟨6, _⟩ => ⟨S4096x32, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S4096x32, .f32⟩
  | .hbm, ⟨11, _⟩ => ⟨S4096x32, .f32⟩
  | .hbm, ⟨12, _⟩ => ⟨S4096x32, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x32, .f32⟩
  | .hbm, ⟨17, _⟩ => ⟨S4096x32, .f32⟩
  | .hbm, ⟨18, _⟩ => ⟨S32x128x256, .f32⟩
  | .hbm, ⟨19, _⟩ => ⟨S32x128x256, .f32⟩
  | .hbm, ⟨20, _⟩ => ⟨S_, .f32⟩
  | .hbm, ⟨21, _⟩ => ⟨S32, .f32⟩
  | .hbm, ⟨22, _⟩ => ⟨S32x1x1, .f32⟩
  | .hbm, ⟨23, _⟩ => ⟨S_, .f32⟩
  | .hbm, ⟨24, _⟩ => ⟨S32x1x1, .f32⟩
  | .hbm, ⟨25, _⟩ => ⟨S32x1x1, .f32⟩
  | .hbm, ⟨26, _⟩ => ⟨S32x128x256, .f32⟩
  | .hbm, ⟨27, _⟩ => ⟨S32x128x256, .f32⟩
  | .hbm, ⟨28, _⟩ => ⟨S32x128x256, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S32x128x256, .f32⟩
  | .hbm, ⟨33, _⟩ => ⟨S32x128x256, .f32⟩
  | .hbm, ⟨34, _⟩ => ⟨S_, .f32⟩
  | .hbm, ⟨35, _⟩ => ⟨S32x128x256, .f32⟩
  | .hbm, ⟨36, _⟩ => ⟨S32x128x256, .f32⟩
  | .hbm, ⟨37, _⟩ => ⟨S_, .f32⟩
  | .hbm, ⟨38, _⟩ => ⟨S32x1x1, .f32⟩
  | .hbm, ⟨39, _⟩ => ⟨S32x1x1, .f32⟩
  | .hbm, ⟨40, _⟩ => ⟨S32x128x256, .f32⟩
  | .hbm, ⟨41, _⟩ => ⟨S32x128x256, .f32⟩
  | .hbm, ⟨42, _⟩ => ⟨S4096x32x256, .f32⟩
  | .hbm, ⟨43, _⟩ => ⟨S_, .i32⟩
  | .hbm, ⟨44, _⟩ => ⟨S4096x2, .i32⟩
  | .hbm, ⟨45, _⟩ => ⟨S4096x2, .i1⟩
  | .hbm, ⟨46, _⟩ => ⟨S_, .i32⟩
  | .hbm, ⟨47, _⟩ => ⟨S4096x2, .i32⟩
  | .hbm, ⟨48, _⟩ => ⟨S4096x2, .i32⟩
  | .hbm, ⟨49, _⟩ => ⟨S4096x2, .i32⟩
  | .hbm, ⟨50, _⟩ => ⟨S4096x2x1, .i32⟩
  | .hbm, ⟨51, _⟩ => ⟨S4096x2, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1, .i32⟩
  | .hbm, ⟨56, _⟩ => ⟨S4096x1x1, .i32⟩
  | .hbm, ⟨57, _⟩ => ⟨S_, .i32⟩
  | .hbm, ⟨58, _⟩ => ⟨S4096x1x1, .i32⟩
  | .hbm, ⟨59, _⟩ => ⟨S4096x1x1, .i1⟩
  | .hbm, ⟨60, _⟩ => ⟨S_, .i32⟩
  | .hbm, ⟨61, _⟩ => ⟨S4096x1x1, .i32⟩
  | .hbm, ⟨62, _⟩ => ⟨S4096x1x1, .i32⟩
  | .hbm, ⟨63, _⟩ => ⟨S4096x1x1, .i32⟩
  | .hbm, ⟨64, _⟩ => ⟨S4096x1x256, .f32⟩
  | .hbm, ⟨65, _⟩ => ⟨S4096x256, .f32⟩
  | .hbm, ⟨66, _⟩ => ⟨S4096x1, .i32⟩
  | .hbm, ⟨67, _⟩ => ⟨S4096x1x1, .i32⟩
  | .hbm, ⟨68, _⟩ => ⟨S_, .i32⟩
  | .hbm, ⟨69, _⟩ => ⟨S4096x1x1, .i32⟩
  | .hbm, ⟨70, _⟩ => ⟨S4096x1x1, .i1⟩
  | .hbm, ⟨71, _⟩ => ⟨S_, .i32⟩
  | .hbm, ⟨72, _⟩ => ⟨S4096x1x1, .i32⟩
  | .hbm, ⟨73, _⟩ => ⟨S4096x1x1, .i32⟩
  | .hbm, ⟨74, _⟩ => ⟨S4096x1x1, .i32⟩
  | .hbm, ⟨75, _⟩ => ⟨S4096x1x256, .f32⟩
  | .hbm, ⟨76, _⟩ => ⟨S4096x256, .f32⟩
  | .hbm, ⟨77, _⟩ => ⟨S4096x1, .f32⟩
  | .hbm, ⟨78, _⟩ => ⟨S4096x1, .f32⟩
  | .hbm, ⟨79, _⟩ => ⟨S4096x256, .f32⟩
  | .hbm, ⟨80, _⟩ => ⟨S4096x256, .f32⟩
  | .hbm, ⟨81, _⟩ => ⟨S4096x1, .f32⟩
  | .hbm, ⟨82, _⟩ => ⟨S4096x1, .f32⟩
  | .hbm, ⟨83, _⟩ => ⟨S4096x256, .f32⟩
  | .hbm, ⟨84, _⟩ => ⟨S4096x256, .f32⟩
  | .hbm, ⟨85, _⟩ => ⟨S4096x256, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call3_c : Ref sig .tc := ⟨.hbm, 57, rfl⟩
abbrev main_call3_v0 : Ref sig .tc := ⟨.hbm, 58, rfl⟩
abbrev main_call3_v1 : Ref sig .tc := ⟨.hbm, 59, rfl⟩
abbrev main_call3_c_0 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_call4_c_0 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩

abbrev nD : Nat := 1
abbrev τ : Topo := Topo.v7x

variable {F : FTy → Type} [FloatOps F]
-- ==== Proof.Tables.lean ====
/-
# The protocol of the two hop all-gather, as plain data

Sixteen devices stand in four planes of four: device `c` has plane `z c = c / 4` and place `p c = c % 4`. A device holds
a window `(k, j)` for the block of device `4 ((z + k) % 4) + (p + j) % 4`. A link is one kind of copy between two devices:

* link `s < 3`        one plane up, hop `s`;
* link `3 + s`        one plane down, hop `s`;
* link `6 + 4 q + k`  inside the plane, to the place `q` further on, the window `(k, 0)` (`q = 0` is never used).

Each link carries the quantised block (`false`) and its scales (`true`), on semaphores of their own. The tables below say
which links are in use at a device, which windows a link reads and fills, and at which step of the program a device
starts a copy, waits for one to land, and waits for one of its own to have left.
-/
module

public import Mathlib.Data.Fin.Basic
public import Mathlib.Data.Fintype.Basic
public import Mathlib.Data.Fintype.Prod
public import Mathlib.Tactic.DeriveFintype
public import Mathlib.Algebra.BigOperators.Group.Finset.Basic

@[expose] public section

namespace Cert.Gather

abbrev D := Fin 16
/-- A link. -/
abbrev Lk := Fin 22
/-- A link with what it carries: `false` the block, `true` the scales. -/
abbrev LT := Lk × Bool
/-- A window of the two scratch buffers. -/
abbrev Wn := Fin 4 × Fin 4

def z (c : D) : ℕ := c.val / 4
def p (c : D) : ℕ := c.val % 4

/-- Whether device `c` sends along link `l`. -/
def act (c : D) (l : Lk) : Bool :=
  if l.val < 3 then decide (z c < 3 ∧ l.val ≤ z c)
  else if l.val < 6 then decide (0 < z c ∧ z c + (l.val - 3) ≤ 3)
  else decide (10 ≤ l.val)
/-- Whether device `c` receives along link `l`. -/
def inact (c : D) (l : Lk) : Bool :=
  if l.val < 3 then decide (l.val + 1 ≤ z c)
  else if l.val < 6 then decide (z c + (l.val - 3) ≤ 2)
  else decide (10 ≤ l.val)

/-- The plane offset of link `l`. -/
def lq (l : Lk) : ℕ := (l.val - 6) / 4
/-- The device that `c` sends to along link `l`. -/
def dst (c : D) (l : Lk) : D :=
  if l.val < 3 then ⟨(c.val + 4) % 16, by omega⟩
  else if l.val < 6 then ⟨(c.val + 12) % 16, by omega⟩
  else ⟨(4 * (c.val / 4) + (c.val % 4 + lq l) % 4) % 16, by omega⟩
/-- The device that sends to `c` along link `l`. -/
def src (c : D) (l : Lk) : D :=
  if l.val < 3 then ⟨(c.val + 12) % 16, by omega⟩
  else if l.val < 6 then ⟨(c.val + 4) % 16, by omega⟩
  else ⟨(4 * (c.val / 4) + (c.val % 4 + 4 - lq l % 4) % 4) % 16, by omega⟩

/-- The window that link `l` reads, at its sender. -/
def sw (l : Lk) : Wn :=
  if l.val < 3 then (⟨(4 - l.val) % 4, by omega⟩, 0)
  else if l.val < 6 then (⟨(l.val - 3) % 4, by omega⟩, 0)
  else (⟨(l.val - 6) % 4, by omega⟩, 0)
/-- The window that link `l` fills, at its receiver. -/
def dw (l : Lk) : Wn :=
  if l.val < 3 then (⟨(3 - l.val) % 4, by omega⟩, 0)
  else if l.val < 6 then (⟨(l.val - 2) % 4, by omega⟩, 0)
  else (⟨(l.val - 6) % 4, by omega⟩, ⟨(4 - lq l) % 4, by omega⟩)

/-- The device whose block a device's window holds in the end. -/
def owner (c : D) (k j : Fin 4) : D := ⟨(4 * ((c.val / 4 + k.val) % 4) + (c.val % 4 + j.val) % 4) % 16, by omega⟩

/-- The share of its source window that a copy along link `l` borrows. -/
def pc (l : Lk) : Fin 6 := if l.val < 3 then 4 else if l.val < 6 then 5 else ⟨lq l % 6, by omega⟩

/-- Which neighbour a link goes to: the three plane mates, the plane above, the plane below. -/
def kind (l : Lk) : Fin 5 := if l.val < 3 then 3 else if l.val < 6 then 4 else ⟨(lq l - 1) % 5, by omega⟩
/-- Whether device `c` has that neighbour. -/
def bact (c : D) (b : Fin 5) : Bool := if b.val < 3 then true else if b.val < 4 then decide (z c < 3) else decide (0 < z c)
/-- That neighbour. -/
def bdst (c : D) (b : Fin 5) : D :=
  if b.val < 3 then ⟨(4 * (c.val / 4) + (c.val % 4 + (b.val + 1)) % 4) % 16, by omega⟩
  else if b.val < 4 then ⟨(c.val + 4) % 16, by omega⟩ else ⟨(c.val + 12) % 16, by omega⟩
/-- The way back from it. -/
def bop (b : Fin 5) : Fin 5 := if b.val < 3 then ⟨2 - b.val, by omega⟩ else if b.val < 4 then 4 else 3

/-- The number of a copy's semaphore: `false` the sender's own, `true` the receiver's. -/
def semNo (r : Bool) (x : LT) : Fin 93 :=
  let l := x.1.val
  let b := if l < 3 then (if r then 8 + l else 5 + l)
    else if l < 6 then (if r then 14 + (l - 3) else 11 + (l - 3))
    else if r then 33 + 4 * ((4 - lq x.1) % 4) + (l - 6) % 4 else 17 + (l - 6)
  ⟨(if x.2 then b + 44 else b) % 93, Nat.mod_lt _ (by decide)⟩
/-- And back: whose side, the link, what it carries. -/
def semOf (n : Fin 93) : Bool × LT :=
  let t := decide (49 ≤ n.val)
  let b := if t then n.val - 44 else n.val
  let f (r : Bool) (l : ℕ) : Bool × LT := (r, ⟨l % 22, Nat.mod_lt _ (by decide)⟩, t)
  if b < 8 then f false (b - 5) else if b < 11 then f true (b - 8)
  else if b < 14 then f false (3 + (b - 11)) else if b < 17 then f true (3 + (b - 14))
  else if b < 33 then f false (6 + (b - 17))
  else f true (6 + 4 * ((4 - (b - 33) / 4) % 4) + (b - 33) % 4)

/-! ## The steps -/

/-- Per link (twice, block then scales) and kind (copy started, copy landed, copy left): the step of it. -/
def first : List ℕ :=
  [0, 1, 12, 13, 32, 33, 2, 3, 22, 23, 42, 43, 999, 999, 999, 999, 999, 999, 999, 999, 4, 5, 24, 25, 34, 35, 14,
  15, 6, 7, 26, 27, 36, 37, 16, 17, 8, 9, 28, 29, 38, 39, 18, 19, 10, 11, 30, 31, 50, 51, 20, 21, 40, 41, 58,
  59, 999, 999, 999, 999, 999, 999, 999, 999, 68, 69, 74, 75, 86, 87, 80, 81, 70, 71, 76, 77, 88, 89, 82, 83,
  66, 67, 72, 73, 84, 85, 78, 79, 90, 91, 100, 101, 116, 117, 92, 93, 102, 103, 118, 119, 999, 999, 999, 999,
  999, 999, 999, 999, 94, 95, 106, 107, 120, 121, 104, 105, 96, 97, 110, 111, 124, 125, 108, 109, 98, 99, 114,
  115, 128, 129, 112, 113]
/-- The same, at the second of the two places of a relay. -/
def second : List ℕ :=
  [0, 1, 12, 13, 32, 33, 2, 3, 22, 23, 42, 43, 999, 999, 999, 999, 999, 999, 999, 999, 4, 5, 52, 53, 44, 45, 60,
  61, 6, 7, 54, 55, 46, 47, 62, 63, 8, 9, 56, 57, 48, 49, 64, 65, 10, 11, 30, 31, 50, 51, 20, 21, 40, 41, 58,
  59, 999, 999, 999, 999, 999, 999, 999, 999, 68, 69, 74, 75, 86, 87, 80, 81, 70, 71, 76, 77, 88, 89, 82, 83,
  66, 67, 72, 73, 84, 85, 78, 79, 90, 91, 100, 101, 116, 117, 92, 93, 102, 103, 118, 119, 999, 999, 999, 999,
  999, 999, 999, 999, 94, 95, 132, 133, 122, 123, 134, 135, 96, 97, 136, 137, 126, 127, 138, 139, 98, 99, 140,
  141, 130, 131, 142, 143]
/-- What each step is. -/
def steps : List ℕ :=
  [0, 1, 6, 7, 20, 21, 28, 29, 36, 37, 44, 45, 2, 3, 26, 27, 34, 35, 42, 43, 50, 51, 8, 9, 22, 23, 30, 31, 38,
  39, 46, 47, 4, 5, 24, 25, 32, 33, 40, 41, 52, 53, 10, 11, 24, 25, 32, 33, 40, 41, 48, 49, 22, 23, 30, 31, 38,
  39, 54, 55, 26, 27, 34, 35, 42, 43, 80, 81, 64, 65, 72, 73, 82, 83, 66, 67, 74, 75, 86, 87, 70, 71, 78, 79,
  84, 85, 68, 69, 76, 77, 88, 89, 94, 95, 108, 109, 116, 117, 124, 125, 90, 91, 96, 97, 114, 115, 110, 111, 122,
  123, 118, 119, 130, 131, 126, 127, 92, 93, 98, 99, 112, 113, 112, 113, 120, 121, 120, 121, 128, 129, 128, 129,
  110, 111, 114, 115, 118, 119, 122, 123, 126, 127, 130, 131]

/-- Whether device `c` relays the window of link `l` at the first of the two places. -/
def early (c : D) (l : Lk) : Bool :=
  if l.val < 6 then true
  else if (l.val - 6) % 4 = 1 then decide (z c ≤ 2) else if (l.val - 6) % 4 = 2 then decide (2 ≤ z c)
  else if (l.val - 6) % 4 = 3 then decide (1 ≤ z c) else true

def code (e : Fin 3) (x : LT) : ℕ := 44 * e.val + 2 * x.1.val + (if x.2 then 1 else 0)
/-- The step at which device `c` starts (0), has landed (1), or has left (2) the copy `x`. -/
def tm (c : D) (e : Fin 3) (x : LT) : ℕ :=
  if early c x.1 || e.val = 1 then first.getD (code e x) 0 else second.getD (code e x) 0

def landed (c : D) (n : ℕ) (w : Wn) (t : Bool) : Bool :=
  decide (w = (0, 0)) || decide (∃ l : Lk, inact c l = true ∧ dw l = w ∧ tm c 1 (l, t) < n)
def lent (c : D) (n : ℕ) (w : Wn) (t : Bool) (h : Fin 6) : Bool :=
  decide (∃ l : Lk, act c l = true ∧ sw l = w ∧ pc l = h ∧ tm c 0 (l, t) < n ∧ n ≤ tm c 2 (l, t))

/-- How deep in the protocol a copy's landing is: the two planes' hops by number, the plane's copies last. -/
def depth (l : Lk) : ℕ := if l.val < 3 then 2 + l.val else if l.val < 6 then 2 + (l.val - 3) else 10

/-! ## What the tables satisfy -/

theorem act_src : ∀ c l, inact c l = true → act (src c l) l = true ∧ dst (src c l) l = c := by decide +kernel
theorem inact_dst : ∀ c l, act c l = true → inact (dst c l) l = true ∧ src (dst c l) l = c := by decide +kernel
theorem owner_link : ∀ c l, act c l = true → owner (dst c l) (dw l).1 (dw l).2 = owner c (sw l).1 (sw l).2 := by decide +kernel
theorem owner_self : ∀ c, owner c 0 0 = c := by decide +kernel
theorem semOf_semNo : ∀ r x, semOf (semNo r x) = (r, x) := by decide +kernel
theorem semNo_ge : ∀ r x, 5 ≤ (semNo r x).val := by decide +kernel
theorem semNo_surj : ∀ n : Fin 93, 5 ≤ n.val → semNo (semOf n).1 (semOf n).2 = n := by decide +kernel
theorem bop_bop : ∀ b, bop (bop b) = b := by decide
theorem bdst_bdst : ∀ c b, bact c b = true → bdst (bdst c b) (bop b) = c ∧ bact (bdst c b) (bop b) = true := by decide +kernel
theorem kind_dst : ∀ c l, act c l = true → dst c l = bdst c (kind l) ∧ bact c (kind l) = true := by decide +kernel
theorem kind_src : ∀ c l, inact c l = true → src c l = bdst c (bop (kind l)) ∧ bact c (bop (kind l)) = true := by decide +kernel
/-- Every window but a device's own is filled along exactly one link. -/
theorem fill_unique : ∀ c l l', inact c l = true → inact c l' = true → dw l = dw l' → l = l' := by decide +kernel
theorem fill_ne : ∀ c l, inact c l = true → dw l ≠ (0, 0) := by decide +kernel
theorem fill_exists : ∀ c w, w ≠ (0, 0) → ∃ l, inact c l = true ∧ dw l = w := by decide +kernel
/-- Two copies of one device read one window under different shares. -/
theorem lend_unique : ∀ c l l', act c l = true → act c l' = true → sw l = sw l' → pc l = pc l' → l = l' := by decide +kernel

/-- In use at `c`, for each of the three kinds of step. -/
def used (c : D) (e : Fin 3) (l : Lk) : Bool := if e.val = 1 then inact c l else act c l
theorem steps_tm : ∀ c e x, used c e x.1 = true → steps.getD (tm c e x) 1000 = code e x := by decide +kernel
theorem code_inj {e e' : Fin 3} {x x' : LT} (h : code e x = code e' x') : e = e' ∧ x = x' := by
  obtain ⟨⟨l, hl⟩, t⟩ := x; obtain ⟨⟨l', hl'⟩, t'⟩ := x'; obtain ⟨e, he⟩ := e; obtain ⟨e', he'⟩ := e'
  simp only [code] at h
  have : e = e' ∧ l = l' ∧ t = t' := by cases t <;> cases t' <;> simp at h ⊢ <;> omega
  obtain ⟨rfl, rfl, rfl⟩ := this; exact ⟨rfl, rfl⟩
/-- Two steps in use at one device differ. -/
theorem tm_inj {c : D} {e e' : Fin 3} {x x' : LT} (h : used c e x.1 = true) (h' : used c e' x'.1 = true)
    (ht : tm c e x = tm c e' x') : e = e' ∧ x = x' :=
  code_inj ((steps_tm c e x h).symm.trans ((congrArg (fun n => steps.getD n 1000) ht).trans (steps_tm c e' x' h')))

/-- A copy has its source before it starts, and has started before it is waited for. -/
theorem tm_order : ∀ c l t, act c l = true → landed c (tm c 0 (l, t)) (sw l) t = true ∧ tm c 0 (l, t) < tm c 2 (l, t) := by decide +kernel
/-- While a device waits for a copy to land, all that it still owes lies deeper. -/
theorem tm_depth : ∀ c l, inact c l = true → ∀ t, ∀ l', act c l' = true → ∀ t', tm c 1 (l, t) ≤ tm c 0 (l', t') → depth l < depth l' := by
  decide +kernel
theorem tm_last : ∀ c e x, tm c e x < 144 ∨ used c e x.1 = false := by decide +kernel
theorem tm_left : ∀ c l t, act c l = true → ∀ l' t', act c l' = true → tm c 0 (l', t') < tm c 2 (l, t) := by decide +kernel
theorem depth_pos : ∀ l, 2 ≤ depth l := by decide

end Cert.Gather
-- ==== Proof.Order.lean ====
/-
# The order of the steps

At step `n` of the program a device does what `ev n` says, if `on c n`; the windows' and the copies' states change there
and nowhere else.
-/
module

public import proofs.«01_k».proof.Proof.Tables

@[expose] public section

namespace Cert.Gather

def decode (k : ℕ) : Fin 3 × LT :=
  (⟨k / 44 % 3, Nat.mod_lt _ (by decide)⟩, (⟨k % 44 / 2 % 22, Nat.mod_lt _ (by decide)⟩, decide (k % 2 = 1)))
theorem decode_code : ∀ e x, decode (code e x) = (e, x) := by decide +kernel

/-- Step `n`: a copy starts, has landed, or has left. -/
def ev (n : ℕ) : Fin 3 × LT := decode (steps.getD n 1000)
/-- Whether device `c` has a step `n`. -/
def on (c : D) (n : ℕ) : Bool := used c (ev n).1 (ev n).2.1 && decide (tm c (ev n).1 (ev n).2 = n)

theorem on_of {c : D} {n : ℕ} {e : Fin 3} {x : LT} (hu : used c e x.1 = true) (ht : tm c e x = n) : on c n = true ∧ ev n = (e, x) := by
  have h : ev n = (e, x) := by unfold ev; rw [← ht, steps_tm c e x hu, decode_code]
  refine ⟨?_, h⟩
  unfold on; rw [h]; simp [hu, ht]

theorem of_on {c : D} {n : ℕ} {e : Fin 3} {x : LT} (h : on c n = true) (he : ev n = (e, x)) : used c e x.1 = true ∧ tm c e x = n := by
  unfold on at h; rw [he] at h; simpa using h

theorem tm_ne_of_off {c : D} {n : ℕ} (h : on c n = false) {e : Fin 3} {x : LT} (hu : used c e x.1 = true) : tm c e x ≠ n := fun ht => by
  rw [(on_of hu ht).1] at h; exact absurd h (by decide)
/-- Off the step of `n`, no step in use has the number `n`. -/
theorem tm_ne {c : D} {n : ℕ} {e e' : Fin 3} {x x' : LT} (he : ev n = (e, x)) (hu : used c e' x'.1 = true) (hne : ¬(e' = e ∧ x' = x)) :
    tm c e' x' ≠ n := fun ht => by
  have := (on_of hu ht).2; rw [he] at this
  exact hne ⟨(congrArg Prod.fst this).symm, (congrArg Prod.snd this).symm⟩

theorem used_send (c : D) (l : Lk) : used c 0 l = act c l := rfl
theorem used_left (c : D) (l : Lk) : used c 2 l = act c l := rfl
theorem used_recv (c : D) (l : Lk) : used c 1 l = inact c l := rfl

theorem landed_iff {c : D} {n : ℕ} {w : Wn} {t : Bool} :
    landed c n w t = true ↔ w = (0, 0) ∨ ∃ l : Lk, inact c l = true ∧ dw l = w ∧ tm c 1 (l, t) < n := by
  simp [landed]
theorem lent_iff {c : D} {n : ℕ} {w : Wn} {t : Bool} {h : Fin 6} :
    lent c n w t h = true ↔ ∃ l : Lk, act c l = true ∧ sw l = w ∧ pc l = h ∧ tm c 0 (l, t) < n ∧ n ≤ tm c 2 (l, t) := by
  simp [lent]

theorem landed_succ {c : D} {n : ℕ} {w : Wn} {t : Bool} (h : ∀ l, inact c l = true → dw l = w → tm c 1 (l, t) ≠ n) :
    landed c (n + 1) w t = landed c n w t := by
  rw [Bool.eq_iff_iff, landed_iff, landed_iff]
  refine or_congr Iff.rfl (exists_congr fun l => and_congr_right fun hi => and_congr_right fun hd => ?_)
  have := h l hi hd; omega
theorem lent_succ {c : D} {n : ℕ} {w : Wn} {t : Bool} {h : Fin 6}
    (hn : ∀ l, act c l = true → sw l = w → pc l = h → tm c 0 (l, t) ≠ n ∧ tm c 2 (l, t) ≠ n) :
    lent c (n + 1) w t h = lent c n w t h := by
  rw [Bool.eq_iff_iff, lent_iff, lent_iff]
  refine exists_congr fun l => and_congr_right fun ha => and_congr_right fun hs => and_congr_right fun hp => ?_
  have := hn l ha hs hp; omega

theorem landed_mono {c : D} {n : ℕ} {w : Wn} {t : Bool} (k : ℕ) (hk : n ≤ k) (h : landed c n w t = true) : landed c k w t = true := by
  rw [landed_iff] at h ⊢
  rcases h with h | ⟨l, hi, hd, hl⟩
  · exact .inl h
  · exact .inr ⟨l, hi, hd, lt_of_lt_of_le hl hk⟩

/-- What is lent has landed. -/
theorem landed_of_lent {c : D} {n : ℕ} {w : Wn} {t : Bool} {h : Fin 6} (hl : lent c n w t h = true) : landed c n w t = true := by
  obtain ⟨l, ha, rfl, -, h0, -⟩ := lent_iff.mp hl
  exact landed_mono n (by omega) (tm_order c l t ha).1

section Send
variable {c : D} {n : ℕ} {x : LT} (he : ev n = (0, x)) (hon : on c n = true)
include he hon

theorem send_act : act c x.1 = true := (of_on hon he).1
theorem send_tm : tm c 0 x = n := (of_on hon he).2
theorem send_later : n + 1 ≤ tm c 2 x := by
  have := (tm_order c x.1 x.2 (send_act he hon)).2; have := send_tm he hon
  obtain ⟨l, t⟩ := x; simp only at *; omega
theorem send_landed : landed c n (sw x.1) x.2 = true := by
  have := (tm_order c x.1 x.2 (send_act he hon)).1; rwa [send_tm he hon] at this
theorem send_landed' : landed c (n + 1) (sw x.1) x.2 = true := landed_mono _ (Nat.le_succ n) (send_landed he hon)
theorem send_lent : lent c n (sw x.1) x.2 (pc x.1) = false := by
  rw [Bool.eq_false_iff, Ne, lent_iff]
  rintro ⟨l, ha, hs, hp, h0, -⟩
  have := lend_unique c l x.1 ha (send_act he hon) hs hp; subst this
  have := send_tm he hon; obtain ⟨l, t⟩ := x; simp only at *; omega
theorem send_lent' : lent c (n + 1) (sw x.1) x.2 (pc x.1) = true := by
  rw [lent_iff]
  refine ⟨x.1, send_act he hon, rfl, rfl, ?_, send_later he hon⟩
  have := send_tm he hon; obtain ⟨l, t⟩ := x; simp only at *; omega
omit hon in
theorem send_landed_succ (w : Wn) (t : Bool) : landed c (n + 1) w t = landed c n w t :=
  landed_succ fun l hi _ => tm_ne (e' := 1) (x' := (l, t)) he hi (fun h => absurd h.1 (by decide))
omit hon in
theorem send_lent_succ (w : Wn) (t : Bool) (h : Fin 6) (hne : ¬(w = sw x.1 ∧ t = x.2 ∧ h = pc x.1)) : lent c (n + 1) w t h = lent c n w t h :=
  lent_succ fun l ha hs hp => ⟨tm_ne (e' := 0) (x' := (l, t)) he ha (fun h' => hne ⟨by rw [← h'.2, hs], by rw [← h'.2], by rw [← h'.2, hp]⟩),
    tm_ne (e' := 2) (x' := (l, t)) he ha (fun h => absurd h.1 (by decide))⟩
end Send

section Left
variable {c : D} {n : ℕ} {x : LT} (he : ev n = (2, x)) (hon : on c n = true)
include he hon

theorem left_act : act c x.1 = true := (of_on hon he).1
theorem left_tm : tm c 2 x = n := (of_on hon he).2
theorem left_later : tm c 0 x < n := by
  have := (tm_order c x.1 x.2 (left_act he hon)).2; have := left_tm he hon
  obtain ⟨l, t⟩ := x; simp only at *; omega
theorem left_lent : lent c n (sw x.1) x.2 (pc x.1) = true := by
  rw [lent_iff]
  exact ⟨x.1, left_act he hon, rfl, rfl, left_later he hon, (left_tm he hon).ge⟩
theorem left_landed : landed c n (sw x.1) x.2 = true := landed_of_lent (left_lent he hon)
theorem left_landed' : landed c (n + 1) (sw x.1) x.2 = true := landed_mono _ (Nat.le_succ n) (left_landed he hon)
theorem left_lent' : lent c (n + 1) (sw x.1) x.2 (pc x.1) = false := by
  rw [Bool.eq_false_iff, Ne, lent_iff]
  rintro ⟨l, ha, hs, hp, h0, h2⟩
  have := lend_unique c l x.1 ha (left_act he hon) hs hp; subst this
  have := left_tm he hon; obtain ⟨l, t⟩ := x; simp only at *; omega
omit hon in
theorem left_landed_succ (w : Wn) (t : Bool) : landed c (n + 1) w t = landed c n w t :=
  landed_succ fun l hi _ => tm_ne (e' := 1) (x' := (l, t)) he hi (fun h => absurd h.1 (by decide))
omit hon in
theorem left_lent_succ (w : Wn) (t : Bool) (h : Fin 6) (hne : ¬(w = sw x.1 ∧ t = x.2 ∧ h = pc x.1)) : lent c (n + 1) w t h = lent c n w t h :=
  lent_succ fun l ha hs hp => ⟨tm_ne (e' := 0) (x' := (l, t)) he ha (fun h => absurd h.1 (by decide)),
    tm_ne (e' := 2) (x' := (l, t)) he ha (fun h' => hne ⟨by rw [← h'.2, hs], by rw [← h'.2], by rw [← h'.2, hp]⟩)⟩
/-- By then a device has started all its copies. -/
theorem left_sent (x' : LT) (ha : act c x'.1 = true) : tm c 0 x' < n := by
  have := tm_left c x.1 x.2 (left_act he hon) x'.1 x'.2 ha
  have h2 := left_tm he hon
  obtain ⟨l, t⟩ := x; obtain ⟨l', t'⟩ := x'; simp only at *; omega
end Left

section Recv
variable {c : D} {n : ℕ} {x : LT} (he : ev n = (1, x)) (hon : on c n = true)
include he hon

theorem recv_inact : inact c x.1 = true := (of_on hon he).1
theorem recv_tm : tm c 1 x = n := (of_on hon he).2
theorem recv_landed : landed c n (dw x.1) x.2 = false := by
  rw [Bool.eq_false_iff, Ne, landed_iff]
  rintro (h | ⟨l, hi, hd, hl⟩)
  · exact fill_ne c x.1 (recv_inact he hon) h
  · have := fill_unique c l x.1 hi (recv_inact he hon) hd; subst this
    have := recv_tm he hon; obtain ⟨l, t⟩ := x; simp only at *; omega
theorem recv_landed' : landed c (n + 1) (dw x.1) x.2 = true := by
  rw [landed_iff]
  refine .inr ⟨x.1, recv_inact he hon, rfl, ?_⟩
  have := recv_tm he hon; obtain ⟨l, t⟩ := x; simp only at *; omega
omit hon in
theorem recv_landed_succ (w : Wn) (t : Bool) (hne : ¬(w = dw x.1 ∧ t = x.2)) : landed c (n + 1) w t = landed c n w t :=
  landed_succ fun l hi hd => tm_ne (e' := 1) (x' := (l, t)) he hi (fun h => hne ⟨by rw [← h.2, hd], by rw [← h.2]⟩)
omit hon in
theorem recv_lent_succ (w : Wn) (t : Bool) (h : Fin 6) : lent c (n + 1) w t h = lent c n w t h :=
  lent_succ fun l ha _ _ => ⟨tm_ne (e' := 0) (x' := (l, t)) he ha (fun h => absurd h.1 (by decide)),
    tm_ne (e' := 2) (x' := (l, t)) he ha (fun h => absurd h.1 (by decide))⟩
theorem recv_lent' (h : Fin 6) : lent c (n + 1) (dw x.1) x.2 h = false := by
  rw [recv_lent_succ he, Bool.eq_false_iff, Ne]
  intro hl
  have := landed_of_lent hl
  rw [recv_landed he hon] at this; exact absurd this (by decide)
end Recv

/-- The last step is behind every device at 144. -/
theorem tm_lt {c : D} {e : Fin 3} {x : LT} (h : used c e x.1 = true) : tm c e x < 144 := by
  rcases tm_last c e x with h' | h'
  · exact h'
  · rw [h'] at h; exact absurd h (by decide)
theorem landed_last (c : D) (w : Wn) (t : Bool) : landed c 144 w t = true := by
  rw [landed_iff]
  by_cases h : w = (0, 0)
  · exact .inl h
  · obtain ⟨l, hi, hd⟩ := fill_exists c w h
    exact .inr ⟨l, hi, hd, tm_lt (e := 1) hi⟩
theorem lent_last (c : D) (w : Wn) (t : Bool) (h : Fin 6) : lent c 144 w t h = false := by
  rw [Bool.eq_false_iff, Ne, lent_iff]
  rintro ⟨l, ha, -, -, -, h2⟩
  have := tm_lt (c := c) (e := 2) (x := (l, t)) ha; omega
theorem landed_first (c : D) (w : Wn) (t : Bool) : landed c 0 w t = decide (w = (0, 0)) := by
  rw [Bool.eq_iff_iff, landed_iff]; simp
theorem lent_first (c : D) (w : Wn) (t : Bool) (h : Fin 6) : lent c 0 w t h = false := by
  rw [Bool.eq_false_iff, Ne, lent_iff]; rintro ⟨l, -, -, -, h0, -⟩; omega

end Cert.Gather
-- ==== Proof.Events.lean ====
/-
# The steps of a device's program, one by one

What each step is, on which devices it takes place, and what has landed before the loads.
-/
module

public import proofs.«01_k».proof.Proof.Order

@[expose] public section

namespace Cert.Gather

theorem ev0 : ev 0 = (0, (0, false)) := by decide +kernel
theorem ev1 : ev 1 = (0, (0, true)) := by decide +kernel
theorem ev2 : ev 2 = (0, (3, false)) := by decide +kernel
theorem ev3 : ev 3 = (0, (3, true)) := by decide +kernel
theorem ev4 : ev 4 = (0, (10, false)) := by decide +kernel
theorem ev5 : ev 5 = (0, (10, true)) := by decide +kernel
theorem ev6 : ev 6 = (0, (14, false)) := by decide +kernel
theorem ev7 : ev 7 = (0, (14, true)) := by decide +kernel
theorem ev8 : ev 8 = (0, (18, false)) := by decide +kernel
theorem ev9 : ev 9 = (0, (18, true)) := by decide +kernel
theorem ev10 : ev 10 = (1, (0, false)) := by decide +kernel
theorem ev11 : ev 11 = (1, (0, true)) := by decide +kernel
theorem ev12 : ev 12 = (0, (1, false)) := by decide +kernel
theorem ev13 : ev 13 = (0, (1, true)) := by decide +kernel
theorem ev14 : ev 14 = (0, (13, false)) := by decide +kernel
theorem ev15 : ev 15 = (0, (13, true)) := by decide +kernel
theorem ev16 : ev 16 = (0, (17, false)) := by decide +kernel
theorem ev17 : ev 17 = (0, (17, true)) := by decide +kernel
theorem ev18 : ev 18 = (0, (21, false)) := by decide +kernel
theorem ev19 : ev 19 = (0, (21, true)) := by decide +kernel
theorem ev20 : ev 20 = (1, (3, false)) := by decide +kernel
theorem ev21 : ev 21 = (1, (3, true)) := by decide +kernel
theorem ev22 : ev 22 = (0, (4, false)) := by decide +kernel
theorem ev23 : ev 23 = (0, (4, true)) := by decide +kernel
theorem ev24 : ev 24 = (0, (11, false)) := by decide +kernel
theorem ev25 : ev 25 = (0, (11, true)) := by decide +kernel
theorem ev26 : ev 26 = (0, (15, false)) := by decide +kernel
theorem ev27 : ev 27 = (0, (15, true)) := by decide +kernel
theorem ev28 : ev 28 = (0, (19, false)) := by decide +kernel
theorem ev29 : ev 29 = (0, (19, true)) := by decide +kernel
theorem ev30 : ev 30 = (1, (1, false)) := by decide +kernel
theorem ev31 : ev 31 = (1, (1, true)) := by decide +kernel
theorem ev32 : ev 32 = (0, (2, false)) := by decide +kernel
theorem ev33 : ev 33 = (0, (2, true)) := by decide +kernel
theorem ev34 : ev 34 = (0, (12, false)) := by decide +kernel
theorem ev35 : ev 35 = (0, (12, true)) := by decide +kernel
theorem ev36 : ev 36 = (0, (16, false)) := by decide +kernel
theorem ev37 : ev 37 = (0, (16, true)) := by decide +kernel
theorem ev38 : ev 38 = (0, (20, false)) := by decide +kernel
theorem ev39 : ev 39 = (0, (20, true)) := by decide +kernel
theorem ev40 : ev 40 = (1, (4, false)) := by decide +kernel
theorem ev41 : ev 41 = (1, (4, true)) := by decide +kernel
theorem ev42 : ev 42 = (0, (5, false)) := by decide +kernel
theorem ev43 : ev 43 = (0, (5, true)) := by decide +kernel
theorem ev44 : ev 44 = (0, (12, false)) := by decide +kernel
theorem ev45 : ev 45 = (0, (12, true)) := by decide +kernel
theorem ev46 : ev 46 = (0, (16, false)) := by decide +kernel
theorem ev47 : ev 47 = (0, (16, true)) := by decide +kernel
theorem ev48 : ev 48 = (0, (20, false)) := by decide +kernel
theorem ev49 : ev 49 = (0, (20, true)) := by decide +kernel
theorem ev50 : ev 50 = (1, (2, false)) := by decide +kernel
theorem ev51 : ev 51 = (1, (2, true)) := by decide +kernel
theorem ev52 : ev 52 = (0, (11, false)) := by decide +kernel
theorem ev53 : ev 53 = (0, (11, true)) := by decide +kernel
theorem ev54 : ev 54 = (0, (15, false)) := by decide +kernel
theorem ev55 : ev 55 = (0, (15, true)) := by decide +kernel
theorem ev56 : ev 56 = (0, (19, false)) := by decide +kernel
theorem ev57 : ev 57 = (0, (19, true)) := by decide +kernel
theorem ev58 : ev 58 = (1, (5, false)) := by decide +kernel
theorem ev59 : ev 59 = (1, (5, true)) := by decide +kernel
theorem ev60 : ev 60 = (0, (13, false)) := by decide +kernel
theorem ev61 : ev 61 = (0, (13, true)) := by decide +kernel
theorem ev62 : ev 62 = (0, (17, false)) := by decide +kernel
theorem ev63 : ev 63 = (0, (17, true)) := by decide +kernel
theorem ev64 : ev 64 = (0, (21, false)) := by decide +kernel
theorem ev65 : ev 65 = (0, (21, true)) := by decide +kernel
theorem ev66 : ev 66 = (1, (18, false)) := by decide +kernel
theorem ev67 : ev 67 = (1, (18, true)) := by decide +kernel
theorem ev68 : ev 68 = (1, (10, false)) := by decide +kernel
theorem ev69 : ev 69 = (1, (10, true)) := by decide +kernel
theorem ev70 : ev 70 = (1, (14, false)) := by decide +kernel
theorem ev71 : ev 71 = (1, (14, true)) := by decide +kernel
theorem ev72 : ev 72 = (1, (19, false)) := by decide +kernel
theorem ev73 : ev 73 = (1, (19, true)) := by decide +kernel
theorem ev74 : ev 74 = (1, (11, false)) := by decide +kernel
theorem ev75 : ev 75 = (1, (11, true)) := by decide +kernel
theorem ev76 : ev 76 = (1, (15, false)) := by decide +kernel
theorem ev77 : ev 77 = (1, (15, true)) := by decide +kernel
theorem ev78 : ev 78 = (1, (21, false)) := by decide +kernel
theorem ev79 : ev 79 = (1, (21, true)) := by decide +kernel
theorem ev80 : ev 80 = (1, (13, false)) := by decide +kernel
theorem ev81 : ev 81 = (1, (13, true)) := by decide +kernel
theorem ev82 : ev 82 = (1, (17, false)) := by decide +kernel
theorem ev83 : ev 83 = (1, (17, true)) := by decide +kernel
theorem ev84 : ev 84 = (1, (20, false)) := by decide +kernel
theorem ev85 : ev 85 = (1, (20, true)) := by decide +kernel
theorem ev86 : ev 86 = (1, (12, false)) := by decide +kernel
theorem ev87 : ev 87 = (1, (12, true)) := by decide +kernel
theorem ev88 : ev 88 = (1, (16, false)) := by decide +kernel
theorem ev89 : ev 89 = (1, (16, true)) := by decide +kernel
theorem ev90 : ev 90 = (2, (0, false)) := by decide +kernel
theorem ev91 : ev 91 = (2, (0, true)) := by decide +kernel
theorem ev92 : ev 92 = (2, (3, false)) := by decide +kernel
theorem ev93 : ev 93 = (2, (3, true)) := by decide +kernel
theorem ev94 : ev 94 = (2, (10, false)) := by decide +kernel
theorem ev95 : ev 95 = (2, (10, true)) := by decide +kernel
theorem ev96 : ev 96 = (2, (14, false)) := by decide +kernel
theorem ev97 : ev 97 = (2, (14, true)) := by decide +kernel
theorem ev98 : ev 98 = (2, (18, false)) := by decide +kernel
theorem ev99 : ev 99 = (2, (18, true)) := by decide +kernel
theorem ev100 : ev 100 = (2, (1, false)) := by decide +kernel
theorem ev101 : ev 101 = (2, (1, true)) := by decide +kernel
theorem ev102 : ev 102 = (2, (4, false)) := by decide +kernel
theorem ev103 : ev 103 = (2, (4, true)) := by decide +kernel
theorem ev104 : ev 104 = (2, (13, false)) := by decide +kernel
theorem ev105 : ev 105 = (2, (13, true)) := by decide +kernel
theorem ev106 : ev 106 = (2, (11, false)) := by decide +kernel
theorem ev107 : ev 107 = (2, (11, true)) := by decide +kernel
theorem ev108 : ev 108 = (2, (17, false)) := by decide +kernel
theorem ev109 : ev 109 = (2, (17, true)) := by decide +kernel
theorem ev110 : ev 110 = (2, (15, false)) := by decide +kernel
theorem ev111 : ev 111 = (2, (15, true)) := by decide +kernel
theorem ev112 : ev 112 = (2, (21, false)) := by decide +kernel
theorem ev113 : ev 113 = (2, (21, true)) := by decide +kernel
theorem ev114 : ev 114 = (2, (19, false)) := by decide +kernel
theorem ev115 : ev 115 = (2, (19, true)) := by decide +kernel
theorem ev116 : ev 116 = (2, (2, false)) := by decide +kernel
theorem ev117 : ev 117 = (2, (2, true)) := by decide +kernel
theorem ev118 : ev 118 = (2, (5, false)) := by decide +kernel
theorem ev119 : ev 119 = (2, (5, true)) := by decide +kernel
theorem ev120 : ev 120 = (2, (12, false)) := by decide +kernel
theorem ev121 : ev 121 = (2, (12, true)) := by decide +kernel
theorem ev122 : ev 122 = (2, (12, false)) := by decide +kernel
theorem ev123 : ev 123 = (2, (12, true)) := by decide +kernel
theorem ev124 : ev 124 = (2, (16, false)) := by decide +kernel
theorem ev125 : ev 125 = (2, (16, true)) := by decide +kernel
theorem ev126 : ev 126 = (2, (16, false)) := by decide +kernel
theorem ev127 : ev 127 = (2, (16, true)) := by decide +kernel
theorem ev128 : ev 128 = (2, (20, false)) := by decide +kernel
theorem ev129 : ev 129 = (2, (20, true)) := by decide +kernel
theorem ev130 : ev 130 = (2, (20, false)) := by decide +kernel
theorem ev131 : ev 131 = (2, (20, true)) := by decide +kernel
theorem ev132 : ev 132 = (2, (11, false)) := by decide +kernel
theorem ev133 : ev 133 = (2, (11, true)) := by decide +kernel
theorem ev134 : ev 134 = (2, (13, false)) := by decide +kernel
theorem ev135 : ev 135 = (2, (13, true)) := by decide +kernel
theorem ev136 : ev 136 = (2, (15, false)) := by decide +kernel
theorem ev137 : ev 137 = (2, (15, true)) := by decide +kernel
theorem ev138 : ev 138 = (2, (17, false)) := by decide +kernel
theorem ev139 : ev 139 = (2, (17, true)) := by decide +kernel
theorem ev140 : ev 140 = (2, (19, false)) := by decide +kernel
theorem ev141 : ev 141 = (2, (19, true)) := by decide +kernel
theorem ev142 : ev 142 = (2, (21, false)) := by decide +kernel
theorem ev143 : ev 143 = (2, (21, true)) := by decide +kernel
theorem on_4 : ∀ c : D, on c 4 = true := by decide +kernel
theorem on_5 : ∀ c : D, on c 5 = true := by decide +kernel
theorem on_6 : ∀ c : D, on c 6 = true := by decide +kernel
theorem on_7 : ∀ c : D, on c 7 = true := by decide +kernel
theorem on_8 : ∀ c : D, on c 8 = true := by decide +kernel
theorem on_9 : ∀ c : D, on c 9 = true := by decide +kernel
theorem on_66 : ∀ c : D, on c 66 = true := by decide +kernel
theorem on_67 : ∀ c : D, on c 67 = true := by decide +kernel
theorem on_68 : ∀ c : D, on c 68 = true := by decide +kernel
theorem on_69 : ∀ c : D, on c 69 = true := by decide +kernel
theorem on_70 : ∀ c : D, on c 70 = true := by decide +kernel
theorem on_71 : ∀ c : D, on c 71 = true := by decide +kernel
theorem on_72 : ∀ c : D, on c 72 = true := by decide +kernel
theorem on_73 : ∀ c : D, on c 73 = true := by decide +kernel
theorem on_74 : ∀ c : D, on c 74 = true := by decide +kernel
theorem on_75 : ∀ c : D, on c 75 = true := by decide +kernel
theorem on_76 : ∀ c : D, on c 76 = true := by decide +kernel
theorem on_77 : ∀ c : D, on c 77 = true := by decide +kernel
theorem on_78 : ∀ c : D, on c 78 = true := by decide +kernel
theorem on_79 : ∀ c : D, on c 79 = true := by decide +kernel
theorem on_80 : ∀ c : D, on c 80 = true := by decide +kernel
theorem on_81 : ∀ c : D, on c 81 = true := by decide +kernel
theorem on_82 : ∀ c : D, on c 82 = true := by decide +kernel
theorem on_83 : ∀ c : D, on c 83 = true := by decide +kernel
theorem on_84 : ∀ c : D, on c 84 = true := by decide +kernel
theorem on_85 : ∀ c : D, on c 85 = true := by decide +kernel
theorem on_86 : ∀ c : D, on c 86 = true := by decide +kernel
theorem on_87 : ∀ c : D, on c 87 = true := by decide +kernel
theorem on_88 : ∀ c : D, on c 88 = true := by decide +kernel
theorem on_89 : ∀ c : D, on c 89 = true := by decide +kernel
theorem on_94 : ∀ c : D, on c 94 = true := by decide +kernel
theorem on_95 : ∀ c : D, on c 95 = true := by decide +kernel
theorem on_96 : ∀ c : D, on c 96 = true := by decide +kernel
theorem on_97 : ∀ c : D, on c 97 = true := by decide +kernel
theorem on_98 : ∀ c : D, on c 98 = true := by decide +kernel
theorem on_99 : ∀ c : D, on c 99 = true := by decide +kernel
theorem on_15_eq : ∀ c : D, on c 15 = on c 14 := by decide +kernel
theorem on_16_eq : ∀ c : D, on c 16 = on c 14 := by decide +kernel
theorem on_17_eq : ∀ c : D, on c 17 = on c 14 := by decide +kernel
theorem on_18_eq : ∀ c : D, on c 18 = on c 14 := by decide +kernel
theorem on_19_eq : ∀ c : D, on c 19 = on c 14 := by decide +kernel
theorem on_25_eq : ∀ c : D, on c 25 = on c 24 := by decide +kernel
theorem on_26_eq : ∀ c : D, on c 26 = on c 24 := by decide +kernel
theorem on_27_eq : ∀ c : D, on c 27 = on c 24 := by decide +kernel
theorem on_28_eq : ∀ c : D, on c 28 = on c 24 := by decide +kernel
theorem on_29_eq : ∀ c : D, on c 29 = on c 24 := by decide +kernel
theorem on_35_eq : ∀ c : D, on c 35 = on c 34 := by decide +kernel
theorem on_36_eq : ∀ c : D, on c 36 = on c 34 := by decide +kernel
theorem on_37_eq : ∀ c : D, on c 37 = on c 34 := by decide +kernel
theorem on_38_eq : ∀ c : D, on c 38 = on c 34 := by decide +kernel
theorem on_39_eq : ∀ c : D, on c 39 = on c 34 := by decide +kernel
theorem on_45_eq : ∀ c : D, on c 45 = on c 44 := by decide +kernel
theorem on_46_eq : ∀ c : D, on c 46 = on c 44 := by decide +kernel
theorem on_47_eq : ∀ c : D, on c 47 = on c 44 := by decide +kernel
theorem on_48_eq : ∀ c : D, on c 48 = on c 44 := by decide +kernel
theorem on_49_eq : ∀ c : D, on c 49 = on c 44 := by decide +kernel
theorem on_53_eq : ∀ c : D, on c 53 = on c 52 := by decide +kernel
theorem on_54_eq : ∀ c : D, on c 54 = on c 52 := by decide +kernel
theorem on_55_eq : ∀ c : D, on c 55 = on c 52 := by decide +kernel
theorem on_56_eq : ∀ c : D, on c 56 = on c 52 := by decide +kernel
theorem on_57_eq : ∀ c : D, on c 57 = on c 52 := by decide +kernel
theorem on_61_eq : ∀ c : D, on c 61 = on c 60 := by decide +kernel
theorem on_62_eq : ∀ c : D, on c 62 = on c 60 := by decide +kernel
theorem on_63_eq : ∀ c : D, on c 63 = on c 60 := by decide +kernel
theorem on_64_eq : ∀ c : D, on c 64 = on c 60 := by decide +kernel
theorem on_65_eq : ∀ c : D, on c 65 = on c 60 := by decide +kernel
theorem landed_sc_0_0 : ∀ c : D, landed c 72 (0, 0) true = true := by decide +kernel
theorem landed_sc_0_1 : ∀ c : D, landed c 72 (0, 1) true = true := by decide +kernel
theorem landed_sc_0_2 : ∀ c : D, landed c 72 (0, 2) true = true := by decide +kernel
theorem landed_sc_0_3 : ∀ c : D, landed c 72 (0, 3) true = true := by decide +kernel
theorem landed_buf_0 : ∀ (c : D) (j : Fin 4), landed c 72 (0, j) false = true := by decide +kernel
theorem landed_sc_1_0 : ∀ c : D, landed c 78 (1, 0) true = true := by decide +kernel
theorem landed_sc_1_1 : ∀ c : D, landed c 78 (1, 1) true = true := by decide +kernel
theorem landed_sc_1_2 : ∀ c : D, landed c 78 (1, 2) true = true := by decide +kernel
theorem landed_sc_1_3 : ∀ c : D, landed c 78 (1, 3) true = true := by decide +kernel
theorem landed_buf_1 : ∀ (c : D) (j : Fin 4), landed c 78 (1, j) false = true := by decide +kernel
theorem landed_sc_3_0 : ∀ c : D, landed c 84 (3, 0) true = true := by decide +kernel
theorem landed_sc_3_1 : ∀ c : D, landed c 84 (3, 1) true = true := by decide +kernel
theorem landed_sc_3_2 : ∀ c : D, landed c 84 (3, 2) true = true := by decide +kernel
theorem landed_sc_3_3 : ∀ c : D, landed c 84 (3, 3) true = true := by decide +kernel
theorem landed_buf_3 : ∀ (c : D) (j : Fin 4), landed c 84 (3, j) false = true := by decide +kernel
theorem landed_sc_2_0 : ∀ c : D, landed c 90 (2, 0) true = true := by decide +kernel
theorem landed_sc_2_1 : ∀ c : D, landed c 90 (2, 1) true = true := by decide +kernel
theorem landed_sc_2_2 : ∀ c : D, landed c 90 (2, 2) true = true := by decide +kernel
theorem landed_sc_2_3 : ∀ c : D, landed c 90 (2, 3) true = true := by decide +kernel
theorem landed_buf_2 : ∀ (c : D) (j : Fin 4), landed c 90 (2, j) false = true := by decide +kernel

end Cert.Gather

end
-- ==== Proof.Ideal.Windows.lean ====
/-
# The windows of the two scratch buffers, their shares and their contents

A window `(k, j)` of a device's block buffer (`false`) or scale buffer (`true`) in the end holds the quantised block, or
the scales, of the device `owner c k j`. `Vc` is that final content of the whole buffer; a copy moves a window of it to
another device's window of the same owner, so a window in use always holds its part of `Vc`.
-/
module

public import proofs.«01_k».proof.Proof.Tables
public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Value
public import Idealize.ShloMosaic.Lib.ViewIndex
public import Idealize.ShloMosaic.Lib.Tactic

@[expose] public section

noncomputable section

namespace Cert.KernelIdeal.Run

open Cert.KernelIdeal Cert.KernelIdeal.Gen Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The protocol's duties: one of five names per cell. -/
abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The windows -/

abbrev wS (t : Bool) : Shape := match t with | false => S2x128x256 | true => S2
abbrev wE (t : Bool) : EltTy := match t with | false => .i8 | true => .f32
abbrev wB (t : Bool) : Ref sig .tc := match t with | false => cc0_scratch0 | true => cc0_scratch1

theorem inbB (w : Wn) : ∀ a, (![w.1.val, w.2.val, 0, 0, 0] : Fin 5 → ℕ) a + S1x1x2x128x256.size a ≤ S4x4x2x128x256.size a := by
  revert w; decide
theorem inbS (w : Wn) : ∀ a, (![w.1.val, w.2.val, 0] : Fin 3 → ℕ) a + S1x1x2.size a ≤ S4x4x2.size a := by
  revert w; decide

abbrev rB (w : Wn) : Rect S4x4x2x128x256 := Rect.unit (s := S4x4x2x128x256) ![w.1.val, w.2.val, 0, 0, 0] S1x1x2x128x256.size (inbB w)
abbrev rS (w : Wn) : Rect S4x4x2 := Rect.unit (s := S4x4x2) ![w.1.val, w.2.val, 0] S1x1x2.size (inbS w)

/-- The memref of window `w`. -/
abbrev wM (t : Bool) (w : Wn) : Memref sig .tc .vmem (wS t) (wE t) := match t with
  | false => ((Memref.whole cc0_scratch0 : Memref sig .tc .vmem S4x4x2x128x256 .i8).slice (rB w) (fun _ => rfl)).squeeze S2x128x256 squeezes_S1x1x2x128x256_S2x128x256
  | true => ((Memref.whole cc0_scratch1 : Memref sig .tc .vmem S4x4x2 .f32).slice (rS w) (fun _ => rfl)).squeeze S2 squeezes_S1x1x2_S2

theorem set_buf (w : Wn) : (wM false w).view.set = (rB w).set := by
  show ((((View.whole cc0_scratch0).slice (rB w)).reshape _ _).set) = _
  rw [View.set_reshape, View.set_slice_whole]
theorem set_sc (w : Wn) : (wM true w).view.set = (rS w).set := by
  show ((((View.whole cc0_scratch1).slice (rS w)).reshape _ _).set) = _
  rw [View.set_reshape, View.set_slice_whole]

/-! ## The contents -/

/-- The block of expert weights of device `d`, as its staging buffer holds it. -/
def ewBlk (d : Dev nD) : S2x128x256.Idx → Elt F .bf16 := iblk m d 3 t0_0
/-- Its quantised block, and its scales. -/
def qb (d : Dev nD) : S1x1x2x128x256.Idx → Elt F .i8 := k0_pay4 (k0_pay3 (ewBlk m d))
def qs (d : Dev nD) : S1x1x2.Idx → Elt F .f32 := k0_pay5 (k0_pay2 (ewBlk m d))

def Vb (c : Dev nD) : S4x4x2x128x256.Idx → Elt F .i8 := fun i =>
  qb m (owner c (i 0) (i 1)) fun | 0 => (0 : Fin 1) | 1 => (0 : Fin 1) | 2 => i 2 | 3 => i 3 | 4 => i 4
def Vs (c : Dev nD) : S4x4x2.Idx → Elt F .f32 := fun i =>
  qs m (owner c (i 0) (i 1)) fun | 0 => (0 : Fin 1) | 1 => (0 : Fin 1) | 2 => i 2

/-- What window `w`'s buffer on device `c` holds in the end. -/
def Vc (c : Dev nD) (t : Bool) (w : Wn) : Buf (Elt F) ((wM t w).view.loc (c : Thread nD τ)) := match t with
  | false => Vb m c
  | true => Vs m c

/-- Share `q` of window `w` at contents `f`. -/
def wPts (c : Dev nD) (t : Bool) (w : Wn) (q : PosShare TreeShare) (f : Buf (Elt F) ((wM t w).view.loc (c : Thread nD τ))) : sProp 𝕄 :=
  (wM t w).view.loc (c : Thread nD τ) ↦[(wM t w).view.set]{q} f

instance wPts_storable (c : Dev nD) (t : Bool) (w : Wn) (q) (f) : BI.Storable (upEmb : UEmb _ 𝕄) (wPts (F := F) c t w q f) := by
  unfold wPts; infer_instance

theorem Vb_emb (c : Dev nD) (w : Wn) (x : S1x1x2x128x256.Idx) : Vb m c ((rB w).emb x) = qb m (owner c w.1 w.2) x := by
  have h0 : (((rB w).emb x 0 : Fin 4)) = w.1 := Fin.ext (by
    rw [Rect.emb_apply]; have : (x 0 : ℕ) < 1 := (x 0).isLt
    show w.1.val + 1 * (x 0 : ℕ) = w.1.val; omega)
  have h1 : (((rB w).emb x 1 : Fin 4)) = w.2 := Fin.ext (by
    rw [Rect.emb_apply]; have : (x 1 : ℕ) < 1 := (x 1).isLt
    show w.2.val + 1 * (x 1 : ℕ) = w.2.val; omega)
  unfold Vb
  rw [h0, h1]
  refine congrArg _ (funext fun a => ?_)
  fin_cases a <;> apply Fin.ext
  · have : (x 0 : ℕ) < 1 := (x 0).isLt
    show 0 = (x 0 : ℕ); omega
  · have : (x 1 : ℕ) < 1 := (x 1).isLt
    show 0 = (x 1 : ℕ); omega
  all_goals
    refine (Rect.emb_apply (rB w) x _).trans ?_
    first
      | exact (show 0 + 1 * (x 2 : ℕ) = (x 2 : ℕ) by omega)
      | exact (show 0 + 1 * (x 3 : ℕ) = (x 3 : ℕ) by omega)
      | exact (show 0 + 1 * (x 4 : ℕ) = (x 4 : ℕ) by omega)

theorem Vs_emb (c : Dev nD) (w : Wn) (x : S1x1x2.Idx) : Vs m c ((rS w).emb x) = qs m (owner c w.1 w.2) x := by
  have h0 : (((rS w).emb x 0 : Fin 4)) = w.1 := Fin.ext (by
    rw [Rect.emb_apply]; have : (x 0 : ℕ) < 1 := (x 0).isLt
    show w.1.val + 1 * (x 0 : ℕ) = w.1.val; omega)
  have h1 : (((rS w).emb x 1 : Fin 4)) = w.2 := Fin.ext (by
    rw [Rect.emb_apply]; have : (x 1 : ℕ) < 1 := (x 1).isLt
    show w.2.val + 1 * (x 1 : ℕ) = w.2.val; omega)
  unfold Vs
  rw [h0, h1]
  refine congrArg _ (funext fun a => ?_)
  fin_cases a <;> apply Fin.ext
  · have : (x 0 : ℕ) < 1 := (x 0).isLt
    show 0 = (x 0 : ℕ); omega
  · have : (x 1 : ℕ) < 1 := (x 1).isLt
    show 0 = (x 1 : ℕ); omega
  · refine (Rect.emb_apply (rS w) x _).trans ?_
    exact (show 0 + 1 * (x 2 : ℕ) = (x 2 : ℕ) by omega)

/-- A copy leaves its destination's window at its final content. -/
theorem landed_pts (c d : Dev nD) (t : Bool) (w v : Wn) (ho : owner c w.1 w.2 = owner d v.1 v.2)
    (fd : Buf (Elt F) ((wM t v).view.loc (d : Thread nD τ))) :
    ((wM t v).view.loc (d : Thread nD τ) ↦[(wM t v).view.set]{fullShare} ((wM t v).view.write (Elt F) fd ((wM t w).view.read (Elt F) (Vc m c t w)) Finset.univ) : sProp 𝕄)
      ⊢ wPts d t v fullShare (Vc m d t v) := by
  unfold wPts
  refine Entails.of_eq (pointsTo_congr fun i hi => ?_)
  obtain ⟨j, rfl⟩ := View.exists_emb_of_mem_set _ hi
  rw [View.write_emb_of_mem _ _ (Finset.mem_univ _)]
  cases t
  · show Vb m c ((rB w).emb _) = Vb m d ((rB v).emb _)
    rw [Vb_emb, Vb_emb, ho]
  · show Vs m c ((rS w).emb _) = Vs m d ((rS v).emb _)
    rw [Vs_emb, Vs_emb, ho]

/-! ## The shares -/

/-- The six pieces of a window's full share: what stays, and what each kind of copy borrows. -/
def sh : Fin 6 → PosShare TreeShare
  | 0 => fullShare.left | 1 => fullShare.right.left | 2 => fullShare.right.right.left | 3 => fullShare.right.right.right.left
  | 4 => fullShare.right.right.right.right.left | 5 => fullShare.right.right.right.right.right

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem share_halves {ℓ : Loc nD τ sig} {I : Finset (Idx ℓ)} (q : PosShare TreeShare) (f : Buf (Elt F) ℓ) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

theorem wPts_pieces (c : Dev nD) (t : Bool) (w : Wn) (f) :
    (wPts c t w fullShare f : sProp 𝕄) = bigSep Finset.univ fun h : Fin 6 => wPts c t w (sh h) f := by
  rw [bigSep_fin6]
  unfold wPts sh
  dsimp only
  rw [share_halves fullShare, share_halves fullShare.right, share_halves fullShare.right.right, share_halves fullShare.right.right.right,
    share_halves fullShare.right.right.right.right]

end Cert.KernelIdeal.Run

end
-- ==== Proof.Ideal.State.lean ====
/-
# The protocol's cells, what they hand over, and what a device holds between two steps

Every device has one barrier cell and, per link and per what it carries, one cell for copies of its own that have left
and one for copies that have landed. `Inv K c n o` is what device `c` holds before step `n`, its output buffer at `o`.
-/
module

public import proofs.«01_k».proof.Proof.Order
public import proofs.«01_k».proof.Proof.Ideal.Windows

@[expose] public section

noncomputable section

namespace Cert.KernelIdeal.Run

open Cert.KernelIdeal Cert.KernelIdeal.Gen Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The cells -/

abbrev barS : Sem sig := (SemArray.scalar (sig.barrier 0 rfl) : Sems sig S_).sem
abbrev xSem (r : Bool) (x : LT) : DmaSem sig := (semNo r x : Fin 93)
abbrev barCell (c : Dev nD) : GSem nD τ sig := ((c : Thread nD τ), .reg barS)
/-- The cell of device `c` for the copies `x` of its own that have left (`false`), or those that have landed (`true`). -/
abbrev xCell (r : Bool) (c : Dev nD) (x : LT) : GSem nD τ sig := ((c : Thread nD τ), .dma (xSem r x))

/-- The cells of one device. -/
abbrev KI : Type := Option (Bool × LT)
abbrev kcell (ck : Dev nD × KI) : GSem nD τ sig := match ck.2 with
  | none => barCell ck.1
  | some rx => xCell rx.1 ck.1 rx.2

/-- What a copy counts on its semaphores. -/
def amt (t : Bool) : ℕ := (wM t (0, 0)).view.dmaCredit
theorem amt_eq (t : Bool) (w : Wn) : (wM t w).view.dmaCredit = amt t := by cases t <;> rfl
theorem amt_pos (t : Bool) : 0 < amt t := View.dmaCredit_pos _ (by cases t <;> decide)

/-- Whether a cell is in use. -/
def xUsed (r : Bool) (c : Dev nD) (l : Lk) : Bool := if r then inact c l else act c l

/-! ## The schedule -/

/-- What device `c` gets with the signal of its neighbour `b`: the windows there that `c` will fill. -/
def barPay (c : Dev nD) (b : Fin 5) : sProp 𝕄 :=
  bigSep Finset.univ fun x : LT => if kind x.1 = b ∧ act c x.1 = true then iprop(∃ f, wPts (bdst c b) x.2 (dw x.1) fullShare f) else iprop(emp)
/-- What a copy hands over: its source's share when it has left, its destination's window, filled, when it has landed. -/
def xPay (r : Bool) (c : Dev nD) (x : LT) : sProp 𝕄 := match r with
  | false => wPts c x.2 (sw x.1) (sh (pc x.1)) (Vc m c x.2 (sw x.1))
  | true => wPts c x.2 (dw x.1) fullShare (Vc m c x.2 (dw x.1))

instance barPay_storable (c : Dev nD) (b : Fin 5) : BI.Storable (upEmb : UEmb _ 𝕄) (barPay (F := F) c b) := by
  unfold barPay
  have : ∀ x : LT, BI.Storable (upEmb : UEmb _ 𝕄)
      (if kind x.1 = b ∧ act c x.1 = true then iprop(∃ f, wPts (F := F) (bdst c b) x.2 (dw x.1) fullShare f) else iprop(emp)) := fun x => by
    split <;> infer_instance
  infer_instance
instance xPay_storable (r : Bool) (c : Dev nD) (x : LT) : BI.Storable (upEmb : UEmb _ 𝕄) (xPay (F := F) m r c x) := by
  unfold xPay; cases r <;> infer_instance

def locDuties (d : Dev nD) (s : SemLoc sig) : Finset (Fin 5) := match s with
  | .reg s => if s = barS then Finset.univ.filter fun b => bact d b = true else ∅
  | .dma n => if 5 ≤ (n : Fin 93).val ∧ xUsed (semOf n).1 d (semOf n).2.1 = true then {0} else ∅
def locAmount (s : SemLoc sig) : ℕ := match s with
  | .reg _ => 1
  | .dma n => amt (semOf n).2.2
def locPay (d : Dev nD) (s : SemLoc sig) (b : Fin 5) : sProp 𝕄 := match s with
  | .reg _ => barPay d b
  | .dma n => xPay m (semOf n).1 d (semOf n).2

/-- One round: a barrier cell's duties are its neighbours', of one unit each; a copy's cells have one duty, the copy's. -/
def Rd : Rounds.Schedule (GSem nD τ sig) (Fin 5) 𝕄 where
  duties g r := if r = 0 ∧ g.1.2 = .tc then locDuties g.1.1 g.2 else ∅
  unitless _ := False
  amount g _ _ := locAmount g.2
  payload g _ b := locPay m g.1.1 g.2 b
  amount_pos g _ _ _ := by
    unfold locAmount; split
    · exact Nat.one_pos
    · exact amt_pos _

instance Rd_payload_storable (g : GSem nD τ sig) (r : ℕ) (d : Fin 5) : BI.Storable (upEmb : UEmb _ 𝕄) ((Rd (F := F) m).payload g r d) := by
  show BI.Storable upEmb (locPay m g.1.1 g.2 d)
  unfold locPay; split <;> infer_instance

theorem duties_bar (c : Dev nD) : (Rd (F := F) m).duties (barCell c) 0 = Finset.univ.filter fun b => bact c b = true := by
  dsimp only [Rd]; rw [if_pos ⟨rfl, rfl⟩]; unfold locDuties; exact if_pos rfl
theorem duties_x (r : Bool) (c : Dev nD) (x : LT) (h : xUsed r c x.1 = true) : (Rd (F := F) m).duties (xCell r c x) 0 = {0} := by
  dsimp only [Rd]; rw [if_pos ⟨rfl, rfl⟩]; unfold locDuties
  refine if_pos ⟨semNo_ge r x, ?_⟩
  rw [show semOf (xSem r x) = (r, x) from semOf_semNo r x]; exact h
theorem duties_x_none (r : Bool) (c : Dev nD) (x : LT) (h : xUsed r c x.1 = false) (k : ℕ) : (Rd (F := F) m).duties (xCell r c x) k = ∅ := by
  dsimp only [Rd]
  split
  · unfold locDuties
    refine if_neg fun h' => ?_
    rw [show semOf (xSem r x) = (r, x) from semOf_semNo r x, h] at h'
    exact absurd h'.2 (by decide)
  · rfl
theorem duties_later (g : GSem nD τ sig) : ∀ r, 1 ≤ r → (Rd (F := F) m).duties g r = ∅ :=
  fun r hr => by dsimp only [Rd]; rw [if_neg fun h => by omega]
theorem amount_bar (c : Dev nD) (d : Fin 5) : (Rd (F := F) m).amount (barCell c) 0 d = 1 := rfl
theorem amount_x (r : Bool) (c : Dev nD) (x : LT) (d : Fin 5) : (Rd (F := F) m).amount (xCell r c x) 0 d = amt x.2 := by
  show amt (semOf (xSem r x)).2.2 = _
  rw [show semOf (xSem r x) = (r, x) from semOf_semNo r x]
theorem payload_bar (c : Dev nD) (d : Fin 5) : (Rd (F := F) m).payload (barCell c) 0 d = barPay c d := rfl
theorem payload_x (r : Bool) (c : Dev nD) (x : LT) (d : Fin 5) : (Rd (F := F) m).payload (xCell r c x) 0 d = xPay m r c x := by
  show xPay m (semOf (xSem r x)).1 c (semOf (xSem r x)).2 = _
  rw [show semOf (xSem r x) = (r, x) from semOf_semNo r x]
theorem expect_x (r : Bool) (c : Dev nD) (x : LT) (h : xUsed r c x.1 = true) : (Rd (F := F) m).expect (xCell r c x) 0 = amt x.2 := by
  unfold Schedule.expect Schedule.amountOf; rw [duties_x m r c x h, Finset.sum_singleton, amount_x]
/-- The number of a device's neighbours. -/
def nbrs (c : Dev nD) : ℕ := (Finset.univ.filter fun b => bact c b = true).card
theorem expect_bar (c : Dev nD) : (Rd (F := F) m).expect (barCell c) 0 = nbrs c := by
  unfold Schedule.expect Schedule.amountOf
  rw [duties_bar, Finset.sum_congr rfl fun d _ => amount_bar m c d, Finset.sum_const, smul_eq_mul, Nat.mul_one]; rfl
theorem rest_x (r : Bool) (c : Dev nD) (x : LT) (h : xUsed r c x.1 = true) :
    bigSep ((Rd (F := F) m).duties (xCell r c x) 0 \ ∅) (fun d => (Rd (F := F) m).payload (xCell r c x) 0 d) = xPay m r c x := by
  rw [Finset.sdiff_empty, duties_x m r c x h, bigSep_singleton, payload_x]
theorem rest_bar (c : Dev nD) :
    bigSep ((Rd (F := F) m).duties (barCell c) 0 \ ∅) (fun d => (Rd (F := F) m).payload (barCell c) 0 d)
      = bigSep Finset.univ fun b : Fin 5 => if bact c b = true then barPay (F := F) c b else iprop(emp) := by
  rw [Finset.sdiff_empty, duties_bar, bigSep_filter]
  exact bigSep_congr fun b _ => by split <;> rfl

/-! ## What is owed, and the levels -/

/-- What device `c` still owes others' landings before step `n`. -/
def oweT (c : Dev nD) (n : ℕ) : CellTallies nD τ sig Unit :=
  ∑ x : LT, if act c x.1 = true ∧ n ≤ tm c 0 x then tallyAt (xCell true (dst c x.1) x) () (amt x.2) else 0
/-- What it still owes its neighbours' barriers before its `i`-th signal. -/
def oweB (c : Dev nD) (i : ℕ) : CellTallies nD τ sig Unit :=
  ∑ b : Fin 5, if bact c b = true ∧ i ≤ b.val then tallyAt (barCell (bdst c b)) () 1 else 0

def L (g : GSem nD τ sig) : Finset Unit := if g.1.2 = .tc then {()} else ∅
/-- Copies leaving and the pipeline's own at 0, barriers at 1, landings by their depth. -/
def lv (g : GSem nD τ sig) (_ : Unit) : ℕ := match g.2 with
  | .reg _ => 1
  | .dma n => if 5 ≤ (n : Fin 93).val ∧ (semOf n).1 = true then depth (semOf n).2.1 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (x : LT) : lv (xCell true c x) () = depth x.1 := by
  show (if 5 ≤ (semNo true x).val ∧ (semOf (xSem true x)).1 = true then depth (semOf (xSem true x)).2.1 else 0) = _
  rw [show semOf (xSem true x) = (true, x) from semOf_semNo true x]; exact if_pos ⟨semNo_ge true x, rfl⟩
theorem lv_sent (c : Dev nD) (x : LT) : lv (xCell false c x) () = 0 := by
  show (if 5 ≤ (semNo false x).val ∧ (semOf (xSem false x)).1 = true then depth (semOf (xSem false x)).2.1 else 0) = _
  rw [show semOf (xSem false x) = (false, x) from semOf_semNo false x]; exact if_neg fun h => Bool.false_ne_true h.2

theorem oweT_pos {c : Dev nD} {n : ℕ} {g : GSem nD τ sig} {u : Unit} (h : 0 < oweT c n g u) :
    ∃ x : LT, act c x.1 = true ∧ n ≤ tm c 0 x ∧ g = xCell true (dst c x.1) x := by
  by_contra hn
  have : oweT c n g u = 0 := by
    unfold oweT
    rw [Finset.sum_apply, Finsupp.finset_sum_apply]
    refine Finset.sum_eq_zero fun x _ => ?_
    by_cases hx : act c x.1 = true ∧ n ≤ tm c 0 x
    · rw [if_pos hx, tallyAt_apply, if_neg fun h' => hn ⟨x, hx.1, hx.2, h'.1⟩]
    · rw [if_neg hx]; rfl
  omega
theorem oweB_pos {c : Dev nD} {n : ℕ} {g : GSem nD τ sig} {u : Unit} (h : 0 < oweB c n g u) : ∃ b, g = barCell (bdst c b) := by
  by_contra hn
  have : oweB c n g u = 0 := by
    unfold oweB
    rw [Finset.sum_apply, Finsupp.finset_sum_apply]
    refine Finset.sum_eq_zero fun b _ => ?_
    by_cases hx : bact c b = true ∧ n ≤ b.val
    · rw [if_pos hx, tallyAt_apply, if_neg fun h' => hn ⟨b, h'.1⟩]
    · rw [if_neg hx]; rfl
  omega

theorem oweT_send {c : Dev nD} {n : ℕ} {x : LT} (he : ev n = (0, x)) (hon : on c n = true) :
    oweT c n = oweT c (n + 1) + tallyAt (xCell true (dst c x.1) x) () (amt x.2) := by
  unfold oweT
  rw [← Finset.add_sum_erase Finset.univ _ (Finset.mem_univ x), ← Finset.add_sum_erase Finset.univ (fun x => if act c x.1 = true ∧ n + 1 ≤ tm c 0 x then _ else _) (Finset.mem_univ x)]
  rw [if_pos ⟨send_act he hon, (send_tm he hon).ge⟩, if_neg (fun h => by have := send_tm he hon; omega), zero_add, add_comm]
  congr 1
  refine Finset.sum_congr rfl fun y hy => ?_
  by_cases ha : act c y.1 = true
  · have := tm_ne (c := c) (e' := 0) (x' := y) he ha (fun h => (Finset.mem_erase.mp hy).1 h.2)
    congr 1; exact propext ⟨fun h => ⟨h.1, by omega⟩, fun h => ⟨h.1, by omega⟩⟩
  · rw [if_neg fun h => ha h.1, if_neg fun h => ha h.1]
theorem oweT_other {c : Dev nD} {n : ℕ} (h : ∀ x : LT, act c x.1 = true → tm c 0 x ≠ n) : oweT c n = oweT c (n + 1) := by
  unfold oweT
  refine Finset.sum_congr rfl fun y _ => ?_
  by_cases ha : act c y.1 = true
  · have := h y ha
    congr 1; exact propext ⟨fun h => ⟨h.1, by omega⟩, fun h => ⟨h.1, by omega⟩⟩
  · rw [if_neg fun h => ha h.1, if_neg fun h => ha h.1]
theorem oweT_last (c : Dev nD) : oweT c 144 = 0 := by
  unfold oweT
  refine Finset.sum_eq_zero fun x _ => if_neg fun h => ?_
  have := tm_lt (c := c) (e := 0) (x := x) h.1; omega
theorem oweB_signal (c : Dev nD) (b : Fin 5) (h : bact c b = true) :
    oweB c b.val = oweB c (b.val + 1) + tallyAt (barCell (bdst c b)) () 1 := by
  unfold oweB
  rw [← Finset.add_sum_erase Finset.univ _ (Finset.mem_univ b), ← Finset.add_sum_erase Finset.univ (fun b' => if bact c b' = true ∧ b.val + 1 ≤ b'.val then _ else _) (Finset.mem_univ b)]
  rw [if_pos ⟨h, le_rfl⟩, if_neg (fun h => by omega), zero_add, add_comm]
  congr 1
  refine Finset.sum_congr rfl fun y hy => ?_
  have hne := (Finset.mem_erase.mp hy).1
  have : y.val ≠ b.val := fun h => hne (Fin.ext h)
  congr 1; exact propext ⟨fun h => ⟨h.1, by omega⟩, fun h => ⟨h.1, by omega⟩⟩
theorem oweB_skip (c : Dev nD) (b : Fin 5) (h : bact c b = false) : oweB c b.val = oweB c (b.val + 1) := by
  unfold oweB
  refine Finset.sum_congr rfl fun y _ => ?_
  by_cases hy : y = b
  · subst hy; rw [if_neg fun h' => by rw [h] at h'; exact absurd h'.1 (by decide), if_neg fun h' => by omega]
  · have : y.val ≠ b.val := fun h => hy (Fin.ext h)
    congr 1; exact propext ⟨fun h => ⟨h.1, by omega⟩, fun h => ⟨h.1, by omega⟩⟩
theorem oweB_last (c : Dev nD) : oweB c 5 = 0 := by
  unfold oweB; exact Finset.sum_eq_zero fun b _ => if_neg fun h => by have := b.isLt; omega

/-- A wait below all that is owed. -/
theorem mayWait (c : Dev nD) (s : SemLoc sig) (O : CellTallies nD τ sig Unit)
    (h : ∀ g u, 0 < O g u → g.1.2 = .tc ∧ lv ((c : Thread nD τ), s) () < lv g u) : (levAts L lv : sProp 𝕄) ⊢ MayWait (c : Thread nD τ) s () O :=
  MayOwe.of_cut (L := L) (lev := lv) (lv ((c : Thread nD τ), s) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)
theorem mayWait_bar (c : Dev nD) : (levAts L lv : sProp 𝕄) ⊢ MayWait (c : Thread nD τ) (.reg barS) () (oweT c 0) :=
  mayWait c _ _ fun g u hg => by
    obtain ⟨x, -, -, rfl⟩ := oweT_pos hg
    refine ⟨rfl, ?_⟩
    cases u
    rw [lv_recv]; exact lt_of_lt_of_le (show 1 < 2 by decide) (depth_pos x.1)
theorem mayWait_recv {c : Dev nD} {n : ℕ} {x : LT} (he : ev n = (1, x)) (hon : on c n = true) :
    (levAts L lv : sProp 𝕄) ⊢ MayWait (c : Thread nD τ) (.dma (xSem true x)) () (oweT c n) :=
  mayWait c _ _ fun g u hg => by
    obtain ⟨y, ha, hn, rfl⟩ := oweT_pos hg
    refine ⟨rfl, ?_⟩
    cases u
    rw [lv_recv, lv_recv]
    exact tm_depth c x.1 (recv_inact he hon) x.2 y.1 ha y.2 ((recv_tm he hon).le.trans hn)
theorem mayWait_low (c : Dev nD) (s : DmaSem sig) (hs : lv ((c : Thread nD τ), .dma s) () = 0) (n i : ℕ) :
    (levAts L lv : sProp 𝕄) ⊢ MayWait (c : Thread nD τ) (.dma s) () (oweT c n + oweB c i) :=
  mayWait c _ _ fun g u hg => by
    rw [Pi.add_apply, Finsupp.add_apply] at hg
    rw [hs]
    by_cases h1 : 0 < oweT c n g u
    · obtain ⟨x, -, -, rfl⟩ := oweT_pos h1
      exact ⟨rfl, by show 0 < lv _ (); rw [lv_recv]; exact lt_of_lt_of_le (by decide) (depth_pos x.1)⟩
    · obtain ⟨b, rfl⟩ := oweB_pos (c := c) (n := i) (g := g) (u := u) (by omega)
      exact ⟨rfl, Nat.one_pos⟩

/-! ## What a device holds -/

def records (K : Dev nD × KI → ℕ) : sProp 𝕄 :=
  iprop((bigSep Finset.univ fun ck : Dev nD × KI => cellInv ER (Rd m) (K ck) (kcell ck))
    ∗ bigSep Finset.univ fun ck : Dev nD × KI => reached ER (kcell ck) 0)

instance records_persistent (K : Dev nD × KI → ℕ) : BI.Persistent (records (F := F) m K) := by unfold records; infer_instance

theorem rec_inv (K : Dev nD × KI → ℕ) (ck : Dev nD × KI) : records (F := F) m K ⊢ cellInv ER (Rd m) (K ck) (kcell ck) := by
  have h : (bigSep Finset.univ fun ck : Dev nD × KI => (cellInv ER (Rd (F := F) m) (K ck) (kcell ck) : sProp 𝕄)) ⊢ cellInv ER (Rd m) (K ck) (kcell ck) :=
    bigSep_elim (Finset.mem_univ ck)
  unfold records
  iintro ⟨H, -⟩
  iapply h; iexact H
theorem rec_reached (K : Dev nD × KI → ℕ) (ck : Dev nD × KI) : records (F := F) m K ⊢ reached ER (kcell ck) 0 := by
  have h : (bigSep Finset.univ fun ck : Dev nD × KI => (reached ER (kcell ck) 0 : sProp 𝕄)) ⊢ reached ER (kcell ck) 0 :=
    bigSep_elim (Finset.mem_univ ck)
  unfold records
  iintro ⟨-, H⟩
  iapply h; iexact H

/-- The staging buffers: the four inputs at their blocks, the output's at `o`. -/
def stgs (c : Dev nD) (o : Buf (Elt F) ((c : Thread nD τ).loc cc0_stg4_0)) : sProp 𝕄 :=
  iprop((((c : Thread nD τ).loc cc0_stg0_0) ↦{fullShare} iblk m c 0 t0_0)
    ∗ (((c : Thread nD τ).loc cc0_stg1_0) ↦{fullShare} iblk m c 1 t0_0)
    ∗ (((c : Thread nD τ).loc cc0_stg2_0) ↦{fullShare} iblk m c 2 t0_0)
    ∗ (((c : Thread nD τ).loc cc0_stg3_0) ↦{fullShare} iblk m c 3 t0_0)
    ∗ (((c : Thread nD τ).loc cc0_stg4_0) ↦{fullShare} o))

/-- The two tokens that a copy pays with, and the sender's place at its own cell. -/
def ready (c : Dev nD) (x : LT) : sProp 𝕄 :=
  iprop(dutyTok ER (xCell false c x) 0 0 ∗ dutyTok ER (xCell true (dst c x.1) x) 0 0 ∗ atPos ER (xCell false c x) 0 ∅ 0)
/-- The sender's side of copy `x` before step `n`. -/
def outR (c : Dev nD) (n : ℕ) (x : LT) : sProp 𝕄 :=
  if act c x.1 = true then
    if n ≤ tm c 0 x then iprop(ready c x ∗ ∃ f, wPts (dst c x.1) x.2 (dw x.1) fullShare f)
    else if n ≤ tm c 2 x then iprop(atPos ER (xCell false c x) 0 ∅ 0 ∗ cred (tallyAt (xCell false c x) () (amt x.2)))
    else atPos ER (xCell false c x) 1 ∅ 0
  else atPos ER (xCell false c x) 0 ∅ 0
/-- The receiver's side. -/
def inR (c : Dev nD) (n : ℕ) (x : LT) : sProp 𝕄 :=
  if inact c x.1 = true then
    if n ≤ tm c 1 x then iprop(atPos ER (xCell true c x) 0 ∅ 0 ∗ cred (tallyAt (xCell true c x) () (amt x.2)))
    else atPos ER (xCell true c x) 1 ∅ 0
  else atPos ER (xCell true c x) 0 ∅ 0
def pieceR (c : Dev nD) (n : ℕ) (w : Wn) (t : Bool) (h : Fin 6) : sProp 𝕄 :=
  if landed c n w t = true ∧ lent c n w t h = false then wPts c t w (sh h) (Vc m c t w) else iprop(emp)
/-- The window's shares at hand. -/
def winR (c : Dev nD) (n : ℕ) (wt : Wn × Bool) : sProp 𝕄 := bigSep Finset.univ fun h : Fin 6 => pieceR m c n wt.1 wt.2 h
def owesR (c : Dev nD) (O : CellTallies nD τ sig Unit) : sProp 𝕄 := iprop(∃ W, owes (c : Thread nD τ) O W)

def Inv (K : Dev nD × KI → ℕ) (c : Dev nD) (n : ℕ) (o : Buf (Elt F) ((c : Thread nD τ).loc cc0_stg4_0)) : sProp 𝕄 :=
  iprop(records m K ∗ levAts L lv ∗ stgs m c o ∗ atPos ER (barCell c) 1 ∅ 0
    ∗ bigSep Finset.univ (outR c n) ∗ bigSep Finset.univ (inR c n) ∗ bigSep Finset.univ (winR m c n) ∗ owesR c (oweT c n))

theorem outR_succ {c : Dev nD} {n : ℕ} {x : LT} (h0 : act c x.1 = true → tm c 0 x ≠ n) (h2 : act c x.1 = true → tm c 2 x ≠ n) :
    outR (F := F) c (n + 1) x = outR c n x := by
  unfold outR
  by_cases ha : act c x.1 = true
  · have := h0 ha; have := h2 ha
    rw [if_pos ha, if_pos ha]
    simp only [show (n + 1 ≤ tm c 0 x) = (n ≤ tm c 0 x) from propext ⟨fun _ => by omega, fun _ => by omega⟩,
      show (n + 1 ≤ tm c 2 x) = (n ≤ tm c 2 x) from propext ⟨fun _ => by omega, fun _ => by omega⟩]
  · rw [if_neg ha, if_neg ha]
theorem inR_succ {c : Dev nD} {n : ℕ} {x : LT} (h : inact c x.1 = true → tm c 1 x ≠ n) : inR (F := F) c (n + 1) x = inR c n x := by
  unfold inR
  by_cases ha : inact c x.1 = true
  · have := h ha
    rw [if_pos ha, if_pos ha]
    simp only [show (n + 1 ≤ tm c 1 x) = (n ≤ tm c 1 x) from propext ⟨fun _ => by omega, fun _ => by omega⟩]
  · rw [if_neg ha, if_neg ha]
theorem pieceR_succ {c : Dev nD} {n : ℕ} {w : Wn} {t : Bool} {h : Fin 6} (hl : landed c (n + 1) w t = landed c n w t)
    (ht : lent c (n + 1) w t h = lent c n w t h) : pieceR (F := F) m c (n + 1) w t h = pieceR m c n w t h := by
  unfold pieceR; rw [hl, ht]

/-- Off its steps a device holds what it held. -/
theorem Inv_skip (K : Dev nD × KI → ℕ) {c : Dev nD} {n : ℕ} (h : on c n = false) (o) : Inv (F := F) m K c n o = Inv m K c (n + 1) o := by
  have h0 : ∀ x : LT, act c x.1 = true → tm c 0 x ≠ n := fun x hx => tm_ne_of_off (e := 0) h hx
  have h2 : ∀ x : LT, act c x.1 = true → tm c 2 x ≠ n := fun x hx => tm_ne_of_off (e := 2) h hx
  have h1 : ∀ x : LT, inact c x.1 = true → tm c 1 x ≠ n := fun x hx => tm_ne_of_off (e := 1) h hx
  unfold Inv
  rw [oweT_other h0, funext fun x => (outR_succ (F := F) (h0 x) (h2 x)).symm, funext fun x => (inR_succ (F := F) (h1 x)).symm]
  rw [show winR (F := F) m c n = winR m c (n + 1) from funext fun wt => ?_]
  unfold winR
  exact bigSep_congr fun hh _ => (pieceR_succ m (landed_succ fun l hi _ => h1 (l, wt.2) hi)
    (lent_succ fun l ha _ _ => ⟨h0 (l, wt.2) ha, h2 (l, wt.2) ha⟩)).symm

end Cert.KernelIdeal.Run

end
-- ==== Proof.Ideal.Steps.lean ====
/-
# One step of a device, from `Inv` before it to `Inv` after it

A copy started, a copy landed, a copy left, and the loads between them.
-/
module

public import proofs.«01_k».proof.Proof.Ideal.State

@[expose] public section

noncomputable section

namespace Cert.KernelIdeal.Run

open Cert.KernelIdeal Cert.KernelIdeal.Gen Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-- A program on device `c`. -/
abbrev PC (F : FTy → Type) [FloatOps F] [Named F] (α : Type) := Prog (TpuEff nD τ sig (Elt F) Λ₀ .tc) α
/-- It runs, from here to `Q`. -/
abbrev wpc {α : Type} (c : Dev nD) (P : PC F α) (Q : α → sProp 𝕄) : sProp 𝕄 :=
  wp frame (wpE (defs₀ (F := F)) 𝒱₀ (c : Thread nD τ) none) Set.univ P Q

variable (K : Dev nD × KI → ℕ) {c : Dev nD} {n : ℕ} {o : Buf (Elt F) ((c : Thread nD τ).loc cc0_stg4_0)}
variable {α : Type} {Q : α → sProp (MT nD τ sig Unit (Elt F) ℕ UU ℕ)}

theorem outR_ready {x : LT} (ha : act c x.1 = true) (hn : n ≤ tm c 0 x) :
    outR (F := F) c n x = iprop(ready c x ∗ ∃ f, wPts (dst c x.1) x.2 (dw x.1) fullShare f) := by
  unfold outR; rw [if_pos ha, if_pos hn]
theorem outR_flying {x : LT} (ha : act c x.1 = true) (hn : ¬n ≤ tm c 0 x) (h2 : n ≤ tm c 2 x) :
    outR (F := F) c n x = iprop(atPos ER (xCell false c x) 0 ∅ 0 ∗ cred (tallyAt (xCell false c x) () (amt x.2))) := by
  unfold outR; rw [if_pos ha, if_neg hn, if_pos h2]
theorem outR_left {x : LT} (ha : act c x.1 = true) (hn : ¬n ≤ tm c 0 x) (h2 : ¬n ≤ tm c 2 x) :
    outR (F := F) c n x = atPos ER (xCell false c x) 1 ∅ 0 := by
  unfold outR; rw [if_pos ha, if_neg hn, if_neg h2]
theorem inR_flying {x : LT} (ha : inact c x.1 = true) (hn : n ≤ tm c 1 x) :
    inR (F := F) c n x = iprop(atPos ER (xCell true c x) 0 ∅ 0 ∗ cred (tallyAt (xCell true c x) () (amt x.2))) := by
  unfold inR; rw [if_pos ha, if_pos hn]
theorem inR_landed {x : LT} (ha : inact c x.1 = true) (hn : ¬n ≤ tm c 1 x) : inR (F := F) c n x = atPos ER (xCell true c x) 1 ∅ 0 := by
  unfold inR; rw [if_pos ha, if_neg hn]
theorem pieceR_here {w : Wn} {t : Bool} {h : Fin 6} (hl : landed c n w t = true) (hb : lent c n w t h = false) :
    pieceR (F := F) m c n w t h = wPts c t w (sh h) (Vc m c t w) := if_pos ⟨hl, hb⟩
theorem pieceR_gone {w : Wn} {t : Bool} {h : Fin 6} (hb : ¬(landed c n w t = true ∧ lent c n w t h = false)) :
    pieceR (F := F) m c n w t h = iprop(emp) := if_neg hb

/-- The share of a window that copies along `x` borrow, and what is left of the windows. -/
theorem win_update {c : Dev nD} {n : ℕ} (w : Wn) (t : Bool) (h : Fin 6)
    (hl : ∀ w' t', landed c (n + 1) w' t' = landed c n w' t')
    (ht : ∀ w' t' h', ¬(w' = w ∧ t' = t ∧ h' = h) → lent c (n + 1) w' t' h' = lent c n w' t' h') :
    bigSep Finset.univ (winR (F := F) m c n) ⊢ iprop(pieceR m c n w t h ∗ (pieceR m c (n + 1) w t h -∗ bigSep Finset.univ (winR m c (n + 1)))) := by
  have h1 : ∀ y : Wn × Bool, y ≠ (w, t) → winR (F := F) m c (n + 1) y = winR m c n y := fun y hy => by
    unfold winR
    exact bigSep_congr fun h' _ => pieceR_succ m (hl _ _) (ht _ _ _ fun e => hy (Prod.ext e.1 e.2.1))
  have h2 : ∀ h', h' ≠ h → pieceR (F := F) m c (n + 1) w t h' = pieceR m c n w t h' := fun h' hh =>
    pieceR_succ m (hl _ _) (ht _ _ _ fun e => hh e.2.2)
  have hA := bigSep_univ_update (w, t) h1
  have hB : winR (F := F) m c n (w, t) ⊢ iprop(pieceR m c n w t h ∗ (pieceR m c (n + 1) w t h -∗ winR m c (n + 1) (w, t))) := by
    unfold winR; exact bigSep_univ_update h h2
  iintro H
  ihave H := hA $$ H
  icases H with ⟨Hw, Hr⟩
  ihave Hw := hB $$ Hw
  icases Hw with ⟨Hp, Hw⟩
  isplitl [Hp]; · iexact Hp
  iintro Hp
  iapply Hr; iapply Hw; iexact Hp

/-- A copy starts: the share of its source goes, the tokens and the destination's window are spent. -/
theorem step_send {l : Lk} {t : Bool} (he : ev n = (0, (l, t))) (hon : on c n = true) {nd : Dev nD} (hn : nd = dst c l)
    {sM dM : Memref sig .tc .vmem (wS t) (wE t)} (hs : sM = wM t (sw l)) (hd : dM = wM t (dw l))
    {sS sR : SemLoc sig} (hsS : sS = .dma (xSem false (l, t))) (hsR : sR = .dma (xSem true (l, t)))
    {hsc : (dM : Memref sig (Dev.tc nd : Thread nD τ).2.kind .vmem (wS t) (wE t)).view.ref.isScScratch = false}
    {hsrc : sM.view.WordExact} {hdst : dM.view.WordExact}
    {hsem : DmaTarget.Typed .vmem sR (.remote (Dev.tc nd : Thread nD τ) dM sS hsc)}
    {k : PUnit → PC F α} (h : Inv m K c (n + 1) o ⊢ wpc c (k ⟨⟩) Q) :
    Inv m K c n o ⊢ wpc c (.op (.enqueueDma sM (.remote (Dev.tc nd : Thread nD τ) dM sS hsc) sR hsrc hdst hsem) k) Q := by
  subst hn hs hd hsS hsR
  have ha : act c l = true := send_act he hon
  have htm := send_tm he hon
  have hlt := send_later he hon
  have hout : ∀ y : LT, y ≠ (l, t) → outR (F := F) c (n + 1) y = outR c n y := fun y hy =>
    outR_succ (fun hy' => tm_ne (e' := 0) he hy' fun e => hy e.2) (fun hy' => tm_ne (e' := 2) he hy' fun e => absurd e.1 (by decide))
  have hin : inR (F := F) c n = inR c (n + 1) := funext fun y => (inR_succ fun hy' => tm_ne (e' := 1) he hy' fun e => absurd e.1 (by decide)).symm
  have e1 := outR_ready (F := F) (c := c) (n := n) (x := (l, t)) ha htm.ge
  have e2 := outR_flying (F := F) (c := c) (n := n + 1) (x := (l, t)) ha (by omega) hlt
  have e3 := pieceR_here (F := F) m (send_landed he hon) (send_lent he hon)
  have e4 := pieceR_gone (F := F) m (c := c) (n := n + 1) (w := sw l) (t := t) (h := pc l) (fun h' => by rw [send_lent' he hon] at h'; exact absurd h'.2 (by decide))
  dsimp only at e1 e2 e3 e4
  have hw := win_update (F := F) m (sw l) t (pc l) (send_landed_succ (c := c) he) (fun w' t' h' hne => send_lent_succ he w' t' h' hne)
  have hu := bigSep_univ_update (l, t) hout
  rw [e1, e2] at hu
  rw [e3, e4] at hw
  unfold Inv ready owesR at *
  rw [hin]
  iintro ⟨#HR, #HL, Hst, Hb, Hout, Hin, Hwin, ⟨%W, Ho⟩⟩
  ihave H1 := hu $$ Hout
  icases H1 with ⟨⟨⟨Ht1, Ht2, Hp⟩, ⟨%f, Hd⟩⟩, Hout⟩
  ihave H2 := hw $$ Hwin
  icases H2 with ⟨Hs, Hwin⟩
  unfold wPts
  iapply (Rounds.wp_send_pointsTo 𝒱₀ ER (Rd m) (c : Thread nD τ) none (κ₁ := K (c, some (false, (l, t)))) (κ₂ := K (dst c l, some (true, (l, t))))
    (r₁ := 0) (r₂ := 0) (d₁ := 0) (d₂ := 0) (fd := f)
    (by rw [duties_x m false c (l, t) ha]; exact Finset.mem_singleton_self _)
    (by rw [duties_x m true (dst c l) (l, t) (inact_dst c l ha).1]; exact Finset.mem_singleton_self _)
    () () (amt t) (by exact amt_eq t (dw l)) (amount_x m false c (l, t) 0) (amount_x m true (dst c l) (l, t) 0)
    (oweT c (n + 1)) (oweT_send he hon) (W := W)
    (by rw [payload_x]; unfold xPay wPts; exact BI.Entails.refl _)
    (by rw [payload_x]; exact landed_pts m c (dst c l) t (sw l) (dw l) (owner_link c l ha).symm f)) $$ [Ht1 Ht2 Hs Hd Ho]
  · isplitr; · iapply (rec_inv m K (c, some (false, (l, t)))); iexact HR
    isplitr; · iapply (rec_inv m K (dst c l, some (true, (l, t)))); iexact HR
    isplitl [Hs]; · iexact Hs
    isplitl [Hd]; · iexact Hd
    isplitl [Ho]; · iexact Ho
    isplitl [Ht1]; · iexact Ht1
    isplitr; · iapply (rec_reached m K (c, some (false, (l, t)))); iexact HR
    isplitl [Ht2]; · iexact Ht2
    iapply (rec_reached m K (dst c l, some (true, (l, t)))); iexact HR
  iintro ⟨Hc, Ho⟩
  iapply h
  isplitr; · iexact HR
  isplitr; · iexact HL
  isplitl [Hst]; · iexact Hst
  isplitl [Hb]; · iexact Hb
  isplitl [Hout Hp Hc]
  · iapply Hout
    isplitl [Hp] <;> iassumption
  isplitl [Hin]; · iexact Hin
  isplitl [Hwin]; · iapply Hwin; iempintro
  iexists W; iexact Ho

/-- A copy has landed: its window is whole again, filled. -/
theorem step_recv {l : Lk} {t : Bool} (he : ev n = (1, (l, t))) (hon : on c n = true)
    {dM : Memref sig .tc .vmem (wS t) (wE t)} {sM : Memref sig .tc .vmem (wS t) (wE t)} (hd : dM = wM t (dw l)) {sR : DmaSem sig} (hsR : sR = xSem true (l, t))
    {h1 : sM.view.WordExact} {h2 : dM.view.WordExact}
    {k : PUnit → PC F α} (h : Inv m K c (n + 1) o ⊢ wpc c (k ⟨⟩) Q) :
    Inv m K c n o ⊢ wpc c (.op (.waitDma2 sR sM dM h1 h2) k) Q := by
  subst hd hsR
  have ha : inact c l = true := recv_inact he hon
  have htm := recv_tm he hon
  have hout : outR (F := F) c n = outR c (n + 1) := funext fun y =>
    (outR_succ (fun hy' => tm_ne (e' := 0) he hy' fun e => absurd e.1 (by decide)) (fun hy' => tm_ne (e' := 2) he hy' fun e => absurd e.1 (by decide))).symm
  have hin : ∀ y : LT, y ≠ (l, t) → inR (F := F) c (n + 1) y = inR c n y := fun y hy => inR_succ fun hy' => tm_ne (e' := 1) he hy' fun e => hy e.2
  have hwin : ∀ y : Wn × Bool, y ≠ (dw l, t) → winR (F := F) m c (n + 1) y = winR m c n y := fun y hy => by
    unfold winR
    exact bigSep_congr fun h' _ => pieceR_succ m (recv_landed_succ he _ _ fun e => hy (Prod.ext e.1 e.2)) (recv_lent_succ he _ _ _)
  have hO : oweT c n = oweT c (n + 1) := oweT_other fun x hx => tm_ne (e' := 0) he hx fun e => absurd e.1 (by decide)
  have e1 := inR_flying (F := F) (c := c) (n := n) (x := (l, t)) ha htm.ge
  have e2 := inR_landed (F := F) (c := c) (n := n + 1) (x := (l, t)) ha (by omega)
  have e3 : winR (F := F) m c n (dw l, t) = iprop(emp) := by
    unfold winR
    rw [bigSep_congr (s := Finset.univ) (fun h' _ => pieceR_gone (F := F) m (c := c) (n := n) (w := dw l) (t := t) (h := h')
      (fun e => by rw [recv_landed he hon] at e; exact absurd e.1 (by decide)))]
    exact bigSep_emp_const _
  have e4 : winR (F := F) m c (n + 1) (dw l, t) = wPts c t (dw l) fullShare (Vc m c t (dw l)) := by
    rw [wPts_pieces]
    unfold winR
    exact bigSep_congr fun h' _ => pieceR_here (F := F) m (recv_landed' he hon) (recv_lent' he hon h')
  have hw := bigSep_univ_update (dw l, t) hwin
  have hu := bigSep_univ_update (l, t) hin
  rw [e1, e2] at hu
  rw [e3, e4] at hw
  have hm := mayWait_recv (F := F) he hon
  rw [hO] at hm
  unfold Inv owesR at *
  rw [hout, hO]
  iintro ⟨#HR, #HL, Hst, Hb, Hout, Hin, Hwin, ⟨%W, Ho⟩⟩
  ihave H1 := hu $$ Hin
  icases H1 with ⟨⟨Hp, Hc⟩, Hin⟩
  ihave H2 := hw $$ Hwin
  icases H2 with ⟨-, Hwin⟩
  iapply (Rounds.wp_wait_rest_token 𝒱₀ ER (Rd m) (c : Thread nD τ) none (κ := K (c, some (true, (l, t))))
    (wpE_waitDma2_eq 𝒱₀ (c : Thread nD τ) none Set.univ) (Set.mem_univ _) () (O := oweT c (n + 1)) (W := W) (R := 0) (m := 0) (T := ∅)
    (by rw [expect_x m true c (l, t) ha, Nat.zero_add]; exact amt_eq t (dw l))) $$ [Hc Ho Hp]
  · isplitr; · iapply (rec_inv m K (c, some (true, (l, t)))); iexact HR
    isplitl [Hc]; · rw [amt_eq]; iexact Hc
    isplitl [Ho]; · iexact Ho
    isplitr; · iapply hm; iexact HL
    iexact Hp
  iintro ⟨Ho, Hp, -, Hpay⟩
  ihave Hpay := (Entails.of_eq ((rest_x m true c (l, t) ha).trans (show xPay (F := F) m true c (l, t) = wPts c t (dw l) fullShare (Vc m c t (dw l)) from rfl))) $$ Hpay
  iapply h
  isplitr; · iexact HR
  isplitr; · iexact HL
  isplitl [Hst]; · iexact Hst
  isplitl [Hb]; · iexact Hb
  isplitl [Hout]; · iexact Hout
  isplitl [Hin Hp]; · iapply Hin; iexact Hp
  isplitl [Hwin Hpay]; · iapply Hwin; iexact Hpay
  iexists _; iexact Ho

/-- A copy of its own has left: the share of its source is back. -/
theorem step_left {l : Lk} {t : Bool} (he : ev n = (2, (l, t))) (hon : on c n = true)
    {dM : Memref sig .tc .vmem (wS t) (wE t)} {sM : Memref sig .tc .vmem (wS t) (wE t)} {v : Wn} (hd : dM = wM t v) {sR : DmaSem sig} (hsR : sR = xSem false (l, t))
    {h1 : sM.view.WordExact} {h2 : dM.view.WordExact}
    {k : PUnit → PC F α} (h : Inv m K c (n + 1) o ⊢ wpc c (k ⟨⟩) Q) :
    Inv m K c n o ⊢ wpc c (.op (.waitDma2 sR sM dM h1 h2) k) Q := by
  subst hd hsR
  have ha : act c l = true := left_act he hon
  have htm := left_tm he hon
  have hlt := left_later he hon
  have hout : ∀ y : LT, y ≠ (l, t) → outR (F := F) c (n + 1) y = outR c n y := fun y hy =>
    outR_succ (fun hy' => tm_ne (e' := 0) he hy' fun e => absurd e.1 (by decide)) (fun hy' => tm_ne (e' := 2) he hy' fun e => hy e.2)
  have hin : inR (F := F) c n = inR c (n + 1) := funext fun y => (inR_succ fun hy' => tm_ne (e' := 1) he hy' fun e => absurd e.1 (by decide)).symm
  have hO : oweT c n = 0 := by
    unfold oweT
    exact Finset.sum_eq_zero fun x _ => if_neg fun e => by have := left_sent he hon x e.1; omega
  have hO' : oweT c (n + 1) = 0 := by
    rw [← hO]; exact (oweT_other fun x hx => tm_ne (e' := 0) he hx fun e => absurd e.1 (by decide)).symm
  have e1 := outR_flying (F := F) (c := c) (n := n) (x := (l, t)) ha (by omega) htm.ge
  have e2 := outR_left (F := F) (c := c) (n := n + 1) (x := (l, t)) ha (by omega) (by omega)
  have e3 := pieceR_gone (F := F) m (c := c) (n := n) (w := sw l) (t := t) (h := pc l) (fun h' => by rw [left_lent he hon] at h'; exact absurd h'.2 (by decide))
  have e4 := pieceR_here (F := F) m (left_landed' he hon) (left_lent' he hon)
  dsimp only at e1 e2 e3 e4
  have hw := win_update (F := F) m (sw l) t (pc l) (left_landed_succ (c := c) he) (fun w' t' h' hne => left_lent_succ he w' t' h' hne)
  have hu := bigSep_univ_update (l, t) hout
  rw [e1, e2] at hu
  rw [e3, e4] at hw
  unfold Inv owesR at *
  rw [hin, hO]
  rw [hO'] at h
  iintro ⟨#HR, #HL, Hst, Hb, Hout, Hin, Hwin, ⟨%W, Ho⟩⟩
  ihave H1 := hu $$ Hout
  icases H1 with ⟨⟨Hp, Hc⟩, Hout⟩
  ihave H2 := hw $$ Hwin
  icases H2 with ⟨-, Hwin⟩
  iapply (Rounds.wp_wait_rest_token 𝒱₀ ER (Rd m) (c : Thread nD τ) none (κ := K (c, some (false, (l, t))))
    (wpE_waitDma2_eq 𝒱₀ (c : Thread nD τ) none Set.univ) (Set.mem_univ _) () (O := 0) (W := W) (R := 0) (m := 0) (T := ∅)
    (by rw [expect_x m false c (l, t) ha, Nat.zero_add]; exact amt_eq t v)) $$ [Hc Ho Hp]
  · isplitr; · iapply (rec_inv m K (c, some (false, (l, t)))); iexact HR
    isplitl [Hc]; · rw [amt_eq]; iexact Hc
    isplitl [Ho]; · iexact Ho
    isplitr; · rw [MayWait_zero]; iempintro
    iexact Hp
  iintro ⟨Ho, Hp, -, Hpay⟩
  ihave Hpay := (Entails.of_eq ((rest_x m false c (l, t) ha).trans (show xPay (F := F) m false c (l, t) = wPts c t (sw l) (sh (pc l)) (Vc m c t (sw l)) from rfl))) $$ Hpay
  iapply h
  isplitr; · iexact HR
  isplitr; · iexact HL
  isplitl [Hst]; · iexact Hst
  isplitl [Hb]; · iexact Hb
  isplitl [Hout Hp]; · iapply Hout; iexact Hp
  isplitl [Hin]; · iexact Hin
  isplitl [Hwin Hpay]; · iapply Hwin; iexact Hpay
  iexists _; iexact Ho

/-! ## The loads and the store -/

theorem lent_keep (c : Dev nD) (n : ℕ) (w : Wn) (t : Bool) : lent c n w t 0 = false := by
  rw [Bool.eq_false_iff, Ne, lent_iff]
  rintro ⟨l, ha, -, hp, -⟩
  exact (show ∀ c l, act c l = true → pc l ≠ 0 by decide +kernel) c l ha hp

theorem hz2 : (![0, 0] : Fin 2 → Nat) = fun _ => 0 := funext fun a => by fin_cases a <;> rfl

theorem step_load0 {hl} {k : (S256x128.Idx → Elt F .bf16) → PC F α} (h : Inv m K c n o ⊢ wpc c (k (iblk m c 0 t0_0)) Q) :
    Inv m K c n o ⊢ wpc c (.op (.load (Memref.whole cc0_stg0_0 : Memref sig .tc .vmem S256x128 .bf16)
      (Rect.unit (s := S256x128) ![0, 0] S256x128.size inb_S256x128_S256x128_0_0).toLoadRect hl) k) Q := by
  unfold Inv stgs at *
  iintro ⟨HR, HL, ⟨H0, H1, H2, H3, H4⟩, Hr⟩
  iapply (wp_load 𝒱₀ (c : Thread nD τ) none Set.univ (m := Memref.whole cc0_stg0_0) (Finset.subset_univ _)) $$ H0; iintro H0
  rw [show (Memref.whole cc0_stg0_0 : Memref sig .tc .vmem S256x128 _).view.readAt (Elt F) (Rect.unit (s := S256x128) ![0, 0] S256x128.size inb_S256x128_S256x128_0_0).toLoadRect _ = _ from
    Memref.readAt_unit_zero (Elt F) cc0_stg0_0 hz2 _ _]
  iapply h
  isplitl [HR]; · iexact HR
  isplitl [HL]; · iexact HL
  isplitl [H0 H1 H2 H3 H4]
  · isplitl [H0]; · iexact H0
    isplitl [H1]; · iexact H1
    isplitl [H2]; · iexact H2
    isplitl [H3] <;> iassumption
  iexact Hr

theorem step_load1 {hl} {k : (S128x32.Idx → Elt F .bf16) → PC F α} (h : Inv m K c n o ⊢ wpc c (k (iblk m c 1 t0_0)) Q) :
    Inv m K c n o ⊢ wpc c (.op (.load (Memref.whole cc0_stg1_0 : Memref sig .tc .vmem S128x32 .bf16)
      (Rect.unit (s := S128x32) ![0, 0] S128x32.size inb_S128x32_S128x32_0_0).toLoadRect hl) k) Q := by
  unfold Inv stgs at *
  iintro ⟨HR, HL, ⟨H0, H1, H2, H3, H4⟩, Hr⟩
  iapply (wp_load 𝒱₀ (c : Thread nD τ) none Set.univ (m := Memref.whole cc0_stg1_0) (Finset.subset_univ _)) $$ H1; iintro H1
  rw [show (Memref.whole cc0_stg1_0 : Memref sig .tc .vmem S128x32 _).view.readAt (Elt F) (Rect.unit (s := S128x32) ![0, 0] S128x32.size inb_S128x32_S128x32_0_0).toLoadRect _ = _ from
    Memref.readAt_unit_zero (Elt F) cc0_stg1_0 hz2 _ _]
  iapply h
  isplitl [HR]; · iexact HR
  isplitl [HL]; · iexact HL
  isplitl [H0 H1 H2 H3 H4]
  · isplitl [H0]; · iexact H0
    isplitl [H1]; · iexact H1
    isplitl [H2]; · iexact H2
    isplitl [H3] <;> iassumption
  iexact Hr

theorem step_load2 {hl} {k : (S256x2.Idx → Elt F .i32) → PC F α} (h : Inv m K c n o ⊢ wpc c (k (iblk m c 2 t0_0)) Q) :
    Inv m K c n o ⊢ wpc c (.op (.load (Memref.whole cc0_stg2_0 : Memref sig .tc .vmem S256x2 .i32)
      (Rect.unit (s := S256x2) ![0, 0] S256x2.size inb_S256x2_S256x2_0_0).toLoadRect hl) k) Q := by
  unfold Inv stgs at *
  iintro ⟨HR, HL, ⟨H0, H1, H2, H3, H4⟩, Hr⟩
  iapply (wp_load 𝒱₀ (c : Thread nD τ) none Set.univ (m := Memref.whole cc0_stg2_0) (Finset.subset_univ _)) $$ H2; iintro H2
  rw [show (Memref.whole cc0_stg2_0 : Memref sig .tc .vmem S256x2 _).view.readAt (Elt F) (Rect.unit (s := S256x2) ![0, 0] S256x2.size inb_S256x2_S256x2_0_0).toLoadRect _ = _ from
    Memref.readAt_unit_zero (Elt F) cc0_stg2_0 hz2 _ _]
  iapply h
  isplitl [HR]; · iexact HR
  isplitl [HL]; · iexact HL
  isplitl [H0 H1 H2 H3 H4]
  · isplitl [H0]; · iexact H0
    isplitl [H1]; · iexact H1
    isplitl [H2]; · iexact H2
    isplitl [H3] <;> iassumption
  iexact Hr

/-- A load of the output buffer: its value is not used. -/
theorem step_load4 {hl} {k : (S256x256.Idx → Elt F .f32) → PC F α} (h : ∀ v, Inv m K c n o ⊢ wpc c (k v) Q) :
    Inv m K c n o ⊢ wpc c (.op (.load (Memref.whole cc0_stg4_0 : Memref sig .tc .vmem S256x256 .f32)
      (Rect.unit (s := S256x256) ![0, 0] S256x256.size inb_S256x256_S256x256_0_0).toLoadRect hl) k) Q := by
  have h := h o
  unfold Inv stgs at *
  iintro ⟨HR, HL, ⟨H0, H1, H2, H3, H4⟩, Hr⟩
  iapply (wp_load 𝒱₀ (c : Thread nD τ) none Set.univ (m := Memref.whole cc0_stg4_0) (Finset.subset_univ _)) $$ H4; iintro H4
  rw [show (Memref.whole cc0_stg4_0 : Memref sig .tc .vmem S256x256 _).view.readAt (Elt F) (Rect.unit (s := S256x256) ![0, 0] S256x256.size inb_S256x256_S256x256_0_0).toLoadRect _ = _ from
    Memref.readAt_unit_zero (Elt F) cc0_stg4_0 hz2 _ _]
  iapply h
  isplitl [HR]; · iexact HR
  isplitl [HL]; · iexact HL
  isplitl [H0 H1 H2 H3 H4]
  · isplitl [H0]; · iexact H0
    isplitl [H1]; · iexact H1
    isplitl [H2]; · iexact H2
    isplitl [H3] <;> iassumption
  iexact Hr
theorem step_store4 {w : S256x256.Idx → Elt F .f32} {hx hm} {k : PUnit → PC F α} (h : Inv m K c n w ⊢ wpc c (k ⟨⟩) Q) :
    Inv m K c n o ⊢ wpc c (.op (.store (Memref.whole cc0_stg4_0 : Memref sig .tc .vmem S256x256 .f32)
      (Rect.unit (s := S256x256) ![0, 0] S256x256.size inb_S256x256_S256x256_0_0) w Finset.univ hx hm) k) Q := by
  unfold Inv stgs at *
  iintro ⟨HR, HL, ⟨H0, H1, H2, H3, H4⟩, Hr⟩
  iapply (wp_store 𝒱₀ (c : Thread nD τ) none Set.univ (m := Memref.whole cc0_stg4_0)
    (r := Rect.unit (s := S256x256) ![0, 0] S256x256.size inb_S256x256_S256x256_0_0) (Mk := Finset.univ) (Finset.subset_univ _)) $$ H4; iintro H4
  rw [show ((Memref.whole cc0_stg4_0 : Memref sig .tc .vmem S256x256 .f32).access (Rect.unit (s := S256x256) ![0, 0] S256x256.size inb_S256x256_S256x256_0_0) : View sig .tc _ _ _).write (Elt F) o w Finset.univ = w from
    Memref.write_access_unit_zero_univ (Elt F) cc0_stg4_0 hz2 _ _ w]
  iapply h
  isplitl [HR]; · iexact HR
  isplitl [HL]; · iexact HL
  isplitl [H0 H1 H2 H3 H4]
  · isplitl [H0]; · iexact H0
    isplitl [H1]; · iexact H1
    isplitl [H2]; · iexact H2
    isplitl [H3] <;> iassumption
  iexact Hr

/-- What a load of the scale buffer gives. -/
def scAt (c : Dev nD) (r : Rect S4x4x2) : r.shape.Idx → Elt F .f32 := fun x => Vs m c (r.emb x)
/-- What a load of the block buffer gives. -/
def bufAt (c : Dev nD) (r : Rect S4x4x2x128x256) : r.shape.Idx → Elt F .i8 := fun x => Vb m c (r.emb x)

theorem sep_assoc_eq (A B C : sProp 𝕄) : iprop((A ∗ B) ∗ C) = iprop(A ∗ B ∗ C) := by
  have h1 : iprop((A ∗ B) ∗ C) ⊢ iprop(A ∗ B ∗ C) := by
    iintro ⟨⟨HA, HB⟩, HC⟩
    isplitl [HA]; · iexact HA
    isplitl [HB] <;> iassumption
  have h2 : iprop(A ∗ B ∗ C) ⊢ iprop((A ∗ B) ∗ C) := by
    iintro ⟨HA, HB, HC⟩
    isplitr [HC]
    · isplitl [HA] <;> iassumption
    iexact HC
  exact BI.Entails.antisymm h1 h2

theorem win_one {w : Wn} {t : Bool} (hl : landed c n w t = true) :
    ∃ R : sProp 𝕄, bigSep Finset.univ (winR (F := F) m c n) = iprop(wPts c t w (sh 0) (Vc m c t w) ∗ R) := by
  refine ⟨iprop(bigSep (Finset.univ.erase (0 : Fin 6)) (fun h => pieceR m c n w t h) ∗ bigSep (Finset.univ.erase (w, t)) (winR m c n)), ?_⟩
  rw [bigSep_univ_at _ (w, t)]
  conv_lhs => unfold winR
  rw [bigSep_univ_at _ (0 : Fin 6), pieceR_here m hl (lent_keep c n w t)]
  exact sep_assoc_eq _ _ _

theorem sc_sub (w : Wn) (off : Fin 3 → ℕ) (inb) (h0 : off 0 = w.1.val) (h1 : off 1 = w.2.val) :
    (Rect.unit (s := S4x4x2) off S1x1x1.size inb).set ⊆ (rS w).set := fun i hi => by
  rw [Rect.mem_set_unit] at hi ⊢
  intro a
  have h := hi a
  fin_cases a
  · have h : off 0 ≤ (i 0).val ∧ (i 0).val < off 0 + 1 := h
    show w.1.val ≤ (i 0).val ∧ (i 0).val < w.1.val + 1
    omega
  · have h : off 1 ≤ (i 1).val ∧ (i 1).val < off 1 + 1 := h
    show w.2.val ≤ (i 1).val ∧ (i 1).val < w.2.val + 1
    omega
  · show 0 ≤ (i 2).val ∧ (i 2).val < 0 + 2
    have := (i 2).isLt
    have h2 : S4x4x2.size 2 = 2 := rfl
    omega

theorem step_sc (w : Wn) {r : Rect S4x4x2} (hr : r.set ⊆ (rS w).set) (hl : landed c n w true = true) {hld}
    {k : (r.shape.Idx → Elt F .f32) → PC F α} (h : Inv m K c n o ⊢ wpc c (k (scAt m c r)) Q) :
    Inv m K c n o ⊢ wpc c (.op (.load (Memref.whole cc0_scratch1 : Memref sig .tc .vmem S4x4x2 .f32) r.toLoadRect hld) k) Q := by
  obtain ⟨R, hR⟩ := win_one (F := F) m hl
  have hS : ((Memref.whole cc0_scratch1 : Memref sig .tc .vmem S4x4x2 .f32).access r).set ⊆ (wM true w).view.set := by
    rw [set_sc]
    show ((View.whole cc0_scratch1).slice r).set ⊆ _
    rw [View.set_slice_whole]; exact hr
  unfold Inv at *
  rw [hR] at h ⊢
  unfold wPts at *
  iintro ⟨HR, HL, Hst, Hb, Hout, Hin, ⟨Hw, Hwin⟩, Ho⟩
  iapply (wp_load_rect 𝒱₀ (c : Thread nD τ) none Set.univ (m := Memref.whole cc0_scratch1) hS) $$ Hw; iintro Hw
  iapply h
  isplitl [HR]; · iexact HR
  isplitl [HL]; · iexact HL
  isplitl [Hst]; · iexact Hst
  isplitl [Hb]; · iexact Hb
  isplitl [Hout]; · iexact Hout
  isplitl [Hin]; · iexact Hin
  isplitl [Hw Hwin]
  · isplitl [Hw] <;> iassumption
  iexact Ho

theorem bigSep_parts {I : Type} [DecidableEq I] {s t : Finset I} (h : t ⊆ s) (Φ : I → sProp 𝕄) :
    bigSep s Φ = iprop(bigSep t Φ ∗ bigSep (s \ t) Φ) := bigSep_sdiff_split h

theorem win_slab (k : Fin 4) (hl : ∀ j, landed c n (k, j) false = true) :
    ∃ R : sProp 𝕄, bigSep Finset.univ (winR (F := F) m c n)
      = iprop((((c : Thread nD τ).loc cc0_scratch0) ↦[Finset.univ.biUnion fun j : Fin 4 => (rB (k, j)).set]{sh 0} Vb m c) ∗ R) := by
  have hinj : Set.InjOn (fun j : Fin 4 => (((k, j), false) : Wn × Bool)) (Finset.univ : Finset (Fin 4)) := fun a _ b _ e =>
    congrArg (fun x : Wn × Bool => x.1.2) e
  have hd : ∀ a ∈ (Finset.univ : Finset (Fin 4)), ∀ b ∈ (Finset.univ : Finset (Fin 4)), a ≠ b → Disjoint (rB (k, a)).set (rB (k, b)).set := fun a _ b _ hab =>
    Finset.disjoint_left.mpr fun i hi hi' => by
      rw [Rect.mem_set_unit] at hi hi'
      have h1 : a.val ≤ (i 1).val ∧ (i 1).val < a.val + 1 := hi 1
      have h2 : b.val ≤ (i 1).val ∧ (i 1).val < b.val + 1 := hi' 1
      exact hab (Fin.ext (by omega))
  refine ⟨iprop(bigSep Finset.univ (fun j : Fin 4 => bigSep (Finset.univ.erase (0 : Fin 6)) (fun h => pieceR m c n (k, j) false h))
    ∗ bigSep (Finset.univ \ Finset.univ.image fun j : Fin 4 => (((k, j), false) : Wn × Bool)) (winR m c n)), ?_⟩
  rw [bigSep_parts (s := Finset.univ) (t := Finset.univ.image fun j : Fin 4 => (((k, j), false) : Wn × Bool)) (Finset.subset_univ _),
    bigSep_image_of_injOn hinj, pointsTo_biUnion _ _ hd]
  have e : ∀ j : Fin 4, winR (F := F) m c n ((k, j), false)
      = iprop((((c : Thread nD τ).loc cc0_scratch0) ↦[(rB (k, j)).set]{sh 0} Vb m c) ∗ bigSep (Finset.univ.erase (0 : Fin 6)) (fun h => pieceR m c n (k, j) false h)) := fun j => by
    unfold winR
    rw [bigSep_univ_at _ (0 : Fin 6), pieceR_here m (hl j) (lent_keep c n (k, j) false)]
    unfold wPts
    rw [set_buf]
    rfl
  rw [bigSep_congr (s := (Finset.univ : Finset (Fin 4))) fun j _ => e j, bigSep_sep']
  exact sep_assoc_eq _ _ _

theorem slab_sub (k : Fin 4) (off : Fin 5 → ℕ) (inb) (h0 : off 0 = k.val) :
    (Rect.unit (s := S4x4x2x128x256) off S1x4x2x128x256.size inb).set ⊆ Finset.univ.biUnion fun j : Fin 4 => (rB (k, j)).set := fun i hi => by
  rw [Rect.mem_set_unit] at hi
  refine Finset.mem_biUnion.mpr ⟨i 1, Finset.mem_univ _, ?_⟩
  rw [Rect.mem_set_unit]
  intro a
  have h : off 0 ≤ (i 0).val ∧ (i 0).val < off 0 + 1 := hi 0
  fin_cases a
  · show k.val ≤ (i 0).val ∧ (i 0).val < k.val + 1
    omega
  · show (i 1).val ≤ (i 1).val ∧ (i 1).val < (i 1).val + 1
    omega
  · show 0 ≤ (i 2).val ∧ (i 2).val < 0 + 2
    exact ⟨Nat.zero_le _, (i 2).isLt⟩
  · show 0 ≤ (i 3).val ∧ (i 3).val < 0 + 128
    exact ⟨Nat.zero_le _, (i 3).isLt⟩
  · show 0 ≤ (i 4).val ∧ (i 4).val < 0 + 256
    exact ⟨Nat.zero_le _, (i 4).isLt⟩

theorem step_slab (w : Fin 4) {r : Rect S4x4x2x128x256} (hr : r.set ⊆ Finset.univ.biUnion fun j : Fin 4 => (rB (w, j)).set)
    (hl : ∀ j, landed c n (w, j) false = true) {hld}
    {k : (r.shape.Idx → Elt F .i8) → PC F α} (h : Inv m K c n o ⊢ wpc c (k (bufAt m c r)) Q) :
    Inv m K c n o ⊢ wpc c (.op (.load (Memref.whole cc0_scratch0 : Memref sig .tc .vmem S4x4x2x128x256 .i8) r.toLoadRect hld) k) Q := by
  obtain ⟨R, hR⟩ := win_slab (F := F) m w hl
  have hS : ((Memref.whole cc0_scratch0 : Memref sig .tc .vmem S4x4x2x128x256 .i8).access r).set ⊆ Finset.univ.biUnion fun j : Fin 4 => (rB (w, j)).set := by
    show ((View.whole cc0_scratch0).slice r).set ⊆ _
    rw [View.set_slice_whole]; exact hr
  unfold Inv at *
  rw [hR] at h ⊢
  iintro ⟨HR, HL, Hst, Hb, Hout, Hin, ⟨Hw, Hwin⟩, Ho⟩
  iapply (wp_load_rect 𝒱₀ (c : Thread nD τ) none Set.univ (m := Memref.whole cc0_scratch0) hS) $$ Hw; iintro Hw
  iapply h
  isplitl [HR]; · iexact HR
  isplitl [HL]; · iexact HL
  isplitl [Hst]; · iexact Hst
  isplitl [Hb]; · iexact Hb
  isplitl [Hout]; · iexact Hout
  isplitl [Hin]; · iexact Hin
  isplitl [Hw Hwin]
  · isplitl [Hw] <;> iassumption
  iexact Ho

end Cert.KernelIdeal.Run

end
-- ==== Proof.Ideal.Words.lean ====
/-
# The words that a device computes: its own place, the guards of its steps, the devices it sends to
-/
module

public import proofs.«01_k».proof.Proof.Ideal.Steps
public import proofs.«01_k».proof.Proof.Events

@[expose] public section

noncomputable section

namespace Cert.KernelIdeal.Run

open Cert.KernelIdeal Cert.KernelIdeal.Gen Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- A device's number as the program computes it. -/
def idW (c : Dev nD) : BitVec 32 := (Scalar.remsi (Scalar.divsi (Dev.word c) 1#32) 16#32)
/-- Its plane. -/
def zW (c : Dev nD) : BitVec 32 := (Scalar.select (Scalar.andi (Scalar.cmpi .ne (Scalar.subi (Scalar.extui (Scalar.cmpi .sgt (idW c) 0#32)) (Scalar.extui (Scalar.cmpi .slt (idW c) 0#32))) (Scalar.subi (Scalar.extui (Scalar.cmpi .sgt 4#32 0#32)) (Scalar.extui (Scalar.cmpi .slt 4#32 0#32)))) (Scalar.cmpi .ne (Scalar.remsi (idW c) 4#32) 0#32)) (Scalar.subi (Scalar.divsi (idW c) 4#32) 1#32) (Scalar.divsi (idW c) 4#32))
/-- Its place in the plane. -/
def pW (c : Dev nD) : BitVec 32 := (Scalar.remsi (idW c) 4#32)

theorem cond_3 : ∀ c : Dev nD, k0_cond3 c = 1#1 ↔ on c 0 = true := by decide +kernel
theorem k0_dev6_to : ∀ c : Dev nD, act c 0 = true → k0_dev6 c = (dst c 0).val := by decide +kernel
theorem k0_dev6_eq (c : Dev nD) (h : k0_dev6 c < nD) (ha : act c 0 = true) : (⟨k0_dev6 c, h⟩ : Dev nD) = dst c 0 := Fin.ext (k0_dev6_to c ha)
theorem cond_4 : ∀ c : Dev nD, k0_cond4 c = 1#1 ↔ on c 1 = true := by decide +kernel
theorem k0_dev7_to : ∀ c : Dev nD, act c 0 = true → k0_dev7 c = (dst c 0).val := by decide +kernel
theorem k0_dev7_eq (c : Dev nD) (h : k0_dev7 c < nD) (ha : act c 0 = true) : (⟨k0_dev7 c, h⟩ : Dev nD) = dst c 0 := Fin.ext (k0_dev7_to c ha)
theorem cond_5 : ∀ c : Dev nD, k0_cond5 c = 1#1 ↔ on c 2 = true := by decide +kernel
theorem k0_dev8_to : ∀ c : Dev nD, act c 3 = true → k0_dev8 c = (dst c 3).val := by decide +kernel
theorem k0_dev8_eq (c : Dev nD) (h : k0_dev8 c < nD) (ha : act c 3 = true) : (⟨k0_dev8 c, h⟩ : Dev nD) = dst c 3 := Fin.ext (k0_dev8_to c ha)
theorem cond_6 : ∀ c : Dev nD, k0_cond6 c = 1#1 ↔ on c 3 = true := by decide +kernel
theorem k0_dev9_to : ∀ c : Dev nD, act c 3 = true → k0_dev9 c = (dst c 3).val := by decide +kernel
theorem k0_dev9_eq (c : Dev nD) (h : k0_dev9 c < nD) (ha : act c 3 = true) : (⟨k0_dev9 c, h⟩ : Dev nD) = dst c 3 := Fin.ext (k0_dev9_to c ha)
theorem k0_dev10_to : ∀ c : Dev nD, act c 10 = true → k0_dev10 c = (dst c 10).val := by decide +kernel
theorem k0_dev10_eq (c : Dev nD) (h : k0_dev10 c < nD) (ha : act c 10 = true) : (⟨k0_dev10 c, h⟩ : Dev nD) = dst c 10 := Fin.ext (k0_dev10_to c ha)
theorem k0_dev11_to : ∀ c : Dev nD, act c 10 = true → k0_dev11 c = (dst c 10).val := by decide +kernel
theorem k0_dev11_eq (c : Dev nD) (h : k0_dev11 c < nD) (ha : act c 10 = true) : (⟨k0_dev11 c, h⟩ : Dev nD) = dst c 10 := Fin.ext (k0_dev11_to c ha)
theorem k0_dev12_to : ∀ c : Dev nD, act c 14 = true → k0_dev12 c = (dst c 14).val := by decide +kernel
theorem k0_dev12_eq (c : Dev nD) (h : k0_dev12 c < nD) (ha : act c 14 = true) : (⟨k0_dev12 c, h⟩ : Dev nD) = dst c 14 := Fin.ext (k0_dev12_to c ha)
theorem k0_dev13_to : ∀ c : Dev nD, act c 14 = true → k0_dev13 c = (dst c 14).val := by decide +kernel
theorem k0_dev13_eq (c : Dev nD) (h : k0_dev13 c < nD) (ha : act c 14 = true) : (⟨k0_dev13 c, h⟩ : Dev nD) = dst c 14 := Fin.ext (k0_dev13_to c ha)
theorem k0_dev14_to : ∀ c : Dev nD, act c 18 = true → k0_dev14 c = (dst c 18).val := by decide +kernel
theorem k0_dev14_eq (c : Dev nD) (h : k0_dev14 c < nD) (ha : act c 18 = true) : (⟨k0_dev14 c, h⟩ : Dev nD) = dst c 18 := Fin.ext (k0_dev14_to c ha)
theorem k0_dev15_to : ∀ c : Dev nD, act c 18 = true → k0_dev15 c = (dst c 18).val := by decide +kernel
theorem k0_dev15_eq (c : Dev nD) (h : k0_dev15 c < nD) (ha : act c 18 = true) : (⟨k0_dev15 c, h⟩ : Dev nD) = dst c 18 := Fin.ext (k0_dev15_to c ha)
theorem cond_7 : ∀ c : Dev nD, (Scalar.cmpi .ne (Scalar.extui (Scalar.cmpi .sge (zW c) 1#32)) 0#32) = 1#1 ↔ on c 10 = true := by decide +kernel
theorem cond_8 : ∀ c : Dev nD, (Scalar.cmpi .ne (Scalar.extui (Scalar.cmpi .sge (zW c) 1#32)) 0#32) = 1#1 ↔ on c 11 = true := by decide +kernel
theorem cond_9 : ∀ c : Dev nD, k0_cond9 c = 1#1 ↔ on c 12 = true := by decide +kernel
theorem k0_dev16_to : ∀ c : Dev nD, act c 1 = true → k0_dev16 c = (dst c 1).val := by decide +kernel
theorem k0_dev16_eq (c : Dev nD) (h : k0_dev16 c < nD) (ha : act c 1 = true) : (⟨k0_dev16 c, h⟩ : Dev nD) = dst c 1 := Fin.ext (k0_dev16_to c ha)
theorem cond_10 : ∀ c : Dev nD, k0_cond10 c = 1#1 ↔ on c 13 = true := by decide +kernel
theorem k0_dev17_to : ∀ c : Dev nD, act c 1 = true → k0_dev17 c = (dst c 1).val := by decide +kernel
theorem k0_dev17_eq (c : Dev nD) (h : k0_dev17 c < nD) (ha : act c 1 = true) : (⟨k0_dev17 c, h⟩ : Dev nD) = dst c 1 := Fin.ext (k0_dev17_to c ha)
theorem cond_11 : ∀ c : Dev nD, k0_cond11 c = 1#1 ↔ on c 14 = true := by decide +kernel
theorem k0_dev18_to : ∀ c : Dev nD, act c 13 = true → k0_dev18 c = (dst c 13).val := by decide +kernel
theorem k0_dev18_eq (c : Dev nD) (h : k0_dev18 c < nD) (ha : act c 13 = true) : (⟨k0_dev18 c, h⟩ : Dev nD) = dst c 13 := Fin.ext (k0_dev18_to c ha)
theorem k0_dev19_to : ∀ c : Dev nD, act c 13 = true → k0_dev19 c = (dst c 13).val := by decide +kernel
theorem k0_dev19_eq (c : Dev nD) (h : k0_dev19 c < nD) (ha : act c 13 = true) : (⟨k0_dev19 c, h⟩ : Dev nD) = dst c 13 := Fin.ext (k0_dev19_to c ha)
theorem k0_dev20_to : ∀ c : Dev nD, act c 17 = true → k0_dev20 c = (dst c 17).val := by decide +kernel
theorem k0_dev20_eq (c : Dev nD) (h : k0_dev20 c < nD) (ha : act c 17 = true) : (⟨k0_dev20 c, h⟩ : Dev nD) = dst c 17 := Fin.ext (k0_dev20_to c ha)
theorem k0_dev21_to : ∀ c : Dev nD, act c 17 = true → k0_dev21 c = (dst c 17).val := by decide +kernel
theorem k0_dev21_eq (c : Dev nD) (h : k0_dev21 c < nD) (ha : act c 17 = true) : (⟨k0_dev21 c, h⟩ : Dev nD) = dst c 17 := Fin.ext (k0_dev21_to c ha)
theorem k0_dev22_to : ∀ c : Dev nD, act c 21 = true → k0_dev22 c = (dst c 21).val := by decide +kernel
theorem k0_dev22_eq (c : Dev nD) (h : k0_dev22 c < nD) (ha : act c 21 = true) : (⟨k0_dev22 c, h⟩ : Dev nD) = dst c 21 := Fin.ext (k0_dev22_to c ha)
theorem k0_dev23_to : ∀ c : Dev nD, act c 21 = true → k0_dev23 c = (dst c 21).val := by decide +kernel
theorem k0_dev23_eq (c : Dev nD) (h : k0_dev23 c < nD) (ha : act c 21 = true) : (⟨k0_dev23 c, h⟩ : Dev nD) = dst c 21 := Fin.ext (k0_dev23_to c ha)
theorem cond_12 : ∀ c : Dev nD, (Scalar.cmpi .ne (Scalar.extui (Scalar.cmpi .sle (zW c) 2#32)) 0#32) = 1#1 ↔ on c 20 = true := by decide +kernel
theorem cond_13 : ∀ c : Dev nD, (Scalar.cmpi .ne (Scalar.extui (Scalar.cmpi .sle (zW c) 2#32)) 0#32) = 1#1 ↔ on c 21 = true := by decide +kernel
theorem cond_14 : ∀ c : Dev nD, k0_cond14 c = 1#1 ↔ on c 22 = true := by decide +kernel
theorem k0_dev24_to : ∀ c : Dev nD, act c 4 = true → k0_dev24 c = (dst c 4).val := by decide +kernel
theorem k0_dev24_eq (c : Dev nD) (h : k0_dev24 c < nD) (ha : act c 4 = true) : (⟨k0_dev24 c, h⟩ : Dev nD) = dst c 4 := Fin.ext (k0_dev24_to c ha)
theorem cond_15 : ∀ c : Dev nD, k0_cond15 c = 1#1 ↔ on c 23 = true := by decide +kernel
theorem k0_dev25_to : ∀ c : Dev nD, act c 4 = true → k0_dev25 c = (dst c 4).val := by decide +kernel
theorem k0_dev25_eq (c : Dev nD) (h : k0_dev25 c < nD) (ha : act c 4 = true) : (⟨k0_dev25 c, h⟩ : Dev nD) = dst c 4 := Fin.ext (k0_dev25_to c ha)
theorem cond_16 : ∀ c : Dev nD, k0_cond16 c = 1#1 ↔ on c 24 = true := by decide +kernel
theorem k0_dev26_to : ∀ c : Dev nD, act c 11 = true → k0_dev26 c = (dst c 11).val := by decide +kernel
theorem k0_dev26_eq (c : Dev nD) (h : k0_dev26 c < nD) (ha : act c 11 = true) : (⟨k0_dev26 c, h⟩ : Dev nD) = dst c 11 := Fin.ext (k0_dev26_to c ha)
theorem k0_dev27_to : ∀ c : Dev nD, act c 11 = true → k0_dev27 c = (dst c 11).val := by decide +kernel
theorem k0_dev27_eq (c : Dev nD) (h : k0_dev27 c < nD) (ha : act c 11 = true) : (⟨k0_dev27 c, h⟩ : Dev nD) = dst c 11 := Fin.ext (k0_dev27_to c ha)
theorem k0_dev28_to : ∀ c : Dev nD, act c 15 = true → k0_dev28 c = (dst c 15).val := by decide +kernel
theorem k0_dev28_eq (c : Dev nD) (h : k0_dev28 c < nD) (ha : act c 15 = true) : (⟨k0_dev28 c, h⟩ : Dev nD) = dst c 15 := Fin.ext (k0_dev28_to c ha)
theorem k0_dev29_to : ∀ c : Dev nD, act c 15 = true → k0_dev29 c = (dst c 15).val := by decide +kernel
theorem k0_dev29_eq (c : Dev nD) (h : k0_dev29 c < nD) (ha : act c 15 = true) : (⟨k0_dev29 c, h⟩ : Dev nD) = dst c 15 := Fin.ext (k0_dev29_to c ha)
theorem k0_dev30_to : ∀ c : Dev nD, act c 19 = true → k0_dev30 c = (dst c 19).val := by decide +kernel
theorem k0_dev30_eq (c : Dev nD) (h : k0_dev30 c < nD) (ha : act c 19 = true) : (⟨k0_dev30 c, h⟩ : Dev nD) = dst c 19 := Fin.ext (k0_dev30_to c ha)
theorem k0_dev31_to : ∀ c : Dev nD, act c 19 = true → k0_dev31 c = (dst c 19).val := by decide +kernel
theorem k0_dev31_eq (c : Dev nD) (h : k0_dev31 c < nD) (ha : act c 19 = true) : (⟨k0_dev31 c, h⟩ : Dev nD) = dst c 19 := Fin.ext (k0_dev31_to c ha)
theorem cond_17 : ∀ c : Dev nD, (Scalar.cmpi .ne (Scalar.extui (Scalar.cmpi .sge (zW c) 2#32)) 0#32) = 1#1 ↔ on c 30 = true := by decide +kernel
theorem cond_18 : ∀ c : Dev nD, (Scalar.cmpi .ne (Scalar.extui (Scalar.cmpi .sge (zW c) 2#32)) 0#32) = 1#1 ↔ on c 31 = true := by decide +kernel
theorem cond_19 : ∀ c : Dev nD, k0_cond19 c = 1#1 ↔ on c 32 = true := by decide +kernel
theorem k0_dev32_to : ∀ c : Dev nD, act c 2 = true → k0_dev32 c = (dst c 2).val := by decide +kernel
theorem k0_dev32_eq (c : Dev nD) (h : k0_dev32 c < nD) (ha : act c 2 = true) : (⟨k0_dev32 c, h⟩ : Dev nD) = dst c 2 := Fin.ext (k0_dev32_to c ha)
theorem cond_20 : ∀ c : Dev nD, k0_cond20 c = 1#1 ↔ on c 33 = true := by decide +kernel
theorem k0_dev33_to : ∀ c : Dev nD, act c 2 = true → k0_dev33 c = (dst c 2).val := by decide +kernel
theorem k0_dev33_eq (c : Dev nD) (h : k0_dev33 c < nD) (ha : act c 2 = true) : (⟨k0_dev33 c, h⟩ : Dev nD) = dst c 2 := Fin.ext (k0_dev33_to c ha)
theorem cond_21 : ∀ c : Dev nD, k0_cond21 c = 1#1 ↔ on c 34 = true := by decide +kernel
theorem k0_dev34_to : ∀ c : Dev nD, act c 12 = true → k0_dev34 c = (dst c 12).val := by decide +kernel
theorem k0_dev34_eq (c : Dev nD) (h : k0_dev34 c < nD) (ha : act c 12 = true) : (⟨k0_dev34 c, h⟩ : Dev nD) = dst c 12 := Fin.ext (k0_dev34_to c ha)
theorem k0_dev35_to : ∀ c : Dev nD, act c 12 = true → k0_dev35 c = (dst c 12).val := by decide +kernel
theorem k0_dev35_eq (c : Dev nD) (h : k0_dev35 c < nD) (ha : act c 12 = true) : (⟨k0_dev35 c, h⟩ : Dev nD) = dst c 12 := Fin.ext (k0_dev35_to c ha)
theorem k0_dev36_to : ∀ c : Dev nD, act c 16 = true → k0_dev36 c = (dst c 16).val := by decide +kernel
theorem k0_dev36_eq (c : Dev nD) (h : k0_dev36 c < nD) (ha : act c 16 = true) : (⟨k0_dev36 c, h⟩ : Dev nD) = dst c 16 := Fin.ext (k0_dev36_to c ha)
theorem k0_dev37_to : ∀ c : Dev nD, act c 16 = true → k0_dev37 c = (dst c 16).val := by decide +kernel
theorem k0_dev37_eq (c : Dev nD) (h : k0_dev37 c < nD) (ha : act c 16 = true) : (⟨k0_dev37 c, h⟩ : Dev nD) = dst c 16 := Fin.ext (k0_dev37_to c ha)
theorem k0_dev38_to : ∀ c : Dev nD, act c 20 = true → k0_dev38 c = (dst c 20).val := by decide +kernel
theorem k0_dev38_eq (c : Dev nD) (h : k0_dev38 c < nD) (ha : act c 20 = true) : (⟨k0_dev38 c, h⟩ : Dev nD) = dst c 20 := Fin.ext (k0_dev38_to c ha)
theorem k0_dev39_to : ∀ c : Dev nD, act c 20 = true → k0_dev39 c = (dst c 20).val := by decide +kernel
theorem k0_dev39_eq (c : Dev nD) (h : k0_dev39 c < nD) (ha : act c 20 = true) : (⟨k0_dev39 c, h⟩ : Dev nD) = dst c 20 := Fin.ext (k0_dev39_to c ha)
theorem cond_22 : ∀ c : Dev nD, (Scalar.cmpi .ne (Scalar.extui (Scalar.cmpi .sle (zW c) 1#32)) 0#32) = 1#1 ↔ on c 40 = true := by decide +kernel
theorem cond_23 : ∀ c : Dev nD, (Scalar.cmpi .ne (Scalar.extui (Scalar.cmpi .sle (zW c) 1#32)) 0#32) = 1#1 ↔ on c 41 = true := by decide +kernel
theorem cond_24 : ∀ c : Dev nD, k0_cond24 c = 1#1 ↔ on c 42 = true := by decide +kernel
theorem k0_dev40_to : ∀ c : Dev nD, act c 5 = true → k0_dev40 c = (dst c 5).val := by decide +kernel
theorem k0_dev40_eq (c : Dev nD) (h : k0_dev40 c < nD) (ha : act c 5 = true) : (⟨k0_dev40 c, h⟩ : Dev nD) = dst c 5 := Fin.ext (k0_dev40_to c ha)
theorem cond_25 : ∀ c : Dev nD, k0_cond25 c = 1#1 ↔ on c 43 = true := by decide +kernel
theorem k0_dev41_to : ∀ c : Dev nD, act c 5 = true → k0_dev41 c = (dst c 5).val := by decide +kernel
theorem k0_dev41_eq (c : Dev nD) (h : k0_dev41 c < nD) (ha : act c 5 = true) : (⟨k0_dev41 c, h⟩ : Dev nD) = dst c 5 := Fin.ext (k0_dev41_to c ha)
theorem cond_26 : ∀ c : Dev nD, k0_cond26 c = 1#1 ↔ on c 44 = true := by decide +kernel
theorem k0_dev42_to : ∀ c : Dev nD, act c 12 = true → k0_dev42 c = (dst c 12).val := by decide +kernel
theorem k0_dev42_eq (c : Dev nD) (h : k0_dev42 c < nD) (ha : act c 12 = true) : (⟨k0_dev42 c, h⟩ : Dev nD) = dst c 12 := Fin.ext (k0_dev42_to c ha)
theorem k0_dev43_to : ∀ c : Dev nD, act c 12 = true → k0_dev43 c = (dst c 12).val := by decide +kernel
theorem k0_dev43_eq (c : Dev nD) (h : k0_dev43 c < nD) (ha : act c 12 = true) : (⟨k0_dev43 c, h⟩ : Dev nD) = dst c 12 := Fin.ext (k0_dev43_to c ha)
theorem k0_dev44_to : ∀ c : Dev nD, act c 16 = true → k0_dev44 c = (dst c 16).val := by decide +kernel
theorem k0_dev44_eq (c : Dev nD) (h : k0_dev44 c < nD) (ha : act c 16 = true) : (⟨k0_dev44 c, h⟩ : Dev nD) = dst c 16 := Fin.ext (k0_dev44_to c ha)
theorem k0_dev45_to : ∀ c : Dev nD, act c 16 = true → k0_dev45 c = (dst c 16).val := by decide +kernel
theorem k0_dev45_eq (c : Dev nD) (h : k0_dev45 c < nD) (ha : act c 16 = true) : (⟨k0_dev45 c, h⟩ : Dev nD) = dst c 16 := Fin.ext (k0_dev45_to c ha)
theorem k0_dev46_to : ∀ c : Dev nD, act c 20 = true → k0_dev46 c = (dst c 20).val := by decide +kernel
theorem k0_dev46_eq (c : Dev nD) (h : k0_dev46 c < nD) (ha : act c 20 = true) : (⟨k0_dev46 c, h⟩ : Dev nD) = dst c 20 := Fin.ext (k0_dev46_to c ha)
theorem k0_dev47_to : ∀ c : Dev nD, act c 20 = true → k0_dev47 c = (dst c 20).val := by decide +kernel
theorem k0_dev47_eq (c : Dev nD) (h : k0_dev47 c < nD) (ha : act c 20 = true) : (⟨k0_dev47 c, h⟩ : Dev nD) = dst c 20 := Fin.ext (k0_dev47_to c ha)
theorem cond_27 : ∀ c : Dev nD, (Scalar.cmpi .ne (Scalar.extui (Scalar.cmpi .sge (zW c) 3#32)) 0#32) = 1#1 ↔ on c 50 = true := by decide +kernel
theorem cond_28 : ∀ c : Dev nD, (Scalar.cmpi .ne (Scalar.extui (Scalar.cmpi .sge (zW c) 3#32)) 0#32) = 1#1 ↔ on c 51 = true := by decide +kernel
theorem cond_29 : ∀ c : Dev nD, k0_cond29 c = 1#1 ↔ on c 52 = true := by decide +kernel
theorem k0_dev48_to : ∀ c : Dev nD, act c 11 = true → k0_dev48 c = (dst c 11).val := by decide +kernel
theorem k0_dev48_eq (c : Dev nD) (h : k0_dev48 c < nD) (ha : act c 11 = true) : (⟨k0_dev48 c, h⟩ : Dev nD) = dst c 11 := Fin.ext (k0_dev48_to c ha)
theorem k0_dev49_to : ∀ c : Dev nD, act c 11 = true → k0_dev49 c = (dst c 11).val := by decide +kernel
theorem k0_dev49_eq (c : Dev nD) (h : k0_dev49 c < nD) (ha : act c 11 = true) : (⟨k0_dev49 c, h⟩ : Dev nD) = dst c 11 := Fin.ext (k0_dev49_to c ha)
theorem k0_dev50_to : ∀ c : Dev nD, act c 15 = true → k0_dev50 c = (dst c 15).val := by decide +kernel
theorem k0_dev50_eq (c : Dev nD) (h : k0_dev50 c < nD) (ha : act c 15 = true) : (⟨k0_dev50 c, h⟩ : Dev nD) = dst c 15 := Fin.ext (k0_dev50_to c ha)
theorem k0_dev51_to : ∀ c : Dev nD, act c 15 = true → k0_dev51 c = (dst c 15).val := by decide +kernel
theorem k0_dev51_eq (c : Dev nD) (h : k0_dev51 c < nD) (ha : act c 15 = true) : (⟨k0_dev51 c, h⟩ : Dev nD) = dst c 15 := Fin.ext (k0_dev51_to c ha)
theorem k0_dev52_to : ∀ c : Dev nD, act c 19 = true → k0_dev52 c = (dst c 19).val := by decide +kernel
theorem k0_dev52_eq (c : Dev nD) (h : k0_dev52 c < nD) (ha : act c 19 = true) : (⟨k0_dev52 c, h⟩ : Dev nD) = dst c 19 := Fin.ext (k0_dev52_to c ha)
theorem k0_dev53_to : ∀ c : Dev nD, act c 19 = true → k0_dev53 c = (dst c 19).val := by decide +kernel
theorem k0_dev53_eq (c : Dev nD) (h : k0_dev53 c < nD) (ha : act c 19 = true) : (⟨k0_dev53 c, h⟩ : Dev nD) = dst c 19 := Fin.ext (k0_dev53_to c ha)
theorem cond_30 : ∀ c : Dev nD, (Scalar.cmpi .ne (Scalar.extui (Scalar.cmpi .sle (zW c) 0#32)) 0#32) = 1#1 ↔ on c 58 = true := by decide +kernel
theorem cond_31 : ∀ c : Dev nD, (Scalar.cmpi .ne (Scalar.extui (Scalar.cmpi .sle (zW c) 0#32)) 0#32) = 1#1 ↔ on c 59 = true := by decide +kernel
theorem cond_32 : ∀ c : Dev nD, k0_cond32 c = 1#1 ↔ on c 60 = true := by decide +kernel
theorem k0_dev54_to : ∀ c : Dev nD, act c 13 = true → k0_dev54 c = (dst c 13).val := by decide +kernel
theorem k0_dev54_eq (c : Dev nD) (h : k0_dev54 c < nD) (ha : act c 13 = true) : (⟨k0_dev54 c, h⟩ : Dev nD) = dst c 13 := Fin.ext (k0_dev54_to c ha)
theorem k0_dev55_to : ∀ c : Dev nD, act c 13 = true → k0_dev55 c = (dst c 13).val := by decide +kernel
theorem k0_dev55_eq (c : Dev nD) (h : k0_dev55 c < nD) (ha : act c 13 = true) : (⟨k0_dev55 c, h⟩ : Dev nD) = dst c 13 := Fin.ext (k0_dev55_to c ha)
theorem k0_dev56_to : ∀ c : Dev nD, act c 17 = true → k0_dev56 c = (dst c 17).val := by decide +kernel
theorem k0_dev56_eq (c : Dev nD) (h : k0_dev56 c < nD) (ha : act c 17 = true) : (⟨k0_dev56 c, h⟩ : Dev nD) = dst c 17 := Fin.ext (k0_dev56_to c ha)
theorem k0_dev57_to : ∀ c : Dev nD, act c 17 = true → k0_dev57 c = (dst c 17).val := by decide +kernel
theorem k0_dev57_eq (c : Dev nD) (h : k0_dev57 c < nD) (ha : act c 17 = true) : (⟨k0_dev57 c, h⟩ : Dev nD) = dst c 17 := Fin.ext (k0_dev57_to c ha)
theorem k0_dev58_to : ∀ c : Dev nD, act c 21 = true → k0_dev58 c = (dst c 21).val := by decide +kernel
theorem k0_dev58_eq (c : Dev nD) (h : k0_dev58 c < nD) (ha : act c 21 = true) : (⟨k0_dev58 c, h⟩ : Dev nD) = dst c 21 := Fin.ext (k0_dev58_to c ha)
theorem k0_dev59_to : ∀ c : Dev nD, act c 21 = true → k0_dev59 c = (dst c 21).val := by decide +kernel
theorem k0_dev59_eq (c : Dev nD) (h : k0_dev59 c < nD) (ha : act c 21 = true) : (⟨k0_dev59 c, h⟩ : Dev nD) = dst c 21 := Fin.ext (k0_dev59_to c ha)
theorem cond_33 : ∀ c : Dev nD, (Scalar.cmpi .ne (Scalar.extui (Scalar.cmpi .slt (zW c) 3#32)) 0#32) = 1#1 ↔ on c 90 = true := by decide +kernel
theorem cond_34 : ∀ c : Dev nD, (Scalar.cmpi .ne (Scalar.extui (Scalar.cmpi .slt (zW c) 3#32)) 0#32) = 1#1 ↔ on c 91 = true := by decide +kernel
theorem cond_35 : ∀ c : Dev nD, (Scalar.cmpi .ne (Scalar.extui (Scalar.cmpi .sgt (zW c) 0#32)) 0#32) = 1#1 ↔ on c 92 = true := by decide +kernel
theorem cond_36 : ∀ c : Dev nD, (Scalar.cmpi .ne (Scalar.extui (Scalar.cmpi .sgt (zW c) 0#32)) 0#32) = 1#1 ↔ on c 93 = true := by decide +kernel
theorem cond_37 : ∀ c : Dev nD, (Scalar.cmpi .ne (Scalar.extui (Scalar.andi (Scalar.cmpi .sge (zW c) 1#32) (Scalar.cmpi .slt (zW c) 3#32))) 0#32) = 1#1 ↔ on c 100 = true := by decide +kernel
theorem cond_38 : ∀ c : Dev nD, (Scalar.cmpi .ne (Scalar.extui (Scalar.andi (Scalar.cmpi .sge (zW c) 1#32) (Scalar.cmpi .slt (zW c) 3#32))) 0#32) = 1#1 ↔ on c 101 = true := by decide +kernel
theorem cond_39 : ∀ c : Dev nD, (Scalar.cmpi .ne (Scalar.extui (Scalar.andi (Scalar.cmpi .sle (zW c) 2#32) (Scalar.cmpi .sgt (zW c) 0#32))) 0#32) = 1#1 ↔ on c 102 = true := by decide +kernel
theorem cond_40 : ∀ c : Dev nD, (Scalar.cmpi .ne (Scalar.extui (Scalar.andi (Scalar.cmpi .sle (zW c) 2#32) (Scalar.cmpi .sgt (zW c) 0#32))) 0#32) = 1#1 ↔ on c 103 = true := by decide +kernel
theorem cond_41 : ∀ c : Dev nD, (Scalar.cmpi .ne (Scalar.extui (Scalar.cmpi .sge (zW c) 1#32)) 0#32) = 1#1 ↔ on c 104 = true := by decide +kernel
theorem cond_42 : ∀ c : Dev nD, (Scalar.cmpi .ne (Scalar.extui (Scalar.cmpi .sge (zW c) 1#32)) 0#32) = 1#1 ↔ on c 105 = true := by decide +kernel
theorem cond_43 : ∀ c : Dev nD, (Scalar.cmpi .ne (Scalar.extui (Scalar.cmpi .sle (zW c) 2#32)) 0#32) = 1#1 ↔ on c 106 = true := by decide +kernel
theorem cond_44 : ∀ c : Dev nD, (Scalar.cmpi .ne (Scalar.extui (Scalar.cmpi .sle (zW c) 2#32)) 0#32) = 1#1 ↔ on c 107 = true := by decide +kernel
theorem cond_45 : ∀ c : Dev nD, (Scalar.cmpi .ne (Scalar.extui (Scalar.cmpi .sge (zW c) 1#32)) 0#32) = 1#1 ↔ on c 108 = true := by decide +kernel
theorem cond_46 : ∀ c : Dev nD, (Scalar.cmpi .ne (Scalar.extui (Scalar.cmpi .sge (zW c) 1#32)) 0#32) = 1#1 ↔ on c 109 = true := by decide +kernel
theorem cond_47 : ∀ c : Dev nD, (Scalar.cmpi .ne (Scalar.extui (Scalar.cmpi .sle (zW c) 2#32)) 0#32) = 1#1 ↔ on c 110 = true := by decide +kernel
theorem cond_48 : ∀ c : Dev nD, (Scalar.cmpi .ne (Scalar.extui (Scalar.cmpi .sle (zW c) 2#32)) 0#32) = 1#1 ↔ on c 111 = true := by decide +kernel
theorem cond_49 : ∀ c : Dev nD, (Scalar.cmpi .ne (Scalar.extui (Scalar.cmpi .sge (zW c) 1#32)) 0#32) = 1#1 ↔ on c 112 = true := by decide +kernel
theorem cond_50 : ∀ c : Dev nD, (Scalar.cmpi .ne (Scalar.extui (Scalar.cmpi .sge (zW c) 1#32)) 0#32) = 1#1 ↔ on c 113 = true := by decide +kernel
theorem cond_51 : ∀ c : Dev nD, (Scalar.cmpi .ne (Scalar.extui (Scalar.cmpi .sle (zW c) 2#32)) 0#32) = 1#1 ↔ on c 114 = true := by decide +kernel
theorem cond_52 : ∀ c : Dev nD, (Scalar.cmpi .ne (Scalar.extui (Scalar.cmpi .sle (zW c) 2#32)) 0#32) = 1#1 ↔ on c 115 = true := by decide +kernel
theorem cond_53 : ∀ c : Dev nD, (Scalar.cmpi .ne (Scalar.extui (Scalar.andi (Scalar.cmpi .sge (zW c) 2#32) (Scalar.cmpi .slt (zW c) 3#32))) 0#32) = 1#1 ↔ on c 116 = true := by decide +kernel
theorem cond_54 : ∀ c : Dev nD, (Scalar.cmpi .ne (Scalar.extui (Scalar.andi (Scalar.cmpi .sge (zW c) 2#32) (Scalar.cmpi .slt (zW c) 3#32))) 0#32) = 1#1 ↔ on c 117 = true := by decide +kernel
theorem cond_55 : ∀ c : Dev nD, (Scalar.cmpi .ne (Scalar.extui (Scalar.andi (Scalar.cmpi .sle (zW c) 1#32) (Scalar.cmpi .sgt (zW c) 0#32))) 0#32) = 1#1 ↔ on c 118 = true := by decide +kernel
theorem cond_56 : ∀ c : Dev nD, (Scalar.cmpi .ne (Scalar.extui (Scalar.andi (Scalar.cmpi .sle (zW c) 1#32) (Scalar.cmpi .sgt (zW c) 0#32))) 0#32) = 1#1 ↔ on c 119 = true := by decide +kernel
theorem cond_57 : ∀ c : Dev nD, (Scalar.cmpi .ne (Scalar.extui (Scalar.cmpi .sge (zW c) 2#32)) 0#32) = 1#1 ↔ on c 120 = true := by decide +kernel
theorem cond_58 : ∀ c : Dev nD, (Scalar.cmpi .ne (Scalar.extui (Scalar.cmpi .sge (zW c) 2#32)) 0#32) = 1#1 ↔ on c 121 = true := by decide +kernel
theorem cond_59 : ∀ c : Dev nD, (Scalar.cmpi .ne (Scalar.extui (Scalar.cmpi .sle (zW c) 1#32)) 0#32) = 1#1 ↔ on c 122 = true := by decide +kernel
theorem cond_60 : ∀ c : Dev nD, (Scalar.cmpi .ne (Scalar.extui (Scalar.cmpi .sle (zW c) 1#32)) 0#32) = 1#1 ↔ on c 123 = true := by decide +kernel
theorem cond_61 : ∀ c : Dev nD, (Scalar.cmpi .ne (Scalar.extui (Scalar.cmpi .sge (zW c) 2#32)) 0#32) = 1#1 ↔ on c 124 = true := by decide +kernel
theorem cond_62 : ∀ c : Dev nD, (Scalar.cmpi .ne (Scalar.extui (Scalar.cmpi .sge (zW c) 2#32)) 0#32) = 1#1 ↔ on c 125 = true := by decide +kernel
theorem cond_63 : ∀ c : Dev nD, (Scalar.cmpi .ne (Scalar.extui (Scalar.cmpi .sle (zW c) 1#32)) 0#32) = 1#1 ↔ on c 126 = true := by decide +kernel
theorem cond_64 : ∀ c : Dev nD, (Scalar.cmpi .ne (Scalar.extui (Scalar.cmpi .sle (zW c) 1#32)) 0#32) = 1#1 ↔ on c 127 = true := by decide +kernel
theorem cond_65 : ∀ c : Dev nD, (Scalar.cmpi .ne (Scalar.extui (Scalar.cmpi .sge (zW c) 2#32)) 0#32) = 1#1 ↔ on c 128 = true := by decide +kernel
theorem cond_66 : ∀ c : Dev nD, (Scalar.cmpi .ne (Scalar.extui (Scalar.cmpi .sge (zW c) 2#32)) 0#32) = 1#1 ↔ on c 129 = true := by decide +kernel
theorem cond_67 : ∀ c : Dev nD, (Scalar.cmpi .ne (Scalar.extui (Scalar.cmpi .sle (zW c) 1#32)) 0#32) = 1#1 ↔ on c 130 = true := by decide +kernel
theorem cond_68 : ∀ c : Dev nD, (Scalar.cmpi .ne (Scalar.extui (Scalar.cmpi .sle (zW c) 1#32)) 0#32) = 1#1 ↔ on c 131 = true := by decide +kernel
theorem cond_69 : ∀ c : Dev nD, (Scalar.cmpi .ne (Scalar.extui (Scalar.cmpi .sge (zW c) 3#32)) 0#32) = 1#1 ↔ on c 132 = true := by decide +kernel
theorem cond_70 : ∀ c : Dev nD, (Scalar.cmpi .ne (Scalar.extui (Scalar.cmpi .sge (zW c) 3#32)) 0#32) = 1#1 ↔ on c 133 = true := by decide +kernel
theorem cond_71 : ∀ c : Dev nD, (Scalar.cmpi .ne (Scalar.extui (Scalar.cmpi .sle (zW c) 0#32)) 0#32) = 1#1 ↔ on c 134 = true := by decide +kernel
theorem cond_72 : ∀ c : Dev nD, (Scalar.cmpi .ne (Scalar.extui (Scalar.cmpi .sle (zW c) 0#32)) 0#32) = 1#1 ↔ on c 135 = true := by decide +kernel
theorem cond_73 : ∀ c : Dev nD, (Scalar.cmpi .ne (Scalar.extui (Scalar.cmpi .sge (zW c) 3#32)) 0#32) = 1#1 ↔ on c 136 = true := by decide +kernel
theorem cond_74 : ∀ c : Dev nD, (Scalar.cmpi .ne (Scalar.extui (Scalar.cmpi .sge (zW c) 3#32)) 0#32) = 1#1 ↔ on c 137 = true := by decide +kernel
theorem cond_75 : ∀ c : Dev nD, (Scalar.cmpi .ne (Scalar.extui (Scalar.cmpi .sle (zW c) 0#32)) 0#32) = 1#1 ↔ on c 138 = true := by decide +kernel
theorem cond_76 : ∀ c : Dev nD, (Scalar.cmpi .ne (Scalar.extui (Scalar.cmpi .sle (zW c) 0#32)) 0#32) = 1#1 ↔ on c 139 = true := by decide +kernel
theorem cond_77 : ∀ c : Dev nD, (Scalar.cmpi .ne (Scalar.extui (Scalar.cmpi .sge (zW c) 3#32)) 0#32) = 1#1 ↔ on c 140 = true := by decide +kernel
theorem cond_78 : ∀ c : Dev nD, (Scalar.cmpi .ne (Scalar.extui (Scalar.cmpi .sge (zW c) 3#32)) 0#32) = 1#1 ↔ on c 141 = true := by decide +kernel
theorem cond_79 : ∀ c : Dev nD, (Scalar.cmpi .ne (Scalar.extui (Scalar.cmpi .sle (zW c) 0#32)) 0#32) = 1#1 ↔ on c 142 = true := by decide +kernel
theorem cond_80 : ∀ c : Dev nD, (Scalar.cmpi .ne (Scalar.extui (Scalar.cmpi .sle (zW c) 0#32)) 0#32) = 1#1 ↔ on c 143 = true := by decide +kernel

variable (K : Dev nD × KI → ℕ) {c : Dev nD} {n : ℕ} {o : Buf (Elt F) ((c : Thread nD τ).loc cc0_stg4_0)}
variable {α : Type} {Q : α → sProp (MT nD τ sig Unit (Elt F) ℕ UU ℕ)}

theorem step_ret {a : α} (h : Inv m K c n o ⊢ Q a) : Inv m K c n o ⊢ wpc c (.ret a : PC F α) Q := by
  rw [wpc, wp_ret]; exact h.trans fupd_intro
theorem step_bind {β : Type} {p : PC F β} {k : β → PC F α} {P : sProp (MT nD τ sig Unit (Elt F) ℕ UU ℕ)}
    (h : P ⊢ wpc c p fun a => wpc c (k a) Q) : P ⊢ wpc c (p >>= k) Q := by
  rw [wpc, wp_bind]; exact h
/-- A guarded stretch of the program: taken, it leads to step `n'`; not taken, there is no step until `n'`. -/
theorem step_if {P : Prop} [Decidable P] {n' : ℕ} {A : P → PC F α} {B : PC F α} (hc : P ↔ on c n = true)
    (hA : (Inv m K c n' o ⊢ wpc c B Q) → ∀ h : P, on c n = true → Inv m K c n o ⊢ wpc c (A h) Q)
    (hB : on c n = false → Inv m K c n o = Inv m K c n' o) (h : Inv m K c n' o ⊢ wpc c B Q) :
    Inv m K c n o ⊢ wpc c (if h : P then A h else B) Q := by
  by_cases hp : P
  · rw [dif_pos hp]; exact hA h hp (hc.mp hp)
  · rw [dif_neg hp, hB (by cases hx : on c n with | true => exact absurd (hc.mpr hx) hp | false => rfl)]; exact h

def x247 (c : Dev nD) : Vec F S256x128 .bf16 := iblk m c 0 t0_0
def x249 (c : Dev nD) : Vec F S128x32 .bf16 := iblk m c 1 t0_0
def x261 (c : Dev nD) : Vec F S256x2 .i32 := iblk m c 2 t0_0
def x265 (_m : (ℓ : Loc nD τ sig) → Buf (Elt F) ℓ) (_c : Dev nD) : IVec S256x32 32 := iota .tc S256x32 32 [1] iota_S256x32_d1_w32
def x248 (c : Dev nD) : FVec F S256x128 .bf16 := k0_pay6 (x247 m c)
def x263 (c : Dev nD) : IVec S256x1 32 := k0_pay9 (x261 m c)
def x264 (c : Dev nD) : IVec S256x1 32 := k0_pay10 (x261 m c)
def x277 (c : Dev nD) : FVec F S256x1 .f32 := k0_pay12 (x247 m c) (x249 m c) (x261 m c)
def x278 (c : Dev nD) : FVec F S256x1 .f32 := k0_pay13 (x247 m c) (x249 m c) (x261 m c)
def x279 (c : Dev nD) : FVec F S256x1 .f32 := k0_pay14 (x247 m c) (x249 m c) (x261 m c)
def x280 (c : Dev nD) : FVec F S256x1 .f32 := k0_pay15 (x277 m c) (x278 m c)
def x304 (c : Dev nD) : IVec S256x32 32 := k0_pay16 (x265 m c)
def x306 (c : Dev nD) : IVec S256x32 32 := k0_pay17 (x265 m c)
def x325 (c : Dev nD) : IVec S256x32 1 := k0_pay18 (x265 m c)
def x367 (_m : (ℓ : Loc nD τ sig) → Buf (Elt F) ℓ) (_c : Dev nD) : IVec S1x8x1 32 := iota .tc S1x8x1 32 [1] iota_S1x8x1_d1_w32
def x366 (c : Dev nD) : FVec F S256x32x128 .bf16 := k0_pay19 (zW c) (pW c) (x248 m c) (x263 m c) (x264 m c) (x265 m c) (x279 m c) (x280 m c) (x304 m c) (x306 m c) (x325 m c) 1#32
def x419 (c : Dev nD) : Vec F S1x1x1 .f32 := scAt m c (Rect.unit (s := S4x4x2) ![0, 0, 0] S1x1x1.size inb_S4x4x2_S1x1x1_0_0_0)
def x425 (c : Dev nD) : Vec F S1x1x1 .f32 := scAt m c (Rect.unit (s := S4x4x2) ![0, 0, 1] S1x1x1.size inb_S4x4x2_S1x1x1_0_0_1)
def x431 (c : Dev nD) : Vec F S1x1x1 .f32 := scAt m c (Rect.unit (s := S4x4x2) ![0, 1, 0] S1x1x1.size inb_S4x4x2_S1x1x1_0_1_0)
def x437 (c : Dev nD) : Vec F S1x1x1 .f32 := scAt m c (Rect.unit (s := S4x4x2) ![0, 1, 1] S1x1x1.size inb_S4x4x2_S1x1x1_0_1_1)
def x443 (c : Dev nD) : Vec F S1x1x1 .f32 := scAt m c (Rect.unit (s := S4x4x2) ![0, 2, 0] S1x1x1.size inb_S4x4x2_S1x1x1_0_2_0)
def x446 (c : Dev nD) : FVec F S1x8x1 .f32 := (k0_pay20 (x367 m c) (x419 m c) (x425 m c) (x431 m c) (x437 m c) (x443 m c))
def x449 (c : Dev nD) : Vec F S1x1x1 .f32 := scAt m c (Rect.unit (s := S4x4x2) ![0, 2, 1] S1x1x1.size inb_S4x4x2_S1x1x1_0_2_1)
def x455 (c : Dev nD) : Vec F S1x1x1 .f32 := scAt m c (Rect.unit (s := S4x4x2) ![0, 3, 0] S1x1x1.size inb_S4x4x2_S1x1x1_0_3_0)
def x461 (c : Dev nD) : Vec F S1x1x1 .f32 := scAt m c (Rect.unit (s := S4x4x2) ![0, 3, 1] S1x1x1.size inb_S4x4x2_S1x1x1_0_3_1)
def x470 (c : Dev nD) : Vec F S1x4x2x128x256 .i8 := bufAt m c (Rect.unit (s := S4x4x2x128x256) ![0, 0, 0, 0, 0] S1x4x2x128x256.size inb_S4x4x2x128x256_S1x4x2x128x256_0_0_0_0_0)
def x474 (c : Dev nD) : FVec F S256x256 .f32 := (k0_pay21 (x366 m c) (x367 m c) (x446 m c) (x449 m c) (x455 m c) (x461 m c) (x470 m c))
def x526 (c : Dev nD) : Vec F S1x1x1 .f32 := scAt m c (Rect.unit (s := S4x4x2) ![1, 0, 0] S1x1x1.size inb_S4x4x2_S1x1x1_1_0_0)
def x532 (c : Dev nD) : Vec F S1x1x1 .f32 := scAt m c (Rect.unit (s := S4x4x2) ![1, 0, 1] S1x1x1.size inb_S4x4x2_S1x1x1_1_0_1)
def x538 (c : Dev nD) : Vec F S1x1x1 .f32 := scAt m c (Rect.unit (s := S4x4x2) ![1, 1, 0] S1x1x1.size inb_S4x4x2_S1x1x1_1_1_0)
def x544 (c : Dev nD) : Vec F S1x1x1 .f32 := scAt m c (Rect.unit (s := S4x4x2) ![1, 1, 1] S1x1x1.size inb_S4x4x2_S1x1x1_1_1_1)
def x550 (c : Dev nD) : Vec F S1x1x1 .f32 := scAt m c (Rect.unit (s := S4x4x2) ![1, 2, 0] S1x1x1.size inb_S4x4x2_S1x1x1_1_2_0)
def x553 (c : Dev nD) : FVec F S1x8x1 .f32 := k0_pay22 (x367 m c) (x526 m c) (x532 m c) (x538 m c) (x544 m c) (x550 m c)
def x555 (c : Dev nD) : IVec S1x8x1 1 := k0_pay23 (x367 m c)
def x556 (c : Dev nD) : Vec F S1x1x1 .f32 := scAt m c (Rect.unit (s := S4x4x2) ![1, 2, 1] S1x1x1.size inb_S4x4x2_S1x1x1_1_2_1)
def x562 (c : Dev nD) : Vec F S1x1x1 .f32 := scAt m c (Rect.unit (s := S4x4x2) ![1, 3, 0] S1x1x1.size inb_S4x4x2_S1x1x1_1_3_0)
def x568 (c : Dev nD) : Vec F S1x1x1 .f32 := scAt m c (Rect.unit (s := S4x4x2) ![1, 3, 1] S1x1x1.size inb_S4x4x2_S1x1x1_1_3_1)
def x577 (c : Dev nD) : Vec F S1x4x2x128x256 .i8 := bufAt m c (Rect.unit (s := S4x4x2x128x256) ![1, 0, 0, 0, 0] S1x4x2x128x256.size inb_S4x4x2x128x256_S1x4x2x128x256_1_0_0_0_0)
def x582 (c : Dev nD) : FVec F S256x256 .f32 := (k0_pay24 (x366 m c) (x367 m c) (x474 m c) (x553 m c) (x555 m c) (x556 m c) (x562 m c) (x568 m c) (x577 m c))
def x634 (c : Dev nD) : Vec F S1x1x1 .f32 := scAt m c (Rect.unit (s := S4x4x2) ![3, 0, 0] S1x1x1.size inb_S4x4x2_S1x1x1_3_0_0)
def x640 (c : Dev nD) : Vec F S1x1x1 .f32 := scAt m c (Rect.unit (s := S4x4x2) ![3, 0, 1] S1x1x1.size inb_S4x4x2_S1x1x1_3_0_1)
def x646 (c : Dev nD) : Vec F S1x1x1 .f32 := scAt m c (Rect.unit (s := S4x4x2) ![3, 1, 0] S1x1x1.size inb_S4x4x2_S1x1x1_3_1_0)
def x652 (c : Dev nD) : Vec F S1x1x1 .f32 := scAt m c (Rect.unit (s := S4x4x2) ![3, 1, 1] S1x1x1.size inb_S4x4x2_S1x1x1_3_1_1)
def x658 (c : Dev nD) : Vec F S1x1x1 .f32 := scAt m c (Rect.unit (s := S4x4x2) ![3, 2, 0] S1x1x1.size inb_S4x4x2_S1x1x1_3_2_0)
def x664 (c : Dev nD) : Vec F S1x1x1 .f32 := scAt m c (Rect.unit (s := S4x4x2) ![3, 2, 1] S1x1x1.size inb_S4x4x2_S1x1x1_3_2_1)
def x661 (c : Dev nD) : FVec F S1x8x1 .f32 := k0_pay25 (x367 m c) (x634 m c) (x640 m c) (x646 m c) (x652 m c) (x658 m c)
def x663 (c : Dev nD) : IVec S1x8x1 1 := k0_pay26 (x367 m c)
def x670 (c : Dev nD) : Vec F S1x1x1 .f32 := scAt m c (Rect.unit (s := S4x4x2) ![3, 3, 0] S1x1x1.size inb_S4x4x2_S1x1x1_3_3_0)
def x676 (c : Dev nD) : Vec F S1x1x1 .f32 := scAt m c (Rect.unit (s := S4x4x2) ![3, 3, 1] S1x1x1.size inb_S4x4x2_S1x1x1_3_3_1)
def x685 (c : Dev nD) : Vec F S1x4x2x128x256 .i8 := bufAt m c (Rect.unit (s := S4x4x2x128x256) ![3, 0, 0, 0, 0] S1x4x2x128x256.size inb_S4x4x2x128x256_S1x4x2x128x256_3_0_0_0_0)
def x690 (c : Dev nD) : FVec F S256x256 .f32 := (k0_pay27 (x366 m c) (x367 m c) (x582 m c) (x661 m c) (x663 m c) (x664 m c) (x670 m c) (x676 m c) (x685 m c))
def x739 (_m : (ℓ : Loc nD τ sig) → Buf (Elt F) ℓ) (_c : Dev nD) : FVec F S1x8x1 .f32 := (k0_pay28 (F := F))
def x742 (c : Dev nD) : Vec F S1x1x1 .f32 := scAt m c (Rect.unit (s := S4x4x2) ![2, 0, 0] S1x1x1.size inb_S4x4x2_S1x1x1_2_0_0)
def x748 (c : Dev nD) : Vec F S1x1x1 .f32 := scAt m c (Rect.unit (s := S4x4x2) ![2, 0, 1] S1x1x1.size inb_S4x4x2_S1x1x1_2_0_1)
def x754 (c : Dev nD) : Vec F S1x1x1 .f32 := scAt m c (Rect.unit (s := S4x4x2) ![2, 1, 0] S1x1x1.size inb_S4x4x2_S1x1x1_2_1_0)
def x760 (c : Dev nD) : Vec F S1x1x1 .f32 := scAt m c (Rect.unit (s := S4x4x2) ![2, 1, 1] S1x1x1.size inb_S4x4x2_S1x1x1_2_1_1)
def x766 (c : Dev nD) : Vec F S1x1x1 .f32 := scAt m c (Rect.unit (s := S4x4x2) ![2, 2, 0] S1x1x1.size inb_S4x4x2_S1x1x1_2_2_0)
def x772 (c : Dev nD) : Vec F S1x1x1 .f32 := scAt m c (Rect.unit (s := S4x4x2) ![2, 2, 1] S1x1x1.size inb_S4x4x2_S1x1x1_2_2_1)
def x775 (c : Dev nD) : FVec F S1x8x1 .f32 := (k0_pay29 (x367 m c) (x739 m c) (x742 m c) (x748 m c) (x754 m c) (x760 m c) (x766 m c) (x772 m c))
def x778 (c : Dev nD) : Vec F S1x1x1 .f32 := scAt m c (Rect.unit (s := S4x4x2) ![2, 3, 0] S1x1x1.size inb_S4x4x2_S1x1x1_2_3_0)
def x784 (c : Dev nD) : Vec F S1x1x1 .f32 := scAt m c (Rect.unit (s := S4x4x2) ![2, 3, 1] S1x1x1.size inb_S4x4x2_S1x1x1_2_3_1)
def x793 (c : Dev nD) : Vec F S1x4x2x128x256 .i8 := bufAt m c (Rect.unit (s := S4x4x2x128x256) ![2, 0, 0, 0, 0] S1x4x2x128x256.size inb_S4x4x2x128x256_S1x4x2x128x256_2_0_0_0_0)
/-- The block that device `c` leaves in its result. -/
def xOut (c : Dev nD) : FVec F S256x256 .f32 := (k0_pay30 (x366 m c) (x367 m c) (x690 m c) (x775 m c) (x778 m c) (x784 m c) (x793 m c))

end Cert.KernelIdeal.Run

end

end
-- ==== Proof.Ideal.Enter.lean ====
/-
# The entry: a device stores its own block, tells its neighbours, and waits for them
-/
module

public import proofs.«01_k».proof.Proof.Ideal.Words

@[expose] public section

noncomputable section

namespace Cert.KernelIdeal.Run

open Cert.KernelIdeal Cert.KernelIdeal.Gen Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

theorem emp_all {ι : Type} (s : Finset ι) : bigSep s (fun _ => (iprop(emp) : sProp 𝕄)) = iprop(emp) := bigSep_emp_const _
theorem sep_emp1 (P : sProp 𝕄) : iprop(P ∗ emp) = P := by
  have a : iprop(P ∗ emp) ⊢ P := by iintro ⟨H, -⟩; iexact H
  have b : P ⊢ iprop(P ∗ emp) := Laws.sep_emp.2
  exact BI.Entails.antisymm a b
theorem emp_sep1 (P : sProp 𝕄) : iprop(emp ∗ P) = P := by
  have a : iprop(emp ∗ P) ⊢ P := by iintro ⟨-, H⟩; iexact H
  have b : P ⊢ iprop(emp ∗ P) := BI.emp_sep.2
  exact BI.Entails.antisymm a b
theorem all_mono {ι : Type} [DecidableEq ι] {s : Finset ι} {Φ Ψ : ι → sProp (MT nD τ sig Unit (Elt F) ℕ UU ℕ)} (h : ∀ x ∈ s, Φ x ⊢ Ψ x) : bigSep s Φ ⊢ bigSep s Ψ := bigSep_mono h

/-! ## The words -/

theorem dev1_to : ∀ c : Dev nD, k0_dev1 c = (bdst c 0).val := by decide +kernel
theorem dev2_to : ∀ c : Dev nD, k0_dev2 c = (bdst c 1).val := by decide +kernel
theorem dev3_to : ∀ c : Dev nD, k0_dev3 c = (bdst c 2).val := by decide +kernel
theorem dev4_to : ∀ c : Dev nD, bact c 3 = true → k0_dev4 c = (bdst c 3).val := by decide +kernel
theorem dev5_to : ∀ c : Dev nD, bact c 4 = true → k0_dev5 c = (bdst c 4).val := by decide +kernel
theorem cond_1 : ∀ c : Dev nD, k0_cond1 c = 1#1 ↔ bact c 3 = true := by decide +kernel
theorem cond_2 : ∀ c : Dev nD, k0_cond2 c = 1#1 ↔ bact c 4 = true := by decide +kernel
theorem amt1_eq : ∀ c : Dev nD, (k0_amt1 c).toInt = (nbrs c : ℕ) := by decide +kernel
theorem give_iff : ∀ (c : Dev nD) (b : Fin 5) (l : Lk), bact c b = true → ((kind l = bop b ∧ act (bdst c b) l = true) ↔ (inact c l = true ∧ bop (kind l) = b)) := by decide +kernel

/-! ## The buffers, window by window -/

theorem apart {w w' : Wn} (h : w ≠ w') : w.1.val ≠ w'.1.val ∨ w.2.val ≠ w'.2.val := by
  by_contra hc; push Not at hc; exact h (Prod.ext (Fin.ext hc.1) (Fin.ext hc.2))
theorem disjoint_buf (w w' : Wn) (h : w ≠ w') : Disjoint (rB w).set (rB w').set := by
  rcases apart h with hv | hv
  · exact Rect.unit_disjoint 0 (by show w.1.val + 1 ≤ w'.1.val ∨ w'.1.val + 1 ≤ w.1.val; omega)
  · exact Rect.unit_disjoint 1 (by show w.2.val + 1 ≤ w'.2.val ∨ w'.2.val + 1 ≤ w.2.val; omega)
theorem disjoint_sc (w w' : Wn) (h : w ≠ w') : Disjoint (rS w).set (rS w').set := by
  rcases apart h with hv | hv
  · exact Rect.unit_disjoint 0 (by show w.1.val + 1 ≤ w'.1.val ∨ w'.1.val + 1 ≤ w.1.val; omega)
  · exact Rect.unit_disjoint 1 (by show w.2.val + 1 ≤ w'.2.val ∨ w'.2.val + 1 ≤ w.2.val; omega)

theorem windows_cover_buf (i : S4x4x2x128x256.Idx) : i ∈ (rB (i 0, i 1)).set := by
  rw [Rect.mem_set_unit]
  intro a
  fin_cases a
  · exact ⟨le_refl _, Nat.lt_succ_self _⟩
  · exact ⟨le_refl _, Nat.lt_succ_self _⟩
  · exact ⟨Nat.zero_le _, lt_of_lt_of_eq (i 2).isLt (by rfl)⟩
  · exact ⟨Nat.zero_le _, lt_of_lt_of_eq (i 3).isLt (by rfl)⟩
  · exact ⟨Nat.zero_le _, lt_of_lt_of_eq (i 4).isLt (by rfl)⟩
theorem windows_cover_sc (i : S4x4x2.Idx) : i ∈ (rS (i 0, i 1)).set := by
  rw [Rect.mem_set_unit]
  intro a
  fin_cases a
  · exact ⟨le_refl _, Nat.lt_succ_self _⟩
  · exact ⟨le_refl _, Nat.lt_succ_self _⟩
  · exact ⟨Nat.zero_le _, lt_of_lt_of_eq (i 2).isLt (by rfl)⟩

theorem all_buf : (Finset.univ : Finset Wn).biUnion (fun w => (rB w).set) = Finset.univ := by
  refine Finset.eq_univ_iff_forall.mpr fun (i : S4x4x2x128x256.Idx) => Finset.mem_biUnion.mpr ⟨(i 0, i 1), Finset.mem_univ _, ?_⟩
  exact windows_cover_buf i
theorem all_sc : (Finset.univ : Finset Wn).biUnion (fun w => (rS w).set) = Finset.univ := by
  refine Finset.eq_univ_iff_forall.mpr fun (i : S4x4x2.Idx) => Finset.mem_biUnion.mpr ⟨(i 0, i 1), Finset.mem_univ _, ?_⟩
  exact windows_cover_sc i

/-- Either buffer, whole. -/
def bufAll (c : Dev nD) (t : Bool) (f : Buf (Elt F) ((c : Thread nD τ).loc (wB t))) : sProp 𝕄 := ((c : Thread nD τ).loc (wB t)) ↦{fullShare} f

theorem split_false (c : Dev nD) (f) : (bufAll c false f : sProp 𝕄) = bigSep Finset.univ fun w : Wn => wPts c false w fullShare f :=
  (Ring.pointsTo_blocks (ℓ := ((c : Thread nD τ).loc cc0_scratch0)) (fun w : Wn => (rB w).set) disjoint_buf all_buf f).trans
    (bigSep_congr fun w _ => by unfold wPts; rw [set_buf])
theorem split_true (c : Dev nD) (f) : (bufAll c true f : sProp 𝕄) = bigSep Finset.univ fun w : Wn => wPts c true w fullShare f :=
  (Ring.pointsTo_blocks (ℓ := ((c : Thread nD τ).loc cc0_scratch1)) (fun w : Wn => (rS w).set) disjoint_sc all_sc f).trans
    (bigSep_congr fun w _ => by unfold wPts; rw [set_sc])

/-- The window that copy `x` fills at `c`, before it is given to the sender. -/
def giveR (c : Dev nD) (x : LT) : sProp 𝕄 := if inact c x.1 = true then iprop(∃ f, wPts c x.2 (dw x.1) fullShare f) else iprop(emp)

theorem give_one (c : Dev nD) (t : Bool) :
    (bigSep (Finset.univ.erase ((0, 0) : Wn)) fun w => (iprop(∃ f, wPts c t w fullShare f) : sProp 𝕄)) = bigSep Finset.univ fun l : Lk => giveR c (l, t) := by
  have e : (Finset.univ.erase ((0, 0) : Wn)) = (Finset.univ.filter fun l : Lk => inact c l = true).image dw := by
    ext w
    simp only [Finset.mem_erase, Finset.mem_univ, and_true, Finset.mem_image, Finset.mem_filter, true_and]
    exact ⟨fun h => fill_exists c w h, fun ⟨l, hl, e⟩ => e ▸ fill_ne c l hl⟩
  rw [e, bigSep_image_of_injOn (fun l hl l' hl' h => fill_unique c l l' (Finset.mem_filter.mp hl).2 (Finset.mem_filter.mp hl').2 h), bigSep_filter]
  rfl

theorem give_all (c : Dev nD) : (bigSep Finset.univ (giveR c) : sProp 𝕄)
    = iprop((bigSep Finset.univ fun l : Lk => giveR c (l, false)) ∗ bigSep Finset.univ fun l : Lk => giveR c (l, true)) := by
  rw [bigSep_univ_prod, Pipeline.bigSep_univ_comm, bigSep_univ_eq_bigSepL [false, true] (by decide) (by decide)]
  rfl

theorem split_give (c : Dev nD) (f0 : Buf (Elt F) ((c : Thread nD τ).loc (wB false))) (f1 : Buf (Elt F) ((c : Thread nD τ).loc (wB true))) :
    iprop(bufAll c false f0 ∗ bufAll c true f1) ⊢ (iprop(wPts c false (0, 0) fullShare f0 ∗ wPts c true (0, 0) fullShare f1 ∗ bigSep Finset.univ (giveR c)) : sProp 𝕄) := by
  have h0 : (bigSep (Finset.univ.erase ((0, 0) : Wn)) fun w => (wPts c false w fullShare f0 : sProp 𝕄)) ⊢ bigSep Finset.univ fun l : Lk => giveR c (l, false) := by
    rw [← give_one]
    exact all_mono fun w _ => by iintro H; iexists f0; iexact H
  have h1 : (bigSep (Finset.univ.erase ((0, 0) : Wn)) fun w => (wPts c true w fullShare f1 : sProp 𝕄)) ⊢ bigSep Finset.univ fun l : Lk => giveR c (l, true) := by
    rw [← give_one]
    exact all_mono fun w _ => by iintro H; iexists f1; iexact H
  rw [split_false, split_true, bigSep_univ_at _ ((0, 0) : Wn), bigSep_univ_at (fun w : Wn => wPts c true w fullShare f1) ((0, 0) : Wn), give_all]
  iintro ⟨⟨Ha, Hb⟩, Hc, Hd⟩
  isplitl [Ha]; · iexact Ha
  isplitl [Hc]; · iexact Hc
  isplitl [Hb]; · iapply h0; iexact Hb
  iapply h1; iexact Hd

/-- What is stored in the device's own windows is their final content. -/
theorem own_buf (c : Dev nD) (f) : (((Memref.whole cc0_scratch0 : Memref sig .tc .vmem S4x4x2x128x256 .i8).access (rB (0, 0))).loc (c : Thread nD τ)
      ↦[(wM false (0, 0)).view.set]{fullShare} ((Memref.whole cc0_scratch0 : Memref sig .tc .vmem S4x4x2x128x256 .i8).access (rB (0, 0))).write (Elt F) f (k0_pay4 (k0_pay3 (ewBlk m c))) Finset.univ : sProp 𝕄)
    ⊢ wPts c false (0, 0) fullShare (Vc m c false (0, 0)) := by
  unfold wPts
  refine Entails.of_eq (pointsTo_congr fun i hi => ?_)
  rw [set_buf, ← View.set_slice_whole cc0_scratch0 (rB (0, 0))] at hi
  obtain ⟨j, rfl⟩ := View.exists_emb_of_mem_set _ hi
  refine (View.write_emb_of_mem (v := (Memref.whole cc0_scratch0 : Memref sig .tc .vmem S4x4x2x128x256 .i8).access (rB (0, 0))) _ _ (Finset.mem_univ _)).trans ?_
  refine Eq.trans ?_ (Vb_emb m c (0, 0) j).symm
  show _ = qb m (owner c 0 0) j
  rw [owner_self]; rfl
theorem own_sc (c : Dev nD) (f) : (((Memref.whole cc0_scratch1 : Memref sig .tc .vmem S4x4x2 .f32).access (rS (0, 0))).loc (c : Thread nD τ)
      ↦[(wM true (0, 0)).view.set]{fullShare} ((Memref.whole cc0_scratch1 : Memref sig .tc .vmem S4x4x2 .f32).access (rS (0, 0))).write (Elt F) f (k0_pay5 (k0_pay2 (ewBlk m c))) Finset.univ : sProp 𝕄)
    ⊢ wPts c true (0, 0) fullShare (Vc m c true (0, 0)) := by
  unfold wPts
  refine Entails.of_eq (pointsTo_congr fun i hi => ?_)
  rw [set_sc, ← View.set_slice_whole cc0_scratch1 (rS (0, 0))] at hi
  obtain ⟨j, rfl⟩ := View.exists_emb_of_mem_set _ hi
  refine (View.write_emb_of_mem (v := (Memref.whole cc0_scratch1 : Memref sig .tc .vmem S4x4x2 .f32).access (rS (0, 0))) _ _ (Finset.mem_univ _)).trans ?_
  refine Eq.trans ?_ (Vs_emb m c (0, 0) j).symm
  show _ = qs m (owner c 0 0) j
  rw [owner_self]; rfl

theorem win_first (c : Dev nD) : iprop(wPts c false (0, 0) fullShare (Vc m c false (0, 0)) ∗ wPts c true (0, 0) fullShare (Vc m c true (0, 0)))
    ⊢ (bigSep Finset.univ (winR m c 0) : sProp 𝕄) := by
  have hne : ∀ (w : Wn) (t : Bool), w ≠ (0, 0) → winR (F := F) m c 0 (w, t) = iprop(emp) := fun w t hw => by
    unfold winR
    refine (bigSep_congr (s := Finset.univ) fun h _ => ?_).trans (emp_all _)
    unfold pieceR
    exact if_neg fun e => by rw [landed_first] at e; exact hw (of_decide_eq_true e.1)
  have h0 : ∀ t, winR (F := F) m c 0 ((0, 0), t) = wPts c t (0, 0) fullShare (Vc m c t (0, 0)) := fun t => by
    rw [wPts_pieces]
    unfold winR
    refine bigSep_congr fun h _ => ?_
    unfold pieceR
    exact if_pos ⟨by rw [landed_first]; rfl, lent_first _ _ _ _⟩
  rw [bigSep_univ_prod, Pipeline.bigSep_univ_comm, bigSep_univ_eq_bigSepL [false, true] (by decide) (by decide)]
  have hs : ∀ t, (bigSep Finset.univ fun w : Wn => winR (F := F) m c 0 (w, t)) = wPts c t (0, 0) fullShare (Vc m c t (0, 0)) := fun t => by
    rw [bigSep_univ_at _ ((0, 0) : Wn), h0, bigSep_congr (s := Finset.univ.erase ((0, 0) : Wn)) (fun w hw => hne w t (Finset.ne_of_mem_erase hw)), emp_all]
    exact sep_emp1 _
  show _ ⊢ iprop((bigSep Finset.univ fun w : Wn => winR (F := F) m c 0 (w, false)) ∗ bigSep Finset.univ fun w : Wn => winR (F := F) m c 0 (w, true))
  rw [hs, hs]

/-! ## Before the wait -/

/-- What the sender of copy `x` holds before its destination's window is given to it. -/
def outB (c : Dev nD) (x : LT) : sProp 𝕄 := if act c x.1 = true then ready c x else atPos ER (xCell false c x) 0 ∅ 0
/-- The token that the signal to neighbour `b` pays with. -/
def tokR (c : Dev nD) (b : Fin 5) : sProp 𝕄 := if bact c b = true then dutyTok ER (barCell (bdst c b)) 0 (bop b) else iprop(emp)
/-- The signal to neighbour `b`, while it is one of those from `i` on. -/
def sigR (c : Dev nD) (i : ℕ) (b : Fin 5) : sProp 𝕄 :=
  if i ≤ b.val ∧ bact c b = true then iprop(dutyTok ER (barCell (bdst c b)) 0 (bop b) ∗ barPay (bdst c b) (bop b)) else iprop(emp)
/-- What the signals leave alone. -/
def rest0 (K : Dev nD × KI → ℕ) (c : Dev nD) : sProp 𝕄 :=
  iprop(atPos ER (barCell c) 0 ∅ 0 ∗ cred (tallyAt (barCell c) () (nbrs c)) ∗ bigSep Finset.univ (outB c) ∗ bigSep Finset.univ (inR c 0))
def EInv (K : Dev nD × KI → ℕ) (c : Dev nD) (o : Buf (Elt F) ((c : Thread nD τ).loc cc0_stg4_0)) : sProp 𝕄 :=
  iprop(records m K ∗ levAts L lv ∗ stgs m c o ∗ rest0 K c ∗ bigSep Finset.univ (tokR c) ∗ (∃ f, bufAll c false f) ∗ (∃ f, bufAll c true f) ∗ owesR c (oweT c 0 + oweB c 0))
def BInv (K : Dev nD × KI → ℕ) (c : Dev nD) (i : ℕ) (o : Buf (Elt F) ((c : Thread nD τ).loc cc0_stg4_0)) : sProp 𝕄 :=
  iprop(records m K ∗ levAts L lv ∗ stgs m c o ∗ rest0 K c ∗ bigSep Finset.univ (sigR c i) ∗ bigSep Finset.univ (winR m c 0) ∗ owesR c (oweT c 0 + oweB c i))

/-- What is paid to neighbour `b`: the windows that it fills. -/
theorem barPay_give (c : Dev nD) (b : Fin 5) (h : bact c b = true) :
    (barPay (bdst c b) (bop b) : sProp 𝕄) = bigSep Finset.univ fun x : LT => if bop (kind x.1) = b then giveR c x else iprop(emp) := by
  unfold barPay giveR
  refine bigSep_congr fun x _ => ?_
  rw [(bdst_bdst c b h).1]
  by_cases hx : inact c x.1 = true ∧ bop (kind x.1) = b
  · rw [if_pos ((give_iff c b x.1 h).mpr hx), if_pos hx.2, if_pos hx.1]
  · rw [if_neg fun e => hx ((give_iff c b x.1 h).mp e)]
    by_cases h2 : bop (kind x.1) = b
    · rw [if_pos h2, if_neg fun e => hx ⟨e, h2⟩]
    · rw [if_neg h2]

theorem sig_first (c : Dev nD) : iprop(bigSep Finset.univ (tokR c) ∗ bigSep Finset.univ (giveR c)) ⊢ (bigSep Finset.univ (sigR c 0) : sProp 𝕄) := by
  have e1 : (bigSep Finset.univ (giveR c) : sProp 𝕄)
      = bigSep Finset.univ fun b : Fin 5 => bigSep Finset.univ fun x : LT => if bop (kind x.1) = b then giveR c x else iprop(emp) := by
    rw [Pipeline.bigSep_univ_comm]
    refine bigSep_congr fun x _ => ?_
    rw [bigSep_univ_at _ (bop (kind x.1)), if_pos rfl,
      bigSep_congr (s := Finset.univ.erase (bop (kind x.1))) (fun b hb => if_neg (Ne.symm (Finset.ne_of_mem_erase hb))), emp_all]
    exact (sep_emp1 _).symm
  rw [e1, ← bigSep_sep']
  refine all_mono fun b _ => ?_
  unfold sigR tokR
  by_cases hb : bact c b = true
  · rw [if_pos hb, if_pos ⟨Nat.zero_le _, hb⟩, barPay_give c b hb]
  · rw [if_neg hb, if_neg fun e => hb e.2,
      bigSep_congr (s := Finset.univ) (Ψ := fun _ : LT => (iprop(emp) : sProp 𝕄)) (fun x _ => by
        by_cases hx : bop (kind x.1) = b
        · rw [if_pos hx]; unfold giveR
          exact if_neg fun e => hb (hx ▸ (kind_src c x.1 e).2)
        · exact if_neg hx), emp_all]
    exact Entails.of_eq (sep_emp1 _)

/-- What the neighbours pay makes every copy of one's own ready. -/
theorem out_first (c : Dev nD) : iprop(bigSep Finset.univ (outB c) ∗ bigSep Finset.univ fun b : Fin 5 => if bact c b = true then barPay c b else iprop(emp))
    ⊢ (bigSep Finset.univ (outR c 0) : sProp 𝕄) := by
  have e1 : (bigSep Finset.univ fun b : Fin 5 => if bact c b = true then (barPay c b : sProp 𝕄) else iprop(emp))
      = bigSep Finset.univ fun x : LT => if act c x.1 = true then iprop(∃ f, wPts (dst c x.1) x.2 (dw x.1) fullShare f) else iprop(emp) := by
    unfold barPay
    rw [bigSep_congr (s := Finset.univ) (Ψ := fun b : Fin 5 => bigSep Finset.univ fun x : LT =>
      if bact c b = true ∧ kind x.1 = b ∧ act c x.1 = true then (iprop(∃ f, wPts (bdst c b) x.2 (dw x.1) fullShare f) : sProp 𝕄) else iprop(emp)) (fun b _ => by
        by_cases hb : bact c b = true
        · rw [if_pos hb]
          refine bigSep_congr fun x _ => ?_
          simp only [hb, true_and]
        · rw [if_neg hb]
          refine Eq.trans (emp_all _).symm (bigSep_congr fun x _ => ?_)
          exact (if_neg fun e => hb e.1).symm), Pipeline.bigSep_univ_comm]
    refine bigSep_congr fun x _ => ?_
    by_cases hx : act c x.1 = true
    · rw [if_pos hx, bigSep_univ_at _ (kind x.1), if_pos ⟨(kind_dst c x.1 hx).2, rfl, hx⟩,
        bigSep_congr (s := Finset.univ.erase (kind x.1)) (fun b hb => if_neg fun e => Finset.ne_of_mem_erase hb e.2.1.symm), emp_all,
        (kind_dst c x.1 hx).1]
      exact sep_emp1 _
    · rw [if_neg hx, bigSep_congr (s := Finset.univ) (fun b _ => if_neg fun e => hx e.2.2), emp_all]
  rw [e1, ← bigSep_sep']
  refine all_mono fun x _ => ?_
  unfold outB outR
  by_cases hx : act c x.1 = true
  · rw [if_pos hx, if_pos hx, if_pos hx, if_pos (Nat.zero_le _)]
  · rw [if_neg hx, if_neg hx, if_neg hx]
    exact Entails.of_eq (sep_emp1 _)

/-! ## The steps -/

variable (K : Dev nD × KI → ℕ) {c : Dev nD} {n : ℕ} {o : Buf (Elt F) ((c : Thread nD τ).loc cc0_stg4_0)}
variable {α : Type} {Q : α → sProp (MT nD τ sig Unit (Elt F) ℕ UU ℕ)}

/-- The signal to neighbour `b`. -/
theorem step_signal (b : Fin 5) (hb : bact c b = true) {d : Dev nD} (hd : d.val = (bdst c b).val) {k : PUnit → PC F α}
    (h : BInv m K c (b.val + 1) o ⊢ wpc c (k ⟨⟩) Q) : BInv m K c b.val o ⊢ wpc c (.op (.semSignal (d : Thread nD τ) barS 1) k) Q := by
  obtain rfl : d = bdst c b := Fin.ext hd
  have hs : ∀ b', b' ≠ b → sigR (F := F) c (b.val + 1) b' = sigR c b.val b' := fun b' hb' => by
    unfold sigR
    have : b'.val ≠ b.val := fun e => hb' (Fin.ext e)
    simp only [show (b.val + 1 ≤ b'.val) = (b.val ≤ b'.val) from propext ⟨fun _ => by omega, fun _ => by omega⟩]
  have hu := bigSep_univ_at (sigR (F := F) c b.val) b
  have hu' := bigSep_univ_at (sigR (F := F) c (b.val + 1)) b
  rw [bigSep_congr (s := Finset.univ.erase b) (fun b' hb' => hs b' (Finset.ne_of_mem_erase hb')), show sigR (F := F) c (b.val + 1) b = iprop(emp) from if_neg fun e => by omega] at hu'
  replace hu' := hu'.trans (emp_sep1 _)
  have hP : (barPay (bdst c b) (bop b) : sProp 𝕄) ⊢ (Rd m).payload (barCell (bdst c b)) 0 (bop b) := Entails.of_eq (payload_bar m _ _).symm
  rw [show sigR (F := F) c b.val b = iprop(dutyTok ER (barCell (bdst c b)) 0 (bop b) ∗ barPay (bdst c b) (bop b)) from if_pos ⟨le_refl _, hb⟩, ← hu'] at hu
  replace hu := Entails.of_eq hu
  have hO : oweT c 0 + oweB c b.val = (oweT c 0 + oweB c (b.val + 1)) + tallyAt (barCell (bdst c b)) () 1 := by rw [oweB_signal c b hb, add_assoc]
  unfold BInv owesR at *
  iintro ⟨#HR, #HL, Hst, Hr, Hsig, Hwin, ⟨%W, Ho⟩⟩
  ihave H1 := hu $$ Hsig
  icases H1 with ⟨⟨Htok, Hpay⟩, Hsig⟩
  iapply (Rounds.wp_signal 𝒱₀ ER (Rd m) (c : Thread nD τ) none (dst := (bdst c b : Thread nD τ)) (κ := K (bdst c b, none)) (d := bop b) (r := 0)
    (by rw [duties_bar]; exact Finset.mem_filter.mpr ⟨Finset.mem_univ _, (bdst_bdst c b hb).2⟩) (amount_bar m (bdst c b) (bop b)) ()
    (oweT c 0 + oweB c (b.val + 1)) hO) $$ [Ho Htok Hpay]
  · isplitr; · iapply (rec_inv m K (bdst c b, none)); iexact HR
    isplitl [Ho]; · iexact Ho
    isplitl [Htok]; · iexact Htok
    isplitl [Hpay]; · iapply hP; iexact Hpay
    iapply (rec_reached m K (bdst c b, none)); iexact HR
  iintro Ho
  iapply h
  isplitr; · iexact HR
  isplitr; · iexact HL
  isplitl [Hst]; · iexact Hst
  isplitl [Hr]; · iexact Hr
  isplitl [Hsig]; · iexact Hsig
  isplitl [Hwin]; · iexact Hwin
  iexists W; iexact Ho

theorem BInv_skip (b : Fin 5) (hb : bact c b = false) : BInv (F := F) m K c b.val o = BInv m K c (b.val + 1) o := by
  have hs : sigR (F := F) c b.val = sigR c (b.val + 1) := funext fun b' => by
    unfold sigR
    by_cases e : b' = b
    · subst e; rw [if_neg fun e => by rw [hb] at e; exact absurd e.2 (by decide), if_neg fun e => by omega]
    · have : b'.val ≠ b.val := fun e' => e (Fin.ext e')
      simp only [show (b.val + 1 ≤ b'.val) = (b.val ≤ b'.val) from propext ⟨fun _ => by omega, fun _ => by omega⟩]
  unfold BInv
  rw [hs, oweB_skip c b hb]

/-- A signal that only some devices send. -/
theorem step_signal_if (b : Fin 5) {P : Prop} [Decidable P] {A : P → PC F α} {B : PC F α} (hc : P ↔ bact c b = true)
    (hA : (BInv m K c (b.val + 1) o ⊢ wpc c B Q) → ∀ h : P, bact c b = true → BInv m K c b.val o ⊢ wpc c (A h) Q)
    (h : BInv m K c (b.val + 1) o ⊢ wpc c B Q) : BInv m K c b.val o ⊢ wpc c (if h : P then A h else B) Q := by
  by_cases hp : P
  · rw [dif_pos hp]; exact hA h hp (hc.mp hp)
  · rw [dif_neg hp, BInv_skip m K b (by cases hx : bact c b with | true => exact absurd (hc.mpr hx) hp | false => rfl)]; exact h

/-- The wait for all neighbours. -/
theorem step_enter {k' : ℕ} (hk : k' = nbrs c) {k : PUnit → PC F α} (h : Inv m K c 0 o ⊢ wpc c (k ⟨⟩) Q) :
    BInv m K c 5 o ⊢ wpc c (.op (.semWait barS k') k) Q := by
  subst hk
  have hO : oweT c 0 + oweB c 5 = oweT c 0 := by rw [oweB_last, add_zero]
  have hm := mayWait_bar (F := F) c
  have ho := out_first (F := F) c
  have hr := rest_bar (F := F) m c
  unfold BInv rest0
  unfold Inv at h
  unfold owesR at *
  rw [hO]
  iintro ⟨#HR, #HL, Hst, ⟨Hp, Hc, Hout, Hin⟩, -, Hwin, ⟨%W, Ho⟩⟩
  iapply (Rounds.wp_wait_rest_token 𝒱₀ ER (Rd m) (c : Thread nD τ) none (κ := K (c, none))
    (wpE_semWait_eq 𝒱₀ (c : Thread nD τ) none Set.univ) (Set.mem_univ _) () (O := oweT c 0) (W := W) (R := 0) (m := 0) (T := ∅)
    (by rw [expect_bar m c, Nat.zero_add])) $$ [Hc Ho Hp]
  · isplitr; · iapply (rec_inv m K (c, none)); iexact HR
    isplitl [Hc]; · iexact Hc
    isplitl [Ho]; · iexact Ho
    isplitr; · iapply hm; iexact HL
    iexact Hp
  iintro ⟨Ho, Hp, -, Hpay⟩
  ihave Hpay := (Entails.of_eq hr) $$ Hpay
  iapply h
  isplitr; · iexact HR
  isplitr; · iexact HL
  isplitl [Hst]; · iexact Hst
  isplitl [Hp]; · iexact Hp
  isplitl [Hout Hpay]
  · iapply ho
    isplitl [Hout] <;> iassumption
  isplitl [Hin]; · iexact Hin
  isplitl [Hwin]; · iexact Hwin
  iexists _; iexact Ho

theorem step_ret' {P : sProp (MT nD τ sig Unit (Elt F) ℕ UU ℕ)} {a : α} (h : P ⊢ Q a) : P ⊢ wpc c (.ret a : PC F α) Q := by
  rw [wpc, wp_ret]; exact h.trans fupd_intro

/-- The load of the device's expert weights. -/
theorem step_load3 {P : sProp (MT nD τ sig Unit (Elt F) ℕ UU ℕ)} {hl} {k : (S2x128x256.Idx → Elt F .bf16) → PC F α}
    (h : iprop(stgs m c o ∗ P) ⊢ wpc c (k (ewBlk m c)) Q) :
    iprop(stgs m c o ∗ P) ⊢ wpc c (.op (.load (Memref.whole cc0_stg3_0 : Memref sig .tc .vmem S2x128x256 .bf16)
      (Rect.unit (s := S2x128x256) ![0, 0, 0] S2x128x256.size inb_S2x128x256_S2x128x256_0_0_0).toLoadRect hl) k) Q := by
  have hz3 : (![0, 0, 0] : Fin 3 → Nat) = fun _ => 0 := by funext i; fin_cases i <;> rfl
  unfold stgs at *
  iintro ⟨⟨H0, H1, H2, H3, H4⟩, Hr⟩
  iapply (wp_load 𝒱₀ (c : Thread nD τ) none Set.univ (m := Memref.whole cc0_stg3_0) (Finset.subset_univ _)) $$ H3; iintro H3
  rw [show (Memref.whole cc0_stg3_0 : Memref sig .tc .vmem S2x128x256 _).view.readAt (Elt F) (Rect.unit (s := S2x128x256) ![0, 0, 0] S2x128x256.size inb_S2x128x256_S2x128x256_0_0_0).toLoadRect _ = _ from
    Memref.readAt_unit_zero (Elt F) cc0_stg3_0 hz3 _ _]
  iapply h
  isplitl [H0 H1 H2 H3 H4]
  · isplitl [H0]; · iexact H0
    isplitl [H1]; · iexact H1
    isplitl [H2]; · iexact H2
    isplitl [H3] <;> iassumption
  iexact Hr

/-- A load of the device's own window: its value is not used. -/
theorem step_own0 {P : sProp (MT nD τ sig Unit (Elt F) ℕ UU ℕ)} {f} {hl} {k : (S1x1x2x128x256.Idx → Elt F .i8) → PC F α}
    (h : ∀ v, iprop(wPts c false (0, 0) fullShare f ∗ P) ⊢ wpc c (k v) Q) :
    iprop(wPts c false (0, 0) fullShare f ∗ P) ⊢ wpc c (.op (.load (Memref.whole cc0_scratch0 : Memref sig .tc .vmem S4x4x2x128x256 .i8) (rB (0, 0)).toLoadRect hl) k) Q := by
  have hh := h ((Memref.whole cc0_scratch0 : Memref sig .tc .vmem S4x4x2x128x256 .i8).view.readAt (Elt F) (rB (0, 0)).toLoadRect f)
  unfold wPts at *
  iintro ⟨H, Hr⟩
  iapply (wp_load_rect 𝒱₀ (c : Thread nD τ) none Set.univ (m := (Memref.whole cc0_scratch0 : Memref sig .tc .vmem S4x4x2x128x256 .i8)) (r := rB (0, 0))
    (by rw [set_buf, ← View.set_slice_whole cc0_scratch0 (rB (0, 0))])) $$ H; iintro H
  iapply hh
  isplitl [H] <;> iassumption
theorem step_own1 {P : sProp (MT nD τ sig Unit (Elt F) ℕ UU ℕ)} {f} {hl} {k : (S1x1x2.Idx → Elt F .f32) → PC F α}
    (h : ∀ v, iprop(wPts c true (0, 0) fullShare f ∗ P) ⊢ wpc c (k v) Q) :
    iprop(wPts c true (0, 0) fullShare f ∗ P) ⊢ wpc c (.op (.load (Memref.whole cc0_scratch1 : Memref sig .tc .vmem S4x4x2 .f32) (rS (0, 0)).toLoadRect hl) k) Q := by
  have hh := h ((Memref.whole cc0_scratch1 : Memref sig .tc .vmem S4x4x2 .f32).view.readAt (Elt F) (rS (0, 0)).toLoadRect f)
  unfold wPts at *
  iintro ⟨H, Hr⟩
  iapply (wp_load_rect 𝒱₀ (c : Thread nD τ) none Set.univ (m := (Memref.whole cc0_scratch1 : Memref sig .tc .vmem S4x4x2 .f32)) (r := rS (0, 0))
    (by rw [set_sc, ← View.set_slice_whole cc0_scratch1 (rS (0, 0))])) $$ H; iintro H
  iapply hh
  isplitl [H] <;> iassumption
/-- The stores of the device's own block and scales. -/
theorem step_put0 {P : sProp (MT nD τ sig Unit (Elt F) ℕ UU ℕ)} {f} {hx hm} {k : PUnit → PC F α}
    (h : iprop(wPts c false (0, 0) fullShare (Vc m c false (0, 0)) ∗ P) ⊢ wpc c (k ⟨⟩) Q) :
    iprop(wPts c false (0, 0) fullShare f ∗ P) ⊢ wpc c (.op (.store (Memref.whole cc0_scratch0 : Memref sig .tc .vmem S4x4x2x128x256 .i8) (rB (0, 0))
      (k0_pay4 (k0_pay3 (ewBlk m c))) Finset.univ hx hm) k) Q := by
  have hw := own_buf m c f
  rw [show wPts c false (0, 0) fullShare f = ((wM false (0, 0)).view.loc (c : Thread nD τ) ↦[(wM false (0, 0)).view.set]{fullShare} f : sProp 𝕄) from rfl]
  iintro ⟨H, Hr⟩
  iapply (wp_store 𝒱₀ (c : Thread nD τ) none Set.univ (m := (Memref.whole cc0_scratch0 : Memref sig .tc .vmem S4x4x2x128x256 .i8)) (r := rB (0, 0)) (Mk := Finset.univ)
    (by rw [set_buf, ← View.set_slice_whole cc0_scratch0 (rB (0, 0))]; exact Finset.Subset.refl _)) $$ H; iintro H
  iapply h
  isplitl [H]; · iapply hw; iexact H
  iexact Hr
theorem step_put1 {P : sProp (MT nD τ sig Unit (Elt F) ℕ UU ℕ)} {f} {hx hm} {k : PUnit → PC F α}
    (h : iprop(wPts c true (0, 0) fullShare (Vc m c true (0, 0)) ∗ P) ⊢ wpc c (k ⟨⟩) Q) :
    iprop(wPts c true (0, 0) fullShare f ∗ P) ⊢ wpc c (.op (.store (Memref.whole cc0_scratch1 : Memref sig .tc .vmem S4x4x2 .f32) (rS (0, 0))
      (k0_pay5 (k0_pay2 (ewBlk m c))) Finset.univ hx hm) k) Q := by
  have hw := own_sc m c f
  rw [show wPts c true (0, 0) fullShare f = ((wM true (0, 0)).view.loc (c : Thread nD τ) ↦[(wM true (0, 0)).view.set]{fullShare} f : sProp 𝕄) from rfl]
  iintro ⟨H, Hr⟩
  iapply (wp_store 𝒱₀ (c : Thread nD τ) none Set.univ (m := (Memref.whole cc0_scratch1 : Memref sig .tc .vmem S4x4x2 .f32)) (r := rS (0, 0)) (Mk := Finset.univ)
    (by rw [set_sc, ← View.set_slice_whole cc0_scratch1 (rS (0, 0))]; exact Finset.Subset.refl _)) $$ H; iintro H
  iapply h
  isplitl [H]; · iapply hw; iexact H
  iexact Hr

/-- What is left of the state while the two buffers are at hand. -/
def eRest (K : Dev nD × KI → ℕ) (c : Dev nD) (o : Buf (Elt F) ((c : Thread nD τ).loc cc0_stg4_0)) : sProp 𝕄 :=
  iprop(records m K ∗ levAts L lv ∗ stgs m c o ∗ rest0 K c ∗ bigSep Finset.univ (tokR c) ∗ bigSep Finset.univ (giveR c) ∗ owesR c (oweT c 0 + oweB c 0))
theorem EInv_split {T : sProp (MT nD τ sig Unit (Elt F) ℕ UU ℕ)}
    (h : ∀ f0 f1, iprop(wPts c false (0, 0) fullShare f0 ∗ (wPts c true (0, 0) fullShare f1 ∗ eRest m K c o)) ⊢ T) : EInv m K c o ⊢ T := by
  unfold EInv
  iintro ⟨HR, HL, Hs, Hr, Ht, ⟨%f0, H0⟩, ⟨%f1, H1⟩, Ho⟩
  ihave H := (split_give c f0 f1) $$ [H0 H1]
  · isplitl [H0] <;> iassumption
  icases H with ⟨H0, H1, Hg⟩
  iapply (h f0 f1)
  isplitl [H0]; · iexact H0
  isplitl [H1]; · iexact H1
  unfold eRest
  isplitl [HR]; · iexact HR
  isplitl [HL]; · iexact HL
  isplitl [Hs]; · iexact Hs
  isplitl [Hr]; · iexact Hr
  isplitl [Ht]; · iexact Ht
  isplitl [Hg] <;> iassumption
theorem swap {A B T P : sProp (MT nD τ sig Unit (Elt F) ℕ UU ℕ)} (h : iprop(B ∗ (A ∗ P)) ⊢ T) : iprop(A ∗ (B ∗ P)) ⊢ T := by
  iintro ⟨HA, HB, HP⟩
  iapply h
  isplitl [HB]; · iexact HB
  isplitl [HA] <;> iassumption
theorem EInv_join {T : sProp (MT nD τ sig Unit (Elt F) ℕ UU ℕ)} (h : BInv m K c 0 o ⊢ T) :
    iprop(wPts c true (0, 0) fullShare (Vc m c true (0, 0)) ∗ (wPts c false (0, 0) fullShare (Vc m c false (0, 0)) ∗ eRest m K c o)) ⊢ T := by
  have hs := sig_first (F := F) c
  have hw := win_first (F := F) m c
  unfold BInv at h
  unfold eRest
  iintro ⟨H1, H0, HR, HL, Hs, Hr, Ht, Hg, Ho⟩
  iapply h
  isplitl [HR]; · iexact HR
  isplitl [HL]; · iexact HL
  isplitl [Hs]; · iexact Hs
  isplitl [Hr]; · iexact Hr
  isplitl [Ht Hg]
  · iapply hs
    isplitl [Ht] <;> iassumption
  isplitl [H0 H1]
  · iapply hw
    isplitl [H0] <;> iassumption
  iexact Ho

/-! ## The three stretches -/

theorem part19 {Q : (Σ' (d0 : Dev nD) (v2 : BitVec 32) (v19 : BitVec 32) (v20 : BitVec 32) (v26 : FVec F S2x1x1 .f32), IVec S2x128x256 8) → sProp 𝕄}
    (h : EInv m K c o ⊢ Q ⟨c, idW c, zW c, pW c, k0_pay2 (ewBlk m c), k0_pay3 (ewBlk m c)⟩) :
    EInv m K c o ⊢ wpc c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13) Q := by
  rw [k0_part19_eq_skeleton]
  unfold k0_part19_skel
  simp only [Prog.lift, Prog.bind_op, Prog.bind_ret, Prog.pure_eq_ret]
  rw [wpc, wp_deviceId]
  have e : EInv m K c o = iprop(stgs m c o ∗ (records m K ∗ levAts L lv ∗ rest0 K c ∗ bigSep Finset.univ (tokR c) ∗ (∃ f, bufAll c false f) ∗ (∃ f, bufAll c true f) ∗ owesR c (oweT c 0 + oweB c 0))) := by
    have a : EInv m K c o ⊢ iprop(stgs m c o ∗ (records m K ∗ levAts L lv ∗ rest0 K c ∗ bigSep Finset.univ (tokR c) ∗ (∃ f, bufAll c false f) ∗ (∃ f, bufAll c true f) ∗ owesR c (oweT c 0 + oweB c 0))) := by
      unfold EInv
      iintro ⟨HR, HL, Hs, Hr⟩
      isplitl [Hs]; · iexact Hs
      isplitl [HR]; · iexact HR
      isplitl [HL] <;> iassumption
    have b : iprop(stgs m c o ∗ (records m K ∗ levAts L lv ∗ rest0 K c ∗ bigSep Finset.univ (tokR c) ∗ (∃ f, bufAll c false f) ∗ (∃ f, bufAll c true f) ∗ owesR c (oweT c 0 + oweB c 0))) ⊢ EInv m K c o := by
      unfold EInv
      iintro ⟨Hs, HR, HL, Hr⟩
      isplitl [HR]; · iexact HR
      isplitl [HL]; · iexact HL
      isplitl [Hs] <;> iassumption
    exact BI.Entails.antisymm a b
  rw [e] at h ⊢
  refine step_load3 m ?_
  refine step_ret' ?_
  exact h

end Cert.KernelIdeal.Run

end
-- ==== Proof.Ideal.Barrier.lean ====
/-
# The two stretches around the entry barrier
-/
module

public import proofs.«01_k».proof.Proof.Ideal.Enter

@[expose] public section

noncomputable section

namespace Cert.KernelIdeal.Run

open Cert.KernelIdeal Cert.KernelIdeal.Gen Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (K : Dev nD × KI → ℕ) {c : Dev nD} {n : ℕ} {o : Buf (Elt F) ((c : Thread nD τ).loc cc0_stg4_0)}
variable {α : Type} {Q : α → sProp (MT nD τ sig Unit (Elt F) ℕ UU ℕ)}

theorem one_toInt : (1#32 : BitVec 32).toInt = 1 := by decide

theorem part20 {Q : Sems sig S_ → sProp 𝕄} {v19 v20 : BitVec 32} (h : BInv m K c 3 o ⊢ Q (SemArray.scalar (sig.barrier 0 rfl))) :
    EInv m K c o ⊢ wpc c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v19 v20 (k0_pay2 (ewBlk m c)) (k0_pay3 (ewBlk m c))) Q := by
  rw [k0_part20_eq_skeleton]
  unfold k0_part20_skel
  simp only [semSignalWord, Prog.lift, Prog.bind_op, Prog.bind_ret, Prog.pure_eq_ret]
  rw [show (1#32 : BitVec 32).toInt = 1 from by decide]
  refine EInv_split m K fun f0 f1 => ?_
  refine step_own0 fun v => ?_
  refine step_put0 m ?_
  refine swap ?_
  refine step_own1 fun v => ?_
  refine step_put1 m ?_
  refine EInv_join m K ?_
  have hb0 : bact c 0 = true := rfl
  have hb1 : bact c 1 = true := rfl
  have hb2 : bact c 2 = true := rfl
  refine step_signal m K 0 hb0 ?_ ?_
  · exact dev1_to c
  refine step_signal m K 1 hb1 ?_ ?_
  · exact dev2_to c
  refine step_signal m K 2 hb2 ?_ ?_
  · exact dev3_to c
  refine step_ret' ?_
  exact h

theorem part21 {Q : (Σ' (v93 : BitVec 32), BitVec 32) → sProp 𝕄} (h : Inv m K c 4 o ⊢ Q ⟨(Scalar.muli (Scalar.addi (Scalar.muli (zW c) 4#32) (Scalar.remsi (Scalar.addi (pW c) 1#32) 4#32)) 1#32), 0#32⟩) :
    BInv m K c 3 o ⊢ wpc c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c (idW c) (zW c) (pW c) (SemArray.scalar (sig.barrier 0 rfl))) Q := by
  rw [k0_part21_eq_skeleton]
  unfold k0_part21_skel
  simp -zeta only [semSignalWord, semWaitWord, one_toInt, amt1_eq, Prog.lift, Prog.bind_op, Prog.bind_ret, Prog.pure_eq_ret]
  extract_lets
  refine step_signal_if m K 3 (cond_1 c) (fun hQ h hb => ?_) ?_
  · refine step_signal m K 3 hb ?_ ?_
    · exact dev4_to c hb
    exact hQ
  refine step_signal_if m K 4 (cond_2 c) (fun hQ h hb => ?_) ?_
  · refine step_signal m K 4 hb ?_ ?_
    · exact dev5_to c hb
    exact hQ
  refine step_enter m K rfl ?_
  refine step_if m K (n' := 1) (cond_3 c) (fun hQ h ho => ?_) (fun ho => Inv_skip m K ho _) ?_
  · refine step_send m K ev0 ho (k0_dev6_eq c _ (send_act ev0 ho)) rfl rfl rfl rfl ?_
    exact hQ
  refine step_if m K (n' := 2) (cond_4 c) (fun hQ h ho => ?_) (fun ho => Inv_skip m K ho _) ?_
  · refine step_send m K ev1 ho (k0_dev7_eq c _ (send_act ev1 ho)) rfl rfl rfl rfl ?_
    exact hQ
  refine step_if m K (n' := 3) (cond_5 c) (fun hQ h ho => ?_) (fun ho => Inv_skip m K ho _) ?_
  · refine step_send m K ev2 ho (k0_dev8_eq c _ (send_act ev2 ho)) rfl rfl rfl rfl ?_
    exact hQ
  refine step_if m K (n' := 4) (cond_6 c) (fun hQ h ho => ?_) (fun ho => Inv_skip m K ho _) ?_
  · refine step_send m K ev3 ho (k0_dev9_eq c _ (send_act ev3 ho)) rfl rfl rfl rfl ?_
    exact hQ
  refine step_ret m K ?_
  exact h

end Cert.KernelIdeal.Run

end
-- ==== Proof.Ideal.Relay.lean ====
/-
# The relays: three pairs of copies to the plane mates
-/
module

public import proofs.«01_k».proof.Proof.Ideal.Words

@[expose] public section

noncomputable section

namespace Cert.KernelIdeal.Run

open Cert.KernelIdeal Cert.KernelIdeal.Gen Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (K : Dev nD × KI → ℕ) {c : Dev nD} {n : ℕ} {o : Buf (Elt F) ((c : Thread nD τ).loc cc0_stg4_0)}
variable {α : Type} {Q : α → sProp (MT nD τ sig Unit (Elt F) ℕ UU ℕ)}

theorem part1 {Q : (PUnit) → sProp 𝕄} (h11 : k0_cond11 c = 1#1) (ho : on c 14 = true) (h : Inv m K c 15 o ⊢ Q ⟨⟩) :
    Inv m K c 14 o ⊢ wpc c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h11) Q := by
  rw [k0_part1_eq_skeleton]
  unfold k0_part1_skel
  try simp only [Prog.lift, Prog.bind_op, Prog.bind_ret, Prog.pure_eq_ret]
  refine step_send m K ev14 ho (k0_dev18_eq c _ (send_act ev14 ho)) rfl rfl rfl rfl ?_
  refine step_ret m K ?_
  exact h

theorem part2 {Q : (PUnit) → sProp 𝕄} (h11 : k0_cond11 c = 1#1) (ho : on c 14 = true) (h : Inv m K c 17 o ⊢ Q ⟨⟩) :
    Inv m K c 15 o ⊢ wpc c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h11) Q := by
  rw [k0_part2_eq_skeleton]
  unfold k0_part2_skel
  try simp only [Prog.lift, Prog.bind_op, Prog.bind_ret, Prog.pure_eq_ret]
  refine step_send m K ev15 ((on_15_eq c).trans ho) (k0_dev19_eq c _ (send_act ev15 ((on_15_eq c).trans ho))) rfl rfl rfl rfl ?_
  refine step_send m K ev16 ((on_16_eq c).trans ho) (k0_dev20_eq c _ (send_act ev16 ((on_16_eq c).trans ho))) rfl rfl rfl rfl ?_
  refine step_ret m K ?_
  exact h

theorem part3 {Q : (Σ' (v1056 : BitVec 32), BitVec 32) → sProp 𝕄} (h11 : k0_cond11 c = 1#1) (ho : on c 14 = true) (h : Inv m K c 19 o ⊢ Q ⟨(Scalar.muli (Scalar.addi (Scalar.muli (zW c) 4#32) (Scalar.remsi (Scalar.addi (pW c) 3#32) 4#32)) 1#32), 0#32⟩) :
    Inv m K c 17 o ⊢ wpc c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h11) Q := by
  rw [k0_part3_eq_skeleton]
  unfold k0_part3_skel
  try simp only [Prog.lift, Prog.bind_op, Prog.bind_ret, Prog.pure_eq_ret]
  refine step_send m K ev17 ((on_17_eq c).trans ho) (k0_dev21_eq c _ (send_act ev17 ((on_17_eq c).trans ho))) rfl rfl rfl rfl ?_
  refine step_send m K ev18 ((on_18_eq c).trans ho) (k0_dev22_eq c _ (send_act ev18 ((on_18_eq c).trans ho))) rfl rfl rfl rfl ?_
  refine step_ret m K ?_
  exact h

theorem part4 {Q : (PUnit) → sProp 𝕄} (h16 : k0_cond16 c = 1#1) (ho : on c 24 = true) (h : Inv m K c 25 o ⊢ Q ⟨⟩) :
    Inv m K c 24 o ⊢ wpc c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h16) Q := by
  rw [k0_part4_eq_skeleton]
  unfold k0_part4_skel
  try simp only [Prog.lift, Prog.bind_op, Prog.bind_ret, Prog.pure_eq_ret]
  refine step_send m K ev24 ho (k0_dev26_eq c _ (send_act ev24 ho)) rfl rfl rfl rfl ?_
  refine step_ret m K ?_
  exact h

theorem part5 {Q : (PUnit) → sProp 𝕄} (h16 : k0_cond16 c = 1#1) (ho : on c 24 = true) (h : Inv m K c 27 o ⊢ Q ⟨⟩) :
    Inv m K c 25 o ⊢ wpc c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h16) Q := by
  rw [k0_part5_eq_skeleton]
  unfold k0_part5_skel
  try simp only [Prog.lift, Prog.bind_op, Prog.bind_ret, Prog.pure_eq_ret]
  refine step_send m K ev25 ((on_25_eq c).trans ho) (k0_dev27_eq c _ (send_act ev25 ((on_25_eq c).trans ho))) rfl rfl rfl rfl ?_
  refine step_send m K ev26 ((on_26_eq c).trans ho) (k0_dev28_eq c _ (send_act ev26 ((on_26_eq c).trans ho))) rfl rfl rfl rfl ?_
  refine step_ret m K ?_
  exact h

theorem part6 {Q : (Σ' (v1056 : BitVec 32), BitVec 32) → sProp 𝕄} (h16 : k0_cond16 c = 1#1) (ho : on c 24 = true) (h : Inv m K c 29 o ⊢ Q ⟨(Scalar.muli (Scalar.addi (Scalar.muli (zW c) 4#32) (Scalar.remsi (Scalar.addi (pW c) 3#32) 4#32)) 1#32), 0#32⟩) :
    Inv m K c 27 o ⊢ wpc c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h16) Q := by
  rw [k0_part6_eq_skeleton]
  unfold k0_part6_skel
  try simp only [Prog.lift, Prog.bind_op, Prog.bind_ret, Prog.pure_eq_ret]
  refine step_send m K ev27 ((on_27_eq c).trans ho) (k0_dev29_eq c _ (send_act ev27 ((on_27_eq c).trans ho))) rfl rfl rfl rfl ?_
  refine step_send m K ev28 ((on_28_eq c).trans ho) (k0_dev30_eq c _ (send_act ev28 ((on_28_eq c).trans ho))) rfl rfl rfl rfl ?_
  refine step_ret m K ?_
  exact h

theorem part7 {Q : (PUnit) → sProp 𝕄} (h21 : k0_cond21 c = 1#1) (ho : on c 34 = true) (h : Inv m K c 35 o ⊢ Q ⟨⟩) :
    Inv m K c 34 o ⊢ wpc c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h21) Q := by
  rw [k0_part7_eq_skeleton]
  unfold k0_part7_skel
  try simp only [Prog.lift, Prog.bind_op, Prog.bind_ret, Prog.pure_eq_ret]
  refine step_send m K ev34 ho (k0_dev34_eq c _ (send_act ev34 ho)) rfl rfl rfl rfl ?_
  refine step_ret m K ?_
  exact h

theorem part8 {Q : (PUnit) → sProp 𝕄} (h21 : k0_cond21 c = 1#1) (ho : on c 34 = true) (h : Inv m K c 37 o ⊢ Q ⟨⟩) :
    Inv m K c 35 o ⊢ wpc c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h21) Q := by
  rw [k0_part8_eq_skeleton]
  unfold k0_part8_skel
  try simp only [Prog.lift, Prog.bind_op, Prog.bind_ret, Prog.pure_eq_ret]
  refine step_send m K ev35 ((on_35_eq c).trans ho) (k0_dev35_eq c _ (send_act ev35 ((on_35_eq c).trans ho))) rfl rfl rfl rfl ?_
  refine step_send m K ev36 ((on_36_eq c).trans ho) (k0_dev36_eq c _ (send_act ev36 ((on_36_eq c).trans ho))) rfl rfl rfl rfl ?_
  refine step_ret m K ?_
  exact h

theorem part9 {Q : (Σ' (v1056 : BitVec 32), BitVec 32) → sProp 𝕄} (h21 : k0_cond21 c = 1#1) (ho : on c 34 = true) (h : Inv m K c 39 o ⊢ Q ⟨(Scalar.muli (Scalar.addi (Scalar.muli (zW c) 4#32) (Scalar.remsi (Scalar.addi (pW c) 3#32) 4#32)) 1#32), 0#32⟩) :
    Inv m K c 37 o ⊢ wpc c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h21) Q := by
  rw [k0_part9_eq_skeleton]
  unfold k0_part9_skel
  try simp only [Prog.lift, Prog.bind_op, Prog.bind_ret, Prog.pure_eq_ret]
  refine step_send m K ev37 ((on_37_eq c).trans ho) (k0_dev37_eq c _ (send_act ev37 ((on_37_eq c).trans ho))) rfl rfl rfl rfl ?_
  refine step_send m K ev38 ((on_38_eq c).trans ho) (k0_dev38_eq c _ (send_act ev38 ((on_38_eq c).trans ho))) rfl rfl rfl rfl ?_
  refine step_ret m K ?_
  exact h

theorem part10 {Q : (PUnit) → sProp 𝕄} (h26 : k0_cond26 c = 1#1) (ho : on c 44 = true) (h : Inv m K c 45 o ⊢ Q ⟨⟩) :
    Inv m K c 44 o ⊢ wpc c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h26) Q := by
  rw [k0_part10_eq_skeleton]
  unfold k0_part10_skel
  try simp only [Prog.lift, Prog.bind_op, Prog.bind_ret, Prog.pure_eq_ret]
  refine step_send m K ev44 ho (k0_dev42_eq c _ (send_act ev44 ho)) rfl rfl rfl rfl ?_
  refine step_ret m K ?_
  exact h

theorem part11 {Q : (PUnit) → sProp 𝕄} (h26 : k0_cond26 c = 1#1) (ho : on c 44 = true) (h : Inv m K c 47 o ⊢ Q ⟨⟩) :
    Inv m K c 45 o ⊢ wpc c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h26) Q := by
  rw [k0_part11_eq_skeleton]
  unfold k0_part11_skel
  try simp only [Prog.lift, Prog.bind_op, Prog.bind_ret, Prog.pure_eq_ret]
  refine step_send m K ev45 ((on_45_eq c).trans ho) (k0_dev43_eq c _ (send_act ev45 ((on_45_eq c).trans ho))) rfl rfl rfl rfl ?_
  refine step_send m K ev46 ((on_46_eq c).trans ho) (k0_dev44_eq c _ (send_act ev46 ((on_46_eq c).trans ho))) rfl rfl rfl rfl ?_
  refine step_ret m K ?_
  exact h

theorem part12 {Q : (Σ' (v1056 : BitVec 32), BitVec 32) → sProp 𝕄} (h26 : k0_cond26 c = 1#1) (ho : on c 44 = true) (h : Inv m K c 49 o ⊢ Q ⟨(Scalar.muli (Scalar.addi (Scalar.muli (zW c) 4#32) (Scalar.remsi (Scalar.addi (pW c) 3#32) 4#32)) 1#32), 0#32⟩) :
    Inv m K c 47 o ⊢ wpc c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h26) Q := by
  rw [k0_part12_eq_skeleton]
  unfold k0_part12_skel
  try simp only [Prog.lift, Prog.bind_op, Prog.bind_ret, Prog.pure_eq_ret]
  refine step_send m K ev47 ((on_47_eq c).trans ho) (k0_dev45_eq c _ (send_act ev47 ((on_47_eq c).trans ho))) rfl rfl rfl rfl ?_
  refine step_send m K ev48 ((on_48_eq c).trans ho) (k0_dev46_eq c _ (send_act ev48 ((on_48_eq c).trans ho))) rfl rfl rfl rfl ?_
  refine step_ret m K ?_
  exact h

theorem part13 {Q : (PUnit) → sProp 𝕄} (h29 : k0_cond29 c = 1#1) (ho : on c 52 = true) (h : Inv m K c 53 o ⊢ Q ⟨⟩) :
    Inv m K c 52 o ⊢ wpc c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h29) Q := by
  rw [k0_part13_eq_skeleton]
  unfold k0_part13_skel
  try simp only [Prog.lift, Prog.bind_op, Prog.bind_ret, Prog.pure_eq_ret]
  refine step_send m K ev52 ho (k0_dev48_eq c _ (send_act ev52 ho)) rfl rfl rfl rfl ?_
  refine step_ret m K ?_
  exact h

theorem part14 {Q : (PUnit) → sProp 𝕄} (h29 : k0_cond29 c = 1#1) (ho : on c 52 = true) (h : Inv m K c 55 o ⊢ Q ⟨⟩) :
    Inv m K c 53 o ⊢ wpc c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h29) Q := by
  rw [k0_part14_eq_skeleton]
  unfold k0_part14_skel
  try simp only [Prog.lift, Prog.bind_op, Prog.bind_ret, Prog.pure_eq_ret]
  refine step_send m K ev53 ((on_53_eq c).trans ho) (k0_dev49_eq c _ (send_act ev53 ((on_53_eq c).trans ho))) rfl rfl rfl rfl ?_
  refine step_send m K ev54 ((on_54_eq c).trans ho) (k0_dev50_eq c _ (send_act ev54 ((on_54_eq c).trans ho))) rfl rfl rfl rfl ?_
  refine step_ret m K ?_
  exact h

theorem part15 {Q : (Σ' (v1056 : BitVec 32), BitVec 32) → sProp 𝕄} (h29 : k0_cond29 c = 1#1) (ho : on c 52 = true) (h : Inv m K c 57 o ⊢ Q ⟨(Scalar.muli (Scalar.addi (Scalar.muli (zW c) 4#32) (Scalar.remsi (Scalar.addi (pW c) 3#32) 4#32)) 1#32), 0#32⟩) :
    Inv m K c 55 o ⊢ wpc c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h29) Q := by
  rw [k0_part15_eq_skeleton]
  unfold k0_part15_skel
  try simp only [Prog.lift, Prog.bind_op, Prog.bind_ret, Prog.pure_eq_ret]
  refine step_send m K ev55 ((on_55_eq c).trans ho) (k0_dev51_eq c _ (send_act ev55 ((on_55_eq c).trans ho))) rfl rfl rfl rfl ?_
  refine step_send m K ev56 ((on_56_eq c).trans ho) (k0_dev52_eq c _ (send_act ev56 ((on_56_eq c).trans ho))) rfl rfl rfl rfl ?_
  refine step_ret m K ?_
  exact h

theorem part16 {Q : (PUnit) → sProp 𝕄} (h32 : k0_cond32 c = 1#1) (ho : on c 60 = true) (h : Inv m K c 61 o ⊢ Q ⟨⟩) :
    Inv m K c 60 o ⊢ wpc c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h32) Q := by
  rw [k0_part16_eq_skeleton]
  unfold k0_part16_skel
  try simp only [Prog.lift, Prog.bind_op, Prog.bind_ret, Prog.pure_eq_ret]
  refine step_send m K ev60 ho (k0_dev54_eq c _ (send_act ev60 ho)) rfl rfl rfl rfl ?_
  refine step_ret m K ?_
  exact h

theorem part17 {Q : (PUnit) → sProp 𝕄} (h32 : k0_cond32 c = 1#1) (ho : on c 60 = true) (h : Inv m K c 63 o ⊢ Q ⟨⟩) :
    Inv m K c 61 o ⊢ wpc c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h32) Q := by
  rw [k0_part17_eq_skeleton]
  unfold k0_part17_skel
  try simp only [Prog.lift, Prog.bind_op, Prog.bind_ret, Prog.pure_eq_ret]
  refine step_send m K ev61 ((on_61_eq c).trans ho) (k0_dev55_eq c _ (send_act ev61 ((on_61_eq c).trans ho))) rfl rfl rfl rfl ?_
  refine step_send m K ev62 ((on_62_eq c).trans ho) (k0_dev56_eq c _ (send_act ev62 ((on_62_eq c).trans ho))) rfl rfl rfl rfl ?_
  refine step_ret m K ?_
  exact h

theorem part18 {Q : (Σ' (v1056 : BitVec 32), BitVec 32) → sProp 𝕄} (h32 : k0_cond32 c = 1#1) (ho : on c 60 = true) (h : Inv m K c 65 o ⊢ Q ⟨(Scalar.muli (Scalar.addi (Scalar.muli (zW c) 4#32) (Scalar.remsi (Scalar.addi (pW c) 3#32) 4#32)) 1#32), 0#32⟩) :
    Inv m K c 63 o ⊢ wpc c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) h32) Q := by
  rw [k0_part18_eq_skeleton]
  unfold k0_part18_skel
  try simp only [Prog.lift, Prog.bind_op, Prog.bind_ret, Prog.pure_eq_ret]
  refine step_send m K ev63 ((on_63_eq c).trans ho) (k0_dev57_eq c _ (send_act ev63 ((on_63_eq c).trans ho))) rfl rfl rfl rfl ?_
  refine step_send m K ev64 ((on_64_eq c).trans ho) (k0_dev58_eq c _ (send_act ev64 ((on_64_eq c).trans ho))) rfl rfl rfl rfl ?_
  refine step_ret m K ?_
  exact h

end Cert.KernelIdeal.Run

end

end
-- ==== Proof.Ideal.Send.lean ====
/-
# The first copies, and those between the planes
-/
module

public import proofs.«01_k».proof.Proof.Ideal.Relay

@[expose] public section

noncomputable section

namespace Cert.KernelIdeal.Run

open Cert.KernelIdeal Cert.KernelIdeal.Gen Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (K : Dev nD × KI → ℕ) {c : Dev nD} {n : ℕ} {o : Buf (Elt F) ((c : Thread nD τ).loc cc0_stg4_0)}
variable {α : Type} {Q : α → sProp (MT nD τ sig Unit (Elt F) ℕ UU ℕ)}

theorem part22 {Q : (BitVec 32) → sProp 𝕄} (h : Inv m K c 6 o ⊢ Q (Scalar.addi (Scalar.muli (zW c) 4#32) (Scalar.remsi (Scalar.addi (pW c) 2#32) 4#32))) :
    Inv m K c 4 o ⊢ wpc c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) ((Scalar.muli (Scalar.addi (Scalar.muli (zW c) 4#32) (Scalar.remsi (Scalar.addi (pW c) 1#32) 4#32)) 1#32)) 0#32) Q := by
  rw [k0_part22_eq_skeleton]
  unfold k0_part22_skel
  try simp only [Prog.lift, Prog.bind_op, Prog.bind_ret, Prog.pure_eq_ret]
  refine step_send m K ev4 (on_4 c) (k0_dev10_eq c _ (send_act ev4 (on_4 c))) rfl rfl rfl rfl ?_
  refine step_send m K ev5 (on_5 c) (k0_dev11_eq c _ (send_act ev5 (on_5 c))) rfl rfl rfl rfl ?_
  refine step_ret m K ?_
  exact h

theorem part23 {Q : (BitVec 32) → sProp 𝕄} (h : Inv m K c 8 o ⊢ Q (Scalar.addi (Scalar.muli (zW c) 4#32) (Scalar.remsi (Scalar.addi (pW c) 3#32) 4#32))) :
    Inv m K c 6 o ⊢ wpc c (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) ((Scalar.addi (Scalar.muli (zW c) 4#32) (Scalar.remsi (Scalar.addi (pW c) 2#32) 4#32)))) Q := by
  rw [k0_part23_eq_skeleton]
  unfold k0_part23_skel
  try simp only [Prog.lift, Prog.bind_op, Prog.bind_ret, Prog.pure_eq_ret]
  refine step_send m K ev6 (on_6 c) (k0_dev12_eq c _ (send_act ev6 (on_6 c))) rfl rfl rfl rfl ?_
  refine step_send m K ev7 (on_7 c) (k0_dev13_eq c _ (send_act ev7 (on_7 c))) rfl rfl rfl rfl ?_
  refine step_ret m K ?_
  exact h

theorem part24 {Q : (Σ' (v173 : BitVec 1) (v174 : BitVec 1) (v175 : BitVec 32), BitVec 32) → sProp 𝕄} (h : Inv m K c 10 o ⊢ Q ⟨(Scalar.cmpi .sge (zW c) 1#32), (Scalar.cmpi .sle (zW c) 2#32), (Scalar.extui (Scalar.cmpi .sge (zW c) 1#32)), 0#32⟩) :
    Inv m K c 8 o ⊢ wpc c (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((zW c)) ((pW c)) ((Scalar.addi (Scalar.muli (zW c) 4#32) (Scalar.remsi (Scalar.addi (pW c) 3#32) 4#32)))) Q := by
  rw [k0_part24_eq_skeleton]
  unfold k0_part24_skel
  try simp only [Prog.lift, Prog.bind_op, Prog.bind_ret, Prog.pure_eq_ret]
  refine step_send m K ev8 (on_8 c) (k0_dev14_eq c _ (send_act ev8 (on_8 c))) rfl rfl rfl rfl ?_
  refine step_send m K ev9 (on_9 c) (k0_dev15_eq c _ (send_act ev9 (on_9 c))) rfl rfl rfl rfl ?_
  refine step_ret m K ?_
  exact h

theorem part25 {Q : (Σ' (v203 : BitVec 1) (v204 : BitVec 1) (v207 : BitVec 32), BitVec 32) → sProp 𝕄} (h : Inv m K c 31 o ⊢ Q ⟨(Scalar.cmpi .sge (zW c) 2#32), (Scalar.cmpi .sle (zW c) 1#32), (Scalar.extui (Scalar.cmpi .sge (zW c) 2#32)), 0#32⟩) :
    Inv m K c 10 o ⊢ wpc c (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((idW c)) ((zW c)) ((pW c)) ((Scalar.cmpi .sge (zW c) 1#32)) ((Scalar.cmpi .sle (zW c) 2#32)) ((Scalar.extui (Scalar.cmpi .sge (zW c) 1#32))) 0#32) Q := by
  rw [k0_part25_eq_skeleton]
  unfold k0_part25_skel
  simp -zeta only [Prog.lift, Prog.bind_op, Prog.bind_ret, Prog.pure_eq_ret]
  extract_lets
  refine step_if m K (n' := 11) (cond_7 c) (fun hQ h ho => ?_) (fun ho => Inv_skip m K ho _) ?_
  · refine step_recv m K ev10 ho rfl rfl ?_
    exact hQ
  refine step_if m K (n' := 12) (cond_8 c) (fun hQ h ho => ?_) (fun ho => Inv_skip m K ho _) ?_
  · refine step_recv m K ev11 ho rfl rfl ?_
    exact hQ
  refine step_if m K (n' := 13) (cond_9 c) (fun hQ h ho => ?_) (fun ho => Inv_skip m K ho _) ?_
  · refine step_send m K ev12 ho (k0_dev16_eq c _ (send_act ev12 ho)) rfl rfl rfl rfl ?_
    exact hQ
  refine step_if m K (n' := 14) (cond_10 c) (fun hQ h ho => ?_) (fun ho => Inv_skip m K ho _) ?_
  · refine step_send m K ev13 ho (k0_dev17_eq c _ (send_act ev13 ho)) rfl rfl rfl rfl ?_
    exact hQ
  refine step_if m K (n' := 20) (cond_11 c) (fun hQ h ho => ?_) (fun ho => (((((Inv_skip m K ho _).trans (Inv_skip m K ((on_15_eq c).trans ho) _)).trans (Inv_skip m K ((on_16_eq c).trans ho) _)).trans (Inv_skip m K ((on_17_eq c).trans ho) _)).trans (Inv_skip m K ((on_18_eq c).trans ho) _)).trans (Inv_skip m K ((on_19_eq c).trans ho) _)) ?_
  · refine step_bind ?_
    refine part1 m K h ho ?_
    refine step_bind ?_
    refine part2 m K h ho ?_
    refine step_bind ?_
    refine part3 m K h ho ?_
    refine step_send m K ev19 ((on_19_eq c).trans ho) (k0_dev23_eq c _ (send_act ev19 ((on_19_eq c).trans ho))) rfl rfl rfl rfl ?_
    exact hQ
  refine step_if m K (n' := 21) (cond_12 c) (fun hQ h ho => ?_) (fun ho => Inv_skip m K ho _) ?_
  · refine step_recv m K ev20 ho rfl rfl ?_
    exact hQ
  refine step_if m K (n' := 22) (cond_13 c) (fun hQ h ho => ?_) (fun ho => Inv_skip m K ho _) ?_
  · refine step_recv m K ev21 ho rfl rfl ?_
    exact hQ
  refine step_if m K (n' := 23) (cond_14 c) (fun hQ h ho => ?_) (fun ho => Inv_skip m K ho _) ?_
  · refine step_send m K ev22 ho (k0_dev24_eq c _ (send_act ev22 ho)) rfl rfl rfl rfl ?_
    exact hQ
  refine step_if m K (n' := 24) (cond_15 c) (fun hQ h ho => ?_) (fun ho => Inv_skip m K ho _) ?_
  · refine step_send m K ev23 ho (k0_dev25_eq c _ (send_act ev23 ho)) rfl rfl rfl rfl ?_
    exact hQ
  refine step_if m K (n' := 30) (cond_16 c) (fun hQ h ho => ?_) (fun ho => (((((Inv_skip m K ho _).trans (Inv_skip m K ((on_25_eq c).trans ho) _)).trans (Inv_skip m K ((on_26_eq c).trans ho) _)).trans (Inv_skip m K ((on_27_eq c).trans ho) _)).trans (Inv_skip m K ((on_28_eq c).trans ho) _)).trans (Inv_skip m K ((on_29_eq c).trans ho) _)) ?_
  · refine step_bind ?_
    refine part4 m K h ho ?_
    refine step_bind ?_
    refine part5 m K h ho ?_
    refine step_bind ?_
    refine part6 m K h ho ?_
    refine step_send m K ev29 ((on_29_eq c).trans ho) (k0_dev31_eq c _ (send_act ev29 ((on_29_eq c).trans ho))) rfl rfl rfl rfl ?_
    exact hQ
  refine step_if m K (n' := 31) (cond_17 c) (fun hQ h ho => ?_) (fun ho => Inv_skip m K ho _) ?_
  · refine step_recv m K ev30 ho rfl rfl ?_
    exact hQ
  refine step_ret m K ?_
  exact h

theorem part26 {Q : (Σ' (v234 : BitVec 1) (v239 : BitVec 32), BitVec 32) → sProp 𝕄} (h : Inv m K c 52 o ⊢ Q ⟨(Scalar.cmpi .sle (zW c) 0#32), (Scalar.extui (Scalar.cmpi .sge (zW c) 3#32)), 0#32⟩) :
    Inv m K c 31 o ⊢ wpc c (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((idW c)) ((zW c)) ((pW c)) ((Scalar.cmpi .sge (zW c) 2#32)) ((Scalar.cmpi .sle (zW c) 1#32)) ((Scalar.extui (Scalar.cmpi .sge (zW c) 2#32))) 0#32) Q := by
  rw [k0_part26_eq_skeleton]
  unfold k0_part26_skel
  simp -zeta only [Prog.lift, Prog.bind_op, Prog.bind_ret, Prog.pure_eq_ret]
  extract_lets
  refine step_if m K (n' := 32) (cond_18 c) (fun hQ h ho => ?_) (fun ho => Inv_skip m K ho _) ?_
  · refine step_recv m K ev31 ho rfl rfl ?_
    exact hQ
  refine step_if m K (n' := 33) (cond_19 c) (fun hQ h ho => ?_) (fun ho => Inv_skip m K ho _) ?_
  · refine step_send m K ev32 ho (k0_dev32_eq c _ (send_act ev32 ho)) rfl rfl rfl rfl ?_
    exact hQ
  refine step_if m K (n' := 34) (cond_20 c) (fun hQ h ho => ?_) (fun ho => Inv_skip m K ho _) ?_
  · refine step_send m K ev33 ho (k0_dev33_eq c _ (send_act ev33 ho)) rfl rfl rfl rfl ?_
    exact hQ
  refine step_if m K (n' := 40) (cond_21 c) (fun hQ h ho => ?_) (fun ho => (((((Inv_skip m K ho _).trans (Inv_skip m K ((on_35_eq c).trans ho) _)).trans (Inv_skip m K ((on_36_eq c).trans ho) _)).trans (Inv_skip m K ((on_37_eq c).trans ho) _)).trans (Inv_skip m K ((on_38_eq c).trans ho) _)).trans (Inv_skip m K ((on_39_eq c).trans ho) _)) ?_
  · refine step_bind ?_
    refine part7 m K h ho ?_
    refine step_bind ?_
    refine part8 m K h ho ?_
    refine step_bind ?_
    refine part9 m K h ho ?_
    refine step_send m K ev39 ((on_39_eq c).trans ho) (k0_dev39_eq c _ (send_act ev39 ((on_39_eq c).trans ho))) rfl rfl rfl rfl ?_
    exact hQ
  refine step_if m K (n' := 41) (cond_22 c) (fun hQ h ho => ?_) (fun ho => Inv_skip m K ho _) ?_
  · refine step_recv m K ev40 ho rfl rfl ?_
    exact hQ
  refine step_if m K (n' := 42) (cond_23 c) (fun hQ h ho => ?_) (fun ho => Inv_skip m K ho _) ?_
  · refine step_recv m K ev41 ho rfl rfl ?_
    exact hQ
  refine step_if m K (n' := 43) (cond_24 c) (fun hQ h ho => ?_) (fun ho => Inv_skip m K ho _) ?_
  · refine step_send m K ev42 ho (k0_dev40_eq c _ (send_act ev42 ho)) rfl rfl rfl rfl ?_
    exact hQ
  refine step_if m K (n' := 44) (cond_25 c) (fun hQ h ho => ?_) (fun ho => Inv_skip m K ho _) ?_
  · refine step_send m K ev43 ho (k0_dev41_eq c _ (send_act ev43 ho)) rfl rfl rfl rfl ?_
    exact hQ
  refine step_if m K (n' := 50) (cond_26 c) (fun hQ h ho => ?_) (fun ho => (((((Inv_skip m K ho _).trans (Inv_skip m K ((on_45_eq c).trans ho) _)).trans (Inv_skip m K ((on_46_eq c).trans ho) _)).trans (Inv_skip m K ((on_47_eq c).trans ho) _)).trans (Inv_skip m K ((on_48_eq c).trans ho) _)).trans (Inv_skip m K ((on_49_eq c).trans ho) _)) ?_
  · refine step_bind ?_
    refine part10 m K h ho ?_
    refine step_bind ?_
    refine part11 m K h ho ?_
    refine step_bind ?_
    refine part12 m K h ho ?_
    refine step_send m K ev49 ((on_49_eq c).trans ho) (k0_dev47_eq c _ (send_act ev49 ((on_49_eq c).trans ho))) rfl rfl rfl rfl ?_
    exact hQ
  refine step_if m K (n' := 51) (cond_27 c) (fun hQ h ho => ?_) (fun ho => Inv_skip m K ho _) ?_
  · refine step_recv m K ev50 ho rfl rfl ?_
    exact hQ
  refine step_if m K (n' := 52) (cond_28 c) (fun hQ h ho => ?_) (fun ho => Inv_skip m K ho _) ?_
  · refine step_recv m K ev51 ho rfl rfl ?_
    exact hQ
  refine step_ret m K ?_
  exact h

theorem part27 {Q : (Σ' (v248 : FVec F S256x128 .bf16) (v263 : IVec S256x1 32) (v264 : IVec S256x1 32) (v265 : IVec S256x32 32) (v277 : FVec F S256x1 .f32) (v278 : FVec F S256x1 .f32), FVec F S256x1 .f32) → sProp 𝕄} (h : Inv m K c 66 o ⊢ Q ⟨(x248 m c), (x263 m c), (x264 m c), (x265 m c), (x277 m c), (x278 m c), (x279 m c)⟩) :
    Inv m K c 52 o ⊢ wpc c (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c ((idW c)) ((zW c)) ((pW c)) ((Scalar.cmpi .sle (zW c) 0#32)) ((Scalar.extui (Scalar.cmpi .sge (zW c) 3#32))) 0#32) Q := by
  rw [k0_part27_eq_skeleton]
  unfold k0_part27_skel
  simp -zeta only [Prog.lift, Prog.bind_op, Prog.bind_ret, Prog.pure_eq_ret]
  extract_lets
  refine step_if m K (n' := 58) (cond_29 c) (fun hQ h ho => ?_) (fun ho => (((((Inv_skip m K ho _).trans (Inv_skip m K ((on_53_eq c).trans ho) _)).trans (Inv_skip m K ((on_54_eq c).trans ho) _)).trans (Inv_skip m K ((on_55_eq c).trans ho) _)).trans (Inv_skip m K ((on_56_eq c).trans ho) _)).trans (Inv_skip m K ((on_57_eq c).trans ho) _)) ?_
  · refine step_bind ?_
    refine part13 m K h ho ?_
    refine step_bind ?_
    refine part14 m K h ho ?_
    refine step_bind ?_
    refine part15 m K h ho ?_
    refine step_send m K ev57 ((on_57_eq c).trans ho) (k0_dev53_eq c _ (send_act ev57 ((on_57_eq c).trans ho))) rfl rfl rfl rfl ?_
    exact hQ
  refine step_if m K (n' := 59) (cond_30 c) (fun hQ h ho => ?_) (fun ho => Inv_skip m K ho _) ?_
  · refine step_recv m K ev58 ho rfl rfl ?_
    exact hQ
  refine step_if m K (n' := 60) (cond_31 c) (fun hQ h ho => ?_) (fun ho => Inv_skip m K ho _) ?_
  · refine step_recv m K ev59 ho rfl rfl ?_
    exact hQ
  refine step_if m K (n' := 66) (cond_32 c) (fun hQ h ho => ?_) (fun ho => (((((Inv_skip m K ho _).trans (Inv_skip m K ((on_61_eq c).trans ho) _)).trans (Inv_skip m K ((on_62_eq c).trans ho) _)).trans (Inv_skip m K ((on_63_eq c).trans ho) _)).trans (Inv_skip m K ((on_64_eq c).trans ho) _)).trans (Inv_skip m K ((on_65_eq c).trans ho) _)) ?_
  · refine step_bind ?_
    refine part16 m K h ho ?_
    refine step_bind ?_
    refine part17 m K h ho ?_
    refine step_bind ?_
    refine part18 m K h ho ?_
    refine step_send m K ev65 ((on_65_eq c).trans ho) (k0_dev59_eq c _ (send_act ev65 ((on_65_eq c).trans ho))) rfl rfl rfl rfl ?_
    exact hQ
  refine step_load0 m K ?_
  refine step_load1 m K ?_
  refine step_load2 m K ?_
  refine step_ret m K ?_
  exact h

end Cert.KernelIdeal.Run

end

end
-- ==== Proof.Ideal.Multiply.lean ====
/-
# The blocks that land, and the products
-/
module

public import proofs.«01_k».proof.Proof.Ideal.Relay

@[expose] public section

noncomputable section

namespace Cert.KernelIdeal.Run

open Cert.KernelIdeal Cert.KernelIdeal.Gen Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (K : Dev nD × KI → ℕ) {c : Dev nD} {n : ℕ} {o : Buf (Elt F) ((c : Thread nD τ).loc cc0_stg4_0)}
variable {α : Type} {Q : α → sProp (MT nD τ sig Unit (Elt F) ℕ UU ℕ)}

theorem part28 {Q : (Σ' (v280 : FVec F S256x1 .f32) (v304 : IVec S256x32 32) (v306 : IVec S256x32 32) (v325 : IVec S256x32 1), BitVec 32) → sProp 𝕄} (h : Inv m K c 66 o ⊢ Q ⟨(x280 m c), (x304 m c), (x306 m c), (x325 m c), 1#32⟩) :
    Inv m K c 66 o ⊢ wpc c (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((x265 m c)) ((x277 m c)) ((x278 m c))) Q := by
  rw [k0_part28_eq_skeleton]
  unfold k0_part28_skel
  try simp only [Prog.lift, Prog.bind_op, Prog.bind_ret, Prog.pure_eq_ret]
  refine step_ret m K ?_
  exact h

theorem part29 {Q : (Σ' (v366 : FVec F S256x32x128 .bf16) (v367 : IVec S1x8x1 32), BitVec 32) → sProp 𝕄} (h : Inv m K c 66 o ⊢ Q ⟨(x366 m c), (x367 m c), (Scalar.muli (idW c) 1#32)⟩) :
    Inv m K c 66 o ⊢ wpc c (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((idW c)) ((zW c)) ((pW c)) ((x248 m c)) ((x263 m c)) ((x264 m c)) ((x265 m c)) ((x279 m c)) ((x280 m c)) ((x304 m c)) ((x306 m c)) ((x325 m c)) 1#32) Q := by
  rw [k0_part29_eq_skeleton]
  unfold k0_part29_skel
  try simp only [Prog.lift, Prog.bind_op, Prog.bind_ret, Prog.pure_eq_ret]
  refine step_ret m K ?_
  exact h

theorem part30 {Q : (PUnit) → sProp 𝕄} (h : Inv m K c 68 o ⊢ Q ⟨⟩) :
    Inv m K c 66 o ⊢ wpc c (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((idW c)) ((Scalar.muli (idW c) 1#32))) Q := by
  rw [k0_part30_eq_skeleton]
  unfold k0_part30_skel
  try simp only [Prog.lift, Prog.bind_op, Prog.bind_ret, Prog.pure_eq_ret]
  refine step_recv m K ev66 (on_66 c) rfl rfl ?_
  refine step_recv m K ev67 (on_67 c) rfl rfl ?_
  refine step_ret m K ?_
  exact h

theorem part31 {Q : (PUnit) → sProp 𝕄} (h : Inv m K c 71 o ⊢ Q ⟨⟩) :
    Inv m K c 68 o ⊢ wpc c (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((idW c))) Q := by
  rw [k0_part31_eq_skeleton]
  unfold k0_part31_skel
  try simp only [Prog.lift, Prog.bind_op, Prog.bind_ret, Prog.pure_eq_ret]
  refine step_recv m K ev68 (on_68 c) rfl rfl ?_
  refine step_recv m K ev69 (on_69 c) rfl rfl ?_
  refine step_recv m K ev70 (on_70 c) rfl rfl ?_
  refine step_ret m K ?_
  exact h

theorem part32 {Q : (FVec F S1x8x1 .f32) → sProp 𝕄} (h : Inv m K c 72 o ⊢ Q (x446 m c)) :
    Inv m K c 71 o ⊢ wpc c (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((x367 m c))) Q := by
  rw [k0_part32_eq_skeleton]
  unfold k0_part32_skel
  try simp only [Prog.lift, Prog.bind_op, Prog.bind_ret, Prog.pure_eq_ret]
  refine step_recv m K ev71 (on_71 c) rfl rfl ?_
  refine step_sc m K (0, 0) (sc_sub (0, 0) _ _ rfl rfl) (landed_sc_0_0 c) ?_
  refine step_sc m K (0, 0) (sc_sub (0, 0) _ _ rfl rfl) (landed_sc_0_0 c) ?_
  refine step_sc m K (0, 1) (sc_sub (0, 1) _ _ rfl rfl) (landed_sc_0_1 c) ?_
  refine step_sc m K (0, 1) (sc_sub (0, 1) _ _ rfl rfl) (landed_sc_0_1 c) ?_
  refine step_sc m K (0, 2) (sc_sub (0, 2) _ _ rfl rfl) (landed_sc_0_2 c) ?_
  refine step_ret m K ?_
  exact h

theorem part33 {Q : (FVec F S256x256 .f32) → sProp 𝕄} (h : Inv m K c 72 o ⊢ Q (x474 m c)) :
    Inv m K c 72 o ⊢ wpc c (k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((idW c)) ((x366 m c)) ((x367 m c)) ((x446 m c))) Q := by
  rw [k0_part33_eq_skeleton]
  unfold k0_part33_skel
  try simp only [Prog.lift, Prog.bind_op, Prog.bind_ret, Prog.pure_eq_ret]
  refine step_sc m K (0, 2) (sc_sub (0, 2) _ _ rfl rfl) (landed_sc_0_2 c) ?_
  refine step_sc m K (0, 3) (sc_sub (0, 3) _ _ rfl rfl) (landed_sc_0_3 c) ?_
  refine step_sc m K (0, 3) (sc_sub (0, 3) _ _ rfl rfl) (landed_sc_0_3 c) ?_
  refine step_slab m K 0 (slab_sub 0 _ _ rfl) (landed_buf_0 c) ?_
  refine step_ret m K ?_
  exact h

theorem part34 {Q : (PUnit) → sProp 𝕄} (h : Inv m K c 75 o ⊢ Q ⟨⟩) :
    Inv m K c 72 o ⊢ wpc c (k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((idW c))) Q := by
  rw [k0_part34_eq_skeleton]
  unfold k0_part34_skel
  try simp only [Prog.lift, Prog.bind_op, Prog.bind_ret, Prog.pure_eq_ret]
  refine step_recv m K ev72 (on_72 c) rfl rfl ?_
  refine step_recv m K ev73 (on_73 c) rfl rfl ?_
  refine step_recv m K ev74 (on_74 c) rfl rfl ?_
  refine step_ret m K ?_
  exact h

theorem part35 {Q : (PUnit) → sProp 𝕄} (h : Inv m K c 77 o ⊢ Q ⟨⟩) :
    Inv m K c 75 o ⊢ wpc c (k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((idW c))) Q := by
  rw [k0_part35_eq_skeleton]
  unfold k0_part35_skel
  try simp only [Prog.lift, Prog.bind_op, Prog.bind_ret, Prog.pure_eq_ret]
  refine step_recv m K ev75 (on_75 c) rfl rfl ?_
  refine step_recv m K ev76 (on_76 c) rfl rfl ?_
  refine step_ret m K ?_
  exact h

theorem part36 {Q : (Σ' (v553 : FVec F S1x8x1 .f32), IVec S1x8x1 1) → sProp 𝕄} (h : Inv m K c 78 o ⊢ Q ⟨(x553 m c), (x555 m c)⟩) :
    Inv m K c 77 o ⊢ wpc c (k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((x367 m c))) Q := by
  rw [k0_part36_eq_skeleton]
  unfold k0_part36_skel
  try simp only [Prog.lift, Prog.bind_op, Prog.bind_ret, Prog.pure_eq_ret]
  refine step_recv m K ev77 (on_77 c) rfl rfl ?_
  refine step_sc m K (1, 0) (sc_sub (1, 0) _ _ rfl rfl) (landed_sc_1_0 c) ?_
  refine step_sc m K (1, 0) (sc_sub (1, 0) _ _ rfl rfl) (landed_sc_1_0 c) ?_
  refine step_sc m K (1, 1) (sc_sub (1, 1) _ _ rfl rfl) (landed_sc_1_1 c) ?_
  refine step_sc m K (1, 1) (sc_sub (1, 1) _ _ rfl rfl) (landed_sc_1_1 c) ?_
  refine step_sc m K (1, 2) (sc_sub (1, 2) _ _ rfl rfl) (landed_sc_1_2 c) ?_
  refine step_ret m K ?_
  exact h

theorem part37 {Q : (FVec F S256x256 .f32) → sProp 𝕄} (h : Inv m K c 78 o ⊢ Q (x582 m c)) :
    Inv m K c 78 o ⊢ wpc c (k0_part37 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((idW c)) ((x366 m c)) ((x367 m c)) ((x474 m c)) ((x553 m c)) ((x555 m c))) Q := by
  rw [k0_part37_eq_skeleton]
  unfold k0_part37_skel
  try simp only [Prog.lift, Prog.bind_op, Prog.bind_ret, Prog.pure_eq_ret]
  refine step_sc m K (1, 2) (sc_sub (1, 2) _ _ rfl rfl) (landed_sc_1_2 c) ?_
  refine step_sc m K (1, 3) (sc_sub (1, 3) _ _ rfl rfl) (landed_sc_1_3 c) ?_
  refine step_sc m K (1, 3) (sc_sub (1, 3) _ _ rfl rfl) (landed_sc_1_3 c) ?_
  refine step_slab m K 1 (slab_sub 1 _ _ rfl) (landed_buf_1 c) ?_
  refine step_ret m K ?_
  exact h

theorem part38 {Q : (PUnit) → sProp 𝕄} (h : Inv m K c 81 o ⊢ Q ⟨⟩) :
    Inv m K c 78 o ⊢ wpc c (k0_part38 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((idW c))) Q := by
  rw [k0_part38_eq_skeleton]
  unfold k0_part38_skel
  try simp only [Prog.lift, Prog.bind_op, Prog.bind_ret, Prog.pure_eq_ret]
  refine step_recv m K ev78 (on_78 c) rfl rfl ?_
  refine step_recv m K ev79 (on_79 c) rfl rfl ?_
  refine step_recv m K ev80 (on_80 c) rfl rfl ?_
  refine step_ret m K ?_
  exact h

theorem part39 {Q : (PUnit) → sProp 𝕄} (h : Inv m K c 83 o ⊢ Q ⟨⟩) :
    Inv m K c 81 o ⊢ wpc c (k0_part39 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((idW c))) Q := by
  rw [k0_part39_eq_skeleton]
  unfold k0_part39_skel
  try simp only [Prog.lift, Prog.bind_op, Prog.bind_ret, Prog.pure_eq_ret]
  refine step_recv m K ev81 (on_81 c) rfl rfl ?_
  refine step_recv m K ev82 (on_82 c) rfl rfl ?_
  refine step_ret m K ?_
  exact h

theorem part40 {Q : (Σ' (v661 : FVec F S1x8x1 .f32) (v663 : IVec S1x8x1 1), Vec F S1x1x1 .f32) → sProp 𝕄} (h : Inv m K c 84 o ⊢ Q ⟨(x661 m c), (x663 m c), (x664 m c)⟩) :
    Inv m K c 83 o ⊢ wpc c (k0_part40 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((x367 m c))) Q := by
  rw [k0_part40_eq_skeleton]
  unfold k0_part40_skel
  try simp only [Prog.lift, Prog.bind_op, Prog.bind_ret, Prog.pure_eq_ret]
  refine step_recv m K ev83 (on_83 c) rfl rfl ?_
  refine step_sc m K (3, 0) (sc_sub (3, 0) _ _ rfl rfl) (landed_sc_3_0 c) ?_
  refine step_sc m K (3, 0) (sc_sub (3, 0) _ _ rfl rfl) (landed_sc_3_0 c) ?_
  refine step_sc m K (3, 1) (sc_sub (3, 1) _ _ rfl rfl) (landed_sc_3_1 c) ?_
  refine step_sc m K (3, 1) (sc_sub (3, 1) _ _ rfl rfl) (landed_sc_3_1 c) ?_
  refine step_sc m K (3, 2) (sc_sub (3, 2) _ _ rfl rfl) (landed_sc_3_2 c) ?_
  refine step_sc m K (3, 2) (sc_sub (3, 2) _ _ rfl rfl) (landed_sc_3_2 c) ?_
  refine step_ret m K ?_
  exact h

theorem part41 {Q : (FVec F S256x256 .f32) → sProp 𝕄} (h : Inv m K c 84 o ⊢ Q (x690 m c)) :
    Inv m K c 84 o ⊢ wpc c (k0_part41 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((idW c)) ((x366 m c)) ((x367 m c)) ((x582 m c)) ((x661 m c)) ((x663 m c)) ((x664 m c))) Q := by
  rw [k0_part41_eq_skeleton]
  unfold k0_part41_skel
  try simp only [Prog.lift, Prog.bind_op, Prog.bind_ret, Prog.pure_eq_ret]
  refine step_sc m K (3, 3) (sc_sub (3, 3) _ _ rfl rfl) (landed_sc_3_3 c) ?_
  refine step_sc m K (3, 3) (sc_sub (3, 3) _ _ rfl rfl) (landed_sc_3_3 c) ?_
  refine step_slab m K 3 (slab_sub 3 _ _ rfl) (landed_buf_3 c) ?_
  refine step_ret m K ?_
  exact h

theorem part42 {Q : (BitVec 32) → sProp 𝕄} (h : Inv m K c 87 o ⊢ Q 1#32) :
    Inv m K c 84 o ⊢ wpc c (k0_part42 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((idW c))) Q := by
  rw [k0_part42_eq_skeleton]
  unfold k0_part42_skel
  try simp only [Prog.lift, Prog.bind_op, Prog.bind_ret, Prog.pure_eq_ret]
  refine step_recv m K ev84 (on_84 c) rfl rfl ?_
  refine step_recv m K ev85 (on_85 c) rfl rfl ?_
  refine step_recv m K ev86 (on_86 c) rfl rfl ?_
  refine step_ret m K ?_
  exact h

theorem part43 {Q : (FVec F S1x8x1 .f32) → sProp 𝕄} (h : Inv m K c 90 o ⊢ Q (x739 m c)) :
    Inv m K c 87 o ⊢ wpc c (k0_part43 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((idW c)) 1#32) Q := by
  rw [k0_part43_eq_skeleton]
  unfold k0_part43_skel
  try simp only [Prog.lift, Prog.bind_op, Prog.bind_ret, Prog.pure_eq_ret]
  refine step_recv m K ev87 (on_87 c) rfl rfl ?_
  refine step_recv m K ev88 (on_88 c) rfl rfl ?_
  refine step_recv m K ev89 (on_89 c) rfl rfl ?_
  refine step_ret m K ?_
  exact h

theorem part44 {Q : (FVec F S1x8x1 .f32) → sProp 𝕄} (h : Inv m K c 90 o ⊢ Q (x775 m c)) :
    Inv m K c 90 o ⊢ wpc c (k0_part44 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((x367 m c)) ((x739 m c))) Q := by
  rw [k0_part44_eq_skeleton]
  unfold k0_part44_skel
  try simp only [Prog.lift, Prog.bind_op, Prog.bind_ret, Prog.pure_eq_ret]
  refine step_sc m K (2, 0) (sc_sub (2, 0) _ _ rfl rfl) (landed_sc_2_0 c) ?_
  refine step_sc m K (2, 0) (sc_sub (2, 0) _ _ rfl rfl) (landed_sc_2_0 c) ?_
  refine step_sc m K (2, 1) (sc_sub (2, 1) _ _ rfl rfl) (landed_sc_2_1 c) ?_
  refine step_sc m K (2, 1) (sc_sub (2, 1) _ _ rfl rfl) (landed_sc_2_1 c) ?_
  refine step_sc m K (2, 2) (sc_sub (2, 2) _ _ rfl rfl) (landed_sc_2_2 c) ?_
  refine step_sc m K (2, 2) (sc_sub (2, 2) _ _ rfl rfl) (landed_sc_2_2 c) ?_
  refine step_ret m K ?_
  exact h

theorem part45 {Q : (BitVec 32) → sProp 𝕄} (h : Inv m K c 93 (xOut m c) ⊢ Q 0#32) :
    Inv m K c 90 o ⊢ wpc c (k0_part45 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((idW c)) ((zW c)) ((x366 m c)) ((x367 m c)) ((x690 m c)) ((x775 m c))) Q := by
  rw [k0_part45_eq_skeleton]
  unfold k0_part45_skel
  simp -zeta only [Prog.lift, Prog.bind_op, Prog.bind_ret, Prog.pure_eq_ret]
  extract_lets
  refine step_sc m K (2, 3) (sc_sub (2, 3) _ _ rfl rfl) (landed_sc_2_3 c) ?_
  refine step_sc m K (2, 3) (sc_sub (2, 3) _ _ rfl rfl) (landed_sc_2_3 c) ?_
  refine step_slab m K 2 (slab_sub 2 _ _ rfl) (landed_buf_2 c) ?_
  refine step_load4 m K fun w4 => ?_
  refine step_store4 m K (w := xOut m c) ?_
  refine step_if m K (n' := 91) (cond_33 c) (fun hQ h ho => ?_) (fun ho => Inv_skip m K ho _) ?_
  · refine step_left (v := (0, 0)) m K ev90 ho rfl rfl ?_
    exact hQ
  refine step_if m K (n' := 92) (cond_34 c) (fun hQ h ho => ?_) (fun ho => Inv_skip m K ho _) ?_
  · refine step_left (v := (0, 0)) m K ev91 ho rfl rfl ?_
    exact hQ
  refine step_if m K (n' := 93) (cond_35 c) (fun hQ h ho => ?_) (fun ho => Inv_skip m K ho _) ?_
  · refine step_left (v := (0, 0)) m K ev92 ho rfl rfl ?_
    exact hQ
  refine step_ret m K ?_
  exact h

end Cert.KernelIdeal.Run

end

end
-- ==== Proof.Ideal.Drain.lean ====
/-
# The device's own copies leave
-/
module

public import proofs.«01_k».proof.Proof.Ideal.Relay

@[expose] public section

noncomputable section

namespace Cert.KernelIdeal.Run

open Cert.KernelIdeal Cert.KernelIdeal.Gen Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (K : Dev nD × KI → ℕ) {c : Dev nD} {n : ℕ} {o : Buf (Elt F) ((c : Thread nD τ).loc cc0_stg4_0)}
variable {α : Type} {Q : α → sProp (MT nD τ sig Unit (Elt F) ℕ UU ℕ)}

set_option maxHeartbeats 2000000 in
theorem part46 {Q : (BitVec 32) → sProp 𝕄} (h : Inv m K c 96 o ⊢ Q 4#32) :
    Inv m K c 93 o ⊢ wpc c (k0_part46 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((idW c)) ((zW c)) ((pW c)) 0#32) Q := by
  rw [k0_part46_eq_skeleton]
  unfold k0_part46_skel
  simp -zeta only [Prog.lift, Prog.bind_op, Prog.bind_ret, Prog.pure_eq_ret]
  extract_lets
  refine step_if m K (n' := 94) (cond_36 c) (fun hQ h ho => ?_) (fun ho => Inv_skip m K ho _) ?_
  · refine step_left (v := (0, 0)) m K ev93 ho rfl rfl ?_
    exact hQ
  refine step_left (v := (0, 0)) m K ev94 (on_94 c) rfl rfl ?_
  refine step_left (v := (0, 0)) m K ev95 (on_95 c) rfl rfl ?_
  refine step_ret m K ?_
  exact h

set_option maxHeartbeats 2000000 in
theorem part47 {Q : (PUnit) → sProp 𝕄} (h : Inv m K c 98 o ⊢ Q ⟨⟩) :
    Inv m K c 96 o ⊢ wpc c (k0_part47 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((zW c)) ((pW c)) 4#32) Q := by
  rw [k0_part47_eq_skeleton]
  unfold k0_part47_skel
  try simp only [Prog.lift, Prog.bind_op, Prog.bind_ret, Prog.pure_eq_ret]
  refine step_left (v := (0, 0)) m K ev96 (on_96 c) rfl rfl ?_
  refine step_left (v := (0, 0)) m K ev97 (on_97 c) rfl rfl ?_
  refine step_ret m K ?_
  exact h

set_option maxHeartbeats 2000000 in
theorem part48 {Q : (Σ' (v872 : BitVec 1) (v873 : BitVec 1), BitVec 1) → sProp 𝕄} (h : Inv m K c 101 o ⊢ Q ⟨(Scalar.cmpi .sge (zW c) 1#32), (Scalar.cmpi .sle (zW c) 2#32), (Scalar.cmpi .slt (zW c) 3#32)⟩) :
    Inv m K c 98 o ⊢ wpc c (k0_part48 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((idW c)) ((zW c)) ((pW c))) Q := by
  rw [k0_part48_eq_skeleton]
  unfold k0_part48_skel
  simp -zeta only [Prog.lift, Prog.bind_op, Prog.bind_ret, Prog.pure_eq_ret]
  extract_lets
  refine step_left (v := (0, 0)) m K ev98 (on_98 c) rfl rfl ?_
  refine step_left (v := (0, 0)) m K ev99 (on_99 c) rfl rfl ?_
  refine step_if m K (n' := 101) (cond_37 c) (fun hQ h ho => ?_) (fun ho => Inv_skip m K ho _) ?_
  · refine step_left (v := (3, 0)) m K ev100 ho rfl rfl ?_
    exact hQ
  refine step_ret m K ?_
  exact h

set_option maxHeartbeats 2000000 in
theorem part49 {Q : (BitVec 32) → sProp 𝕄} (h : Inv m K c 114 o ⊢ Q (Scalar.extui (Scalar.cmpi .sle (zW c) 2#32))) :
    Inv m K c 101 o ⊢ wpc c (k0_part49 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((idW c)) ((zW c)) ((pW c)) ((Scalar.cmpi .sge (zW c) 1#32)) ((Scalar.cmpi .sle (zW c) 2#32)) ((Scalar.cmpi .slt (zW c) 3#32))) Q := by
  rw [k0_part49_eq_skeleton]
  unfold k0_part49_skel
  simp -zeta only [Prog.lift, Prog.bind_op, Prog.bind_ret, Prog.pure_eq_ret]
  extract_lets
  refine step_if m K (n' := 102) (cond_38 c) (fun hQ h ho => ?_) (fun ho => Inv_skip m K ho _) ?_
  · refine step_left (v := (3, 0)) m K ev101 ho rfl rfl ?_
    exact hQ
  refine step_if m K (n' := 103) (cond_39 c) (fun hQ h ho => ?_) (fun ho => Inv_skip m K ho _) ?_
  · refine step_left (v := (1, 0)) m K ev102 ho rfl rfl ?_
    exact hQ
  refine step_if m K (n' := 104) (cond_40 c) (fun hQ h ho => ?_) (fun ho => Inv_skip m K ho _) ?_
  · refine step_left (v := (1, 0)) m K ev103 ho rfl rfl ?_
    exact hQ
  refine step_if m K (n' := 105) (cond_41 c) (fun hQ h ho => ?_) (fun ho => Inv_skip m K ho _) ?_
  · refine step_left (v := (3, 0)) m K ev104 ho rfl rfl ?_
    exact hQ
  refine step_if m K (n' := 106) (cond_42 c) (fun hQ h ho => ?_) (fun ho => Inv_skip m K ho _) ?_
  · refine step_left (v := (3, 0)) m K ev105 ho rfl rfl ?_
    exact hQ
  refine step_if m K (n' := 107) (cond_43 c) (fun hQ h ho => ?_) (fun ho => Inv_skip m K ho _) ?_
  · refine step_left (v := (1, 0)) m K ev106 ho rfl rfl ?_
    exact hQ
  refine step_if m K (n' := 108) (cond_44 c) (fun hQ h ho => ?_) (fun ho => Inv_skip m K ho _) ?_
  · refine step_left (v := (1, 0)) m K ev107 ho rfl rfl ?_
    exact hQ
  refine step_if m K (n' := 109) (cond_45 c) (fun hQ h ho => ?_) (fun ho => Inv_skip m K ho _) ?_
  · refine step_left (v := (3, 0)) m K ev108 ho rfl rfl ?_
    exact hQ
  refine step_if m K (n' := 110) (cond_46 c) (fun hQ h ho => ?_) (fun ho => Inv_skip m K ho _) ?_
  · refine step_left (v := (3, 0)) m K ev109 ho rfl rfl ?_
    exact hQ
  refine step_if m K (n' := 111) (cond_47 c) (fun hQ h ho => ?_) (fun ho => Inv_skip m K ho _) ?_
  · refine step_left (v := (1, 0)) m K ev110 ho rfl rfl ?_
    exact hQ
  refine step_if m K (n' := 112) (cond_48 c) (fun hQ h ho => ?_) (fun ho => Inv_skip m K ho _) ?_
  · refine step_left (v := (1, 0)) m K ev111 ho rfl rfl ?_
    exact hQ
  refine step_if m K (n' := 113) (cond_49 c) (fun hQ h ho => ?_) (fun ho => Inv_skip m K ho _) ?_
  · refine step_left (v := (3, 0)) m K ev112 ho rfl rfl ?_
    exact hQ
  refine step_if m K (n' := 114) (cond_50 c) (fun hQ h ho => ?_) (fun ho => Inv_skip m K ho _) ?_
  · refine step_left (v := (3, 0)) m K ev113 ho rfl rfl ?_
    exact hQ
  refine step_ret m K ?_
  exact h

set_option maxHeartbeats 2000000 in
theorem part50 {Q : (Σ' (v914 : BitVec 1) (v915 : BitVec 1), BitVec 32) → sProp 𝕄} (h : Inv m K c 125 o ⊢ Q ⟨(Scalar.cmpi .sge (zW c) 2#32), (Scalar.cmpi .sle (zW c) 1#32), (Scalar.extui (Scalar.cmpi .sge (zW c) 2#32))⟩) :
    Inv m K c 114 o ⊢ wpc c (k0_part50 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((idW c)) ((zW c)) ((pW c)) ((Scalar.cmpi .sle (zW c) 2#32)) ((Scalar.extui (Scalar.cmpi .sle (zW c) 2#32)))) Q := by
  rw [k0_part50_eq_skeleton]
  unfold k0_part50_skel
  simp -zeta only [Prog.lift, Prog.bind_op, Prog.bind_ret, Prog.pure_eq_ret]
  extract_lets
  refine step_if m K (n' := 115) (cond_51 c) (fun hQ h ho => ?_) (fun ho => Inv_skip m K ho _) ?_
  · refine step_left (v := (1, 0)) m K ev114 ho rfl rfl ?_
    exact hQ
  refine step_if m K (n' := 116) (cond_52 c) (fun hQ h ho => ?_) (fun ho => Inv_skip m K ho _) ?_
  · refine step_left (v := (1, 0)) m K ev115 ho rfl rfl ?_
    exact hQ
  refine step_if m K (n' := 117) (cond_53 c) (fun hQ h ho => ?_) (fun ho => Inv_skip m K ho _) ?_
  · refine step_left (v := (2, 0)) m K ev116 ho rfl rfl ?_
    exact hQ
  refine step_if m K (n' := 118) (cond_54 c) (fun hQ h ho => ?_) (fun ho => Inv_skip m K ho _) ?_
  · refine step_left (v := (2, 0)) m K ev117 ho rfl rfl ?_
    exact hQ
  refine step_if m K (n' := 119) (cond_55 c) (fun hQ h ho => ?_) (fun ho => Inv_skip m K ho _) ?_
  · refine step_left (v := (2, 0)) m K ev118 ho rfl rfl ?_
    exact hQ
  refine step_if m K (n' := 120) (cond_56 c) (fun hQ h ho => ?_) (fun ho => Inv_skip m K ho _) ?_
  · refine step_left (v := (2, 0)) m K ev119 ho rfl rfl ?_
    exact hQ
  refine step_if m K (n' := 121) (cond_57 c) (fun hQ h ho => ?_) (fun ho => Inv_skip m K ho _) ?_
  · refine step_left (v := (2, 0)) m K ev120 ho rfl rfl ?_
    exact hQ
  refine step_if m K (n' := 122) (cond_58 c) (fun hQ h ho => ?_) (fun ho => Inv_skip m K ho _) ?_
  · refine step_left (v := (2, 0)) m K ev121 ho rfl rfl ?_
    exact hQ
  refine step_if m K (n' := 123) (cond_59 c) (fun hQ h ho => ?_) (fun ho => Inv_skip m K ho _) ?_
  · refine step_left (v := (2, 0)) m K ev122 ho rfl rfl ?_
    exact hQ
  refine step_if m K (n' := 124) (cond_60 c) (fun hQ h ho => ?_) (fun ho => Inv_skip m K ho _) ?_
  · refine step_left (v := (2, 0)) m K ev123 ho rfl rfl ?_
    exact hQ
  refine step_if m K (n' := 125) (cond_61 c) (fun hQ h ho => ?_) (fun ho => Inv_skip m K ho _) ?_
  · refine step_left (v := (2, 0)) m K ev124 ho rfl rfl ?_
    exact hQ
  refine step_ret m K ?_
  exact h

set_option maxHeartbeats 2000000 in
theorem part51 {Q : (Σ' (v956 : BitVec 1) (v957 : BitVec 1), BitVec 32) → sProp 𝕄} (h : Inv m K c 139 o ⊢ Q ⟨(Scalar.cmpi .sge (zW c) 3#32), (Scalar.cmpi .sle (zW c) 0#32), (Scalar.extui (Scalar.cmpi .sle (zW c) 0#32))⟩) :
    Inv m K c 125 o ⊢ wpc c (k0_part51 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 ((zW c)) ((pW c)) ((Scalar.cmpi .sge (zW c) 2#32)) ((Scalar.cmpi .sle (zW c) 1#32)) ((Scalar.extui (Scalar.cmpi .sge (zW c) 2#32)))) Q := by
  rw [k0_part51_eq_skeleton]
  unfold k0_part51_skel
  simp -zeta only [Prog.lift, Prog.bind_op, Prog.bind_ret, Prog.pure_eq_ret]
  extract_lets
  refine step_if m K (n' := 126) (cond_62 c) (fun hQ h ho => ?_) (fun ho => Inv_skip m K ho _) ?_
  · refine step_left (v := (2, 0)) m K ev125 ho rfl rfl ?_
    exact hQ
  refine step_if m K (n' := 127) (cond_63 c) (fun hQ h ho => ?_) (fun ho => Inv_skip m K ho _) ?_
  · refine step_left (v := (2, 0)) m K ev126 ho rfl rfl ?_
    exact hQ
  refine step_if m K (n' := 128) (cond_64 c) (fun hQ h ho => ?_) (fun ho => Inv_skip m K ho _) ?_
  · refine step_left (v := (2, 0)) m K ev127 ho rfl rfl ?_
    exact hQ
  refine step_if m K (n' := 129) (cond_65 c) (fun hQ h ho => ?_) (fun ho => Inv_skip m K ho _) ?_
  · refine step_left (v := (2, 0)) m K ev128 ho rfl rfl ?_
    exact hQ
  refine step_if m K (n' := 130) (cond_66 c) (fun hQ h ho => ?_) (fun ho => Inv_skip m K ho _) ?_
  · refine step_left (v := (2, 0)) m K ev129 ho rfl rfl ?_
    exact hQ
  refine step_if m K (n' := 131) (cond_67 c) (fun hQ h ho => ?_) (fun ho => Inv_skip m K ho _) ?_
  · refine step_left (v := (2, 0)) m K ev130 ho rfl rfl ?_
    exact hQ
  refine step_if m K (n' := 132) (cond_68 c) (fun hQ h ho => ?_) (fun ho => Inv_skip m K ho _) ?_
  · refine step_left (v := (2, 0)) m K ev131 ho rfl rfl ?_
    exact hQ
  refine step_if m K (n' := 133) (cond_69 c) (fun hQ h ho => ?_) (fun ho => Inv_skip m K ho _) ?_
  · refine step_left (v := (1, 0)) m K ev132 ho rfl rfl ?_
    exact hQ
  refine step_if m K (n' := 134) (cond_70 c) (fun hQ h ho => ?_) (fun ho => Inv_skip m K ho _) ?_
  · refine step_left (v := (1, 0)) m K ev133 ho rfl rfl ?_
    exact hQ
  refine step_if m K (n' := 135) (cond_71 c) (fun hQ h ho => ?_) (fun ho => Inv_skip m K ho _) ?_
  · refine step_left (v := (3, 0)) m K ev134 ho rfl rfl ?_
    exact hQ
  refine step_if m K (n' := 136) (cond_72 c) (fun hQ h ho => ?_) (fun ho => Inv_skip m K ho _) ?_
  · refine step_left (v := (3, 0)) m K ev135 ho rfl rfl ?_
    exact hQ
  refine step_if m K (n' := 137) (cond_73 c) (fun hQ h ho => ?_) (fun ho => Inv_skip m K ho _) ?_
  · refine step_left (v := (1, 0)) m K ev136 ho rfl rfl ?_
    exact hQ
  refine step_if m K (n' := 138) (cond_74 c) (fun hQ h ho => ?_) (fun ho => Inv_skip m K ho _) ?_
  · refine step_left (v := (1, 0)) m K ev137 ho rfl rfl ?_
    exact hQ
  refine step_if m K (n' := 139) (cond_75 c) (fun hQ h ho => ?_) (fun ho => Inv_skip m K ho _) ?_
  · refine step_left (v := (3, 0)) m K ev138 ho rfl rfl ?_
    exact hQ
  refine step_ret m K ?_
  exact h

end Cert.KernelIdeal.Run

end

end
-- ==== Proof.Ideal.Body.lean ====
/-
# The body
-/
module

public import proofs.«01_k».proof.Proof.Ideal.Barrier
public import proofs.«01_k».proof.Proof.Ideal.Send
public import proofs.«01_k».proof.Proof.Ideal.Multiply
public import proofs.«01_k».proof.Proof.Ideal.Drain

@[expose] public section

noncomputable section

namespace Cert.KernelIdeal.Run

open Cert.KernelIdeal Cert.KernelIdeal.Gen Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (K : Dev nD × KI → ℕ) {c : Dev nD} {n : ℕ} {o : Buf (Elt F) ((c : Thread nD τ).loc cc0_stg4_0)}
variable {α : Type} {Q : α → sProp (MT nD τ sig Unit (Elt F) ℕ UU ℕ)}

/-- The body, from a device's state at its entry to the state after its last step. -/
theorem body {Q : PUnit → sProp 𝕄} (h : Inv m K c 144 (xOut m c) ⊢ iprop(|={Set.univ}=> Q ⟨⟩)) : EInv m K c o ⊢ wpc c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13) Q := by
  rw [cc0_body_eq_skeleton]
  unfold cc0_body_skel
  refine step_bind ?_
  refine part19 m K ?_
  refine step_bind ?_
  refine part20 m K ?_
  refine step_bind ?_
  refine part21 m K ?_
  refine step_bind ?_
  refine part22 m K ?_
  refine step_bind ?_
  refine part23 m K ?_
  refine step_bind ?_
  refine part24 m K ?_
  refine step_bind ?_
  refine part25 m K ?_
  refine step_bind ?_
  refine part26 m K ?_
  refine step_bind ?_
  refine part27 m K ?_
  refine step_bind ?_
  refine part28 m K ?_
  refine step_bind ?_
  refine part29 m K ?_
  refine step_bind ?_
  refine part30 m K ?_
  refine step_bind ?_
  refine part31 m K ?_
  refine step_bind ?_
  refine part32 m K ?_
  refine step_bind ?_
  refine part33 m K ?_
  refine step_bind ?_
  refine part34 m K ?_
  refine step_bind ?_
  refine part35 m K ?_
  refine step_bind ?_
  refine part36 m K ?_
  refine step_bind ?_
  refine part37 m K ?_
  refine step_bind ?_
  refine part38 m K ?_
  refine step_bind ?_
  refine part39 m K ?_
  refine step_bind ?_
  refine part40 m K ?_
  refine step_bind ?_
  refine part41 m K ?_
  refine step_bind ?_
  refine part42 m K ?_
  refine step_bind ?_
  refine part43 m K ?_
  refine step_bind ?_
  refine part44 m K ?_
  refine step_bind ?_
  refine part45 m K ?_
  refine step_bind ?_
  refine part46 m K ?_
  refine step_bind ?_
  refine part47 m K ?_
  refine step_bind ?_
  refine part48 m K ?_
  refine step_bind ?_
  refine part49 m K ?_
  refine step_bind ?_
  refine part50 m K ?_
  refine step_bind ?_
  refine part51 m K ?_
  simp -zeta only [Prog.lift, Prog.bind_op, Prog.bind_ret, Prog.pure_eq_ret]
  extract_lets
  refine step_if m K (n' := 140) (cond_76 c) (fun hQ h ho => ?_) (fun ho => Inv_skip m K ho _) ?_
  · refine step_left (v := (3, 0)) m K ev139 ho rfl rfl ?_
    exact hQ
  refine step_if m K (n' := 141) (cond_77 c) (fun hQ h ho => ?_) (fun ho => Inv_skip m K ho _) ?_
  · refine step_left (v := (1, 0)) m K ev140 ho rfl rfl ?_
    exact hQ
  refine step_if m K (n' := 142) (cond_78 c) (fun hQ h ho => ?_) (fun ho => Inv_skip m K ho _) ?_
  · refine step_left (v := (1, 0)) m K ev141 ho rfl rfl ?_
    exact hQ
  refine step_if m K (n' := 143) (cond_79 c) (fun hQ h ho => ?_) (fun ho => Inv_skip m K ho _) ?_
  · refine step_left (v := (3, 0)) m K ev142 ho rfl rfl ?_
    exact hQ
  refine step_if m K (n' := 144) (cond_80 c) (fun hQ h ho => ?_) (fun ho => Inv_skip m K ho _) ?_
  · refine step_left (v := (3, 0)) m K ev143 ho rfl rfl ?_
    exact hQ
  rw [wpc, wp_ret]
  exact h

end Cert.KernelIdeal.Run

end
-- ==== Proof.Ideal.Exit.lean ====
/-
# After the last step

What a device holds then: every cell of its own at zero, closed, both gathered buffers whole, and nothing owed.
-/
module

public import proofs.«01_k».proof.Proof.Ideal.Enter

@[expose] public section

noncomputable section

namespace Cert.KernelIdeal.Run

open Cert.KernelIdeal Cert.KernelIdeal.Gen Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

theorem all_with {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ := by
  have h1 : R ⊢ bigSep S (fun _ => R) := BI.bigSep_of_persistent S R
  have h2 : (iprop((bigSep S fun _ => R) ∗ bigSep S Φ) : sProp 𝕄) ⊢ bigSep S Ψ := by
    rw [← bigSep_sep']; exact all_mono h
  iintro ⟨HR, HF⟩
  iapply h2
  isplitl [HR]; · iapply h1; iexact HR
  iexact HF
theorem all_upd {I : Type} [DecidableEq I] {S : Finset I} {Φ : I → sProp (MT nD τ sig Unit (Elt F) ℕ UU ℕ)} :
    bigSep S (fun i => iprop(|={Set.univ}=> Φ i)) ⊢ iprop(|={Set.univ}=> bigSep S Φ) := bigSep_fupd _ _

theorem win_last (c : Dev nD) : (bigSep Finset.univ (winR m c 144) : sProp 𝕄) = iprop(bufAll c false (Vb m c) ∗ bufAll c true (Vs m c)) := by
  rw [bigSep_univ_prod, Pipeline.bigSep_univ_comm, bigSep_univ_eq_bigSepL [false, true] (by decide) (by decide)]
  have hs : ∀ w t, winR (F := F) m c 144 (w, t) = wPts c t w fullShare (Vc m c t w) := fun w t => by
    rw [wPts_pieces]
    unfold winR
    refine bigSep_congr fun h _ => ?_
    unfold pieceR
    exact if_pos ⟨landed_last _ _ _, lent_last _ _ _ _⟩
  show iprop((bigSep Finset.univ fun w : Wn => winR (F := F) m c 144 (w, false)) ∗ bigSep Finset.univ fun w : Wn => winR (F := F) m c 144 (w, true)) = _
  rw [split_false, split_true, bigSep_congr (s := Finset.univ) (fun w _ => hs w false), bigSep_congr (s := Finset.univ) (fun w _ => hs w true)]
  rfl

theorem close_one (K : Dev nD × KI → ℕ) (r : Bool) (c : Dev nD) (x : LT) (k : ℕ) (hk : ∀ j, k ≤ j → (Rd (F := F) m).duties (xCell r c x) j = ∅) :
    iprop(records m K ∗ atPos ER (xCell r c x) k ∅ 0) ⊢ iprop(|={Set.univ}=> semVal (xCell r c x) 0) := by
  have h := rec_inv m K (c, some (r, x))
  have h2 := Rounds.cell_close ER (Rd m) (g := xCell r c x) (κ := K (c, some (r, x))) (Es := Set.univ) (Set.mem_univ _) (fun h => h) (R := k) hk
  iintro ⟨HR, Ha⟩
  iapply h2
  isplitl [HR]; · iapply h; iexact HR
  iexact Ha
theorem close_bar (K : Dev nD × KI → ℕ) (c : Dev nD) :
    iprop(records m K ∗ atPos ER (barCell c) 1 ∅ 0) ⊢ iprop(|={Set.univ}=> semVal (barCell c) 0) := by
  have h := rec_inv m K (c, none)
  have h2 := Rounds.cell_close ER (Rd m) (g := barCell c) (κ := K (c, none)) (Es := Set.univ) (Set.mem_univ _) (fun h => h) (R := 1) (duties_later m _)
  iintro ⟨HR, Ha⟩
  iapply h2
  isplitl [HR]; · iapply h; iexact HR
  iexact Ha
theorem close_out (K : Dev nD × KI → ℕ) (c : Dev nD) (x : LT) :
    iprop(records m K ∗ outR c 144 x) ⊢ iprop(|={Set.univ}=> semVal (xCell false c x) 0) := by
  unfold outR
  by_cases ha : act c x.1 = true
  · have h0 := tm_lt (c := c) (e := 0) (x := x) ha
    have h2 := tm_lt (c := c) (e := 2) (x := x) ha
    rw [if_pos ha, if_neg (by omega), if_neg (by omega)]
    exact close_one m K false c x 1 (duties_later m _)
  · rw [if_neg ha]
    exact close_one m K false c x 0 fun j _ => duties_x_none m false c x (Bool.eq_false_iff.mpr ha) j
theorem close_in (K : Dev nD × KI → ℕ) (c : Dev nD) (x : LT) :
    iprop(records m K ∗ inR c 144 x) ⊢ iprop(|={Set.univ}=> semVal (xCell true c x) 0) := by
  unfold inR
  by_cases ha : inact c x.1 = true
  · have h1 := tm_lt (c := c) (e := 1) (x := x) ha
    rw [if_pos ha, if_neg (by omega)]
    exact close_one m K true c x 1 (duties_later m _)
  · rw [if_neg ha]
    exact close_one m K true c x 0 fun j _ => duties_x_none m true c x (Bool.eq_false_iff.mpr ha) j

/-- The cells of one device, at zero. -/
def semsX (c : Dev nD) : sProp 𝕄 := bigSep Finset.univ fun k : Bool × LT => semVal (xCell k.1 c k.2) 0
theorem semsX_eq (c : Dev nD) : (semsX c : sProp 𝕄)
    = iprop((bigSep Finset.univ fun x : LT => semVal (xCell false c x) 0) ∗ bigSep Finset.univ fun x : LT => semVal (xCell true c x) 0) := by
  unfold semsX
  rw [bigSep_univ_prod, bigSep_univ_eq_bigSepL [false, true] (by decide) (by decide)]
  rfl

/-- What the last step leaves. -/
theorem finish (K : Dev nD × KI → ℕ) (c : Dev nD) (o) : Inv m K c 144 o
    ⊢ iprop(|={Set.univ}=> (stgs m c o ∗ semVal (barCell c) 0 ∗ semsX c ∗ bufAll c false (Vb m c) ∗ bufAll c true (Vs m c) ∗ owesR c 0)) := by
  have h1 : iprop(records m K ∗ bigSep Finset.univ (outR c 144)) ⊢ iprop(|={Set.univ}=> bigSep Finset.univ fun x : LT => semVal (xCell false c x) 0) := by
    have := all_with (S := Finset.univ) fun x _ => close_out m K c x
    exact this.trans all_upd
  have h2 : iprop(records m K ∗ bigSep Finset.univ (inR c 144)) ⊢ iprop(|={Set.univ}=> bigSep Finset.univ fun x : LT => semVal (xCell true c x) 0) := by
    have := all_with (S := Finset.univ) fun x _ => close_in m K c x
    exact this.trans all_upd
  have h3 := close_bar m K c
  unfold Inv
  rw [win_last, oweT_last, semsX_eq]
  iintro ⟨#HR, -, Hs, Hb, Ho, Hi, ⟨Hw0, Hw1⟩, HO⟩
  imod h3 $$ [Hb] with Hb
  · isplitr [Hb]; · iexact HR
    iexact Hb
  imod h1 $$ [Ho] with Ho
  · isplitr [Ho]; · iexact HR
    iexact Ho
  imod h2 $$ [Hi] with Hi
  · isplitr [Hi]; · iexact HR
    iexact Hi
  imodintro
  isplitl [Hs]; · iexact Hs
  isplitl [Hb]; · iexact Hb
  isplitl [Ho Hi]
  · isplitl [Ho]; · iexact Ho
    iexact Hi
  isplitl [Hw0]; · iexact Hw0
  isplitl [Hw1]; · iexact Hw1
  iexact HO

end Cert.KernelIdeal.Run

end
-- ==== Proof.Ideal.Ghost.lean ====
/-
# The protocol's cells and tokens at launch

The cells of every device are at round 0, and every token is dealt to the device that pays with it.
-/
module

public import proofs.«01_k».proof.Proof.Ideal.Exit
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

theorem opt_all {α : Type} [Fintype α] [DecidableEq α] (Φ : Option α → sProp (MT nD τ sig Unit (Elt F) ℕ UU ℕ)) :
    bigSep Finset.univ Φ = iprop(Φ none ∗ bigSep Finset.univ fun a => Φ (some a)) := by
  rw [bigSep_univ_at _ (none : Option α)]
  congr 1
  have : (Finset.univ.erase (none : Option α)) = Finset.univ.map ⟨some, Option.some_injective α⟩ := by
    ext o; cases o <;> simp
  rw [this, bigSep_map]; rfl

abbrev osem (k : Bool × LT) : SemLoc sig := .dma (xSem k.1 k.2)
theorem ownSemFacts : Pipeline.OwnSemFacts cfg0.spec osem := by decide +kernel

theorem sem_inj {r r' : Bool} {x x' : LT} (h : semNo r x = semNo r' x') : r = r' ∧ x = x' := by
  have h' := congrArg semOf h
  rw [semOf_semNo, semOf_semNo] at h'
  exact ⟨congrArg Prod.fst h', congrArg Prod.snd h'⟩
theorem cell_dev {a b : Dev nD} {s s' : SemLoc sig} (h : (((a : Thread nD τ), s) : GSem nD τ sig) = ((b : Thread nD τ), s')) : a = b ∧ s = s' :=
  ⟨congrArg (fun g : GSem nD τ sig => g.1.1) h, congrArg Prod.snd h⟩
theorem xCell_inj {r r' : Bool} {a b : Dev nD} {x x' : LT} (h : xCell r a x = xCell r' b x') : r = r' ∧ a = b ∧ x = x' := by
  obtain ⟨h1, h2⟩ := cell_dev h
  have := sem_inj (SemLoc.dma.inj h2)
  exact ⟨this.1, h1, this.2⟩
theorem bar_ne (a b : Dev nD) (r : Bool) (x : LT) : barCell a ≠ xCell r b x := fun h => by have := (cell_dev h).2; cases this

theorem kcell_injective : Function.Injective (kcell : Dev nD × KI → GSem nD τ sig) := by
  rintro ⟨c, k⟩ ⟨c', k'⟩ h
  cases k with
  | none => cases k' with
    | none => exact congrArg (fun d : Dev nD => (d, (none : KI))) (cell_dev h).1
    | some k' => exact absurd h (bar_ne _ _ _ _)
  | some k => cases k' with
    | none => exact absurd h.symm (bar_ne _ _ _ _)
    | some k' =>
      obtain ⟨h1, h2, h3⟩ := xCell_inj h
      have hc : c = c' := h2
      rw [hc, show k = k' from Prod.ext h1 h3]
def ownCells : Finset (GSem nD τ sig) := Finset.univ.map ⟨kcell, kcell_injective⟩

/-- What a device pays: a signal to a neighbour, or a copy's leaving (`false`) or landing (`true`). -/
abbrev TI : Type := Dev nD × (Fin 5 ⊕ Bool × LT)
abbrev tokOf (t : TI) : GSem nD τ sig × ℕ × Fin 5 := match t.2 with
  | .inl b => (barCell (bdst t.1 b), 0, bop b)
  | .inr (false, x) => (xCell false t.1 x, 0, 0)
  | .inr (true, x) => (xCell true (dst t.1 x.1) x, 0, 0)
abbrev paid (t : TI) : Bool := match t.2 with
  | .inl b => bact t.1 b
  | .inr (_, x) => act t.1 x.1
def allToks : Finset (GSem nD τ sig × ℕ × Fin 5) := (Finset.univ.filter fun t : TI => paid t = true).image tokOf

theorem tok_injOn : Set.InjOn tokOf (Finset.univ.filter fun t : TI => paid t = true : Finset TI) := by
  rintro ⟨c, i⟩ hi ⟨c', i'⟩ hi' h
  have hp : paid (c, i) = true := (Finset.mem_filter.mp hi).2
  have hp' : paid (c', i') = true := (Finset.mem_filter.mp hi').2
  have hc := congrArg Prod.fst h
  rcases i with b | ⟨r, x⟩ <;> rcases i' with b' | ⟨r', x'⟩
  · have hb : bop b = bop b' := congrArg (fun t : GSem nD τ sig × ℕ × Fin 5 => t.2.2) h
    have hb' : b = b' := by rw [← bop_bop b, hb, bop_bop]
    subst hb'
    have hd : bdst c b = bdst c' b := (cell_dev hc).1
    rw [← (bdst_bdst c b hp).1, hd, (bdst_bdst c' b hp').1]
  · cases r' <;> exact absurd hc (bar_ne _ _ _ _)
  · cases r <;> exact absurd hc.symm (bar_ne _ _ _ _)
  · cases r <;> cases r'
    · obtain ⟨-, h1, h2⟩ := xCell_inj hc
      have h1' : c = c' := h1
      rw [h1', h2]
    · exact absurd (xCell_inj hc).1 (by decide)
    · exact absurd (xCell_inj hc).1 (by decide)
    · obtain ⟨-, h1, h2⟩ := xCell_inj hc
      subst h2
      have e := (inact_dst c x.1 hp).2
      rw [h1, (inact_dst c' x.1 hp').2] at e
      rw [e]

def u₀ : UU :=
  (initOf (Pipeline.cells cfgs cellOf_inj) (Pipeline.launchToks cfgs cellOf_inj), initOf ownCells allToks)

/-- The tokens that device `c` pays with. -/
def tokX (c : Dev nD) (r : Bool) (x : LT) : sProp 𝕄 :=
  if act c x.1 = true then dutyTok ER (match r with | false => xCell false c x | true => xCell true (dst c x.1) x) 0 0 else iprop(emp)
def toks (c : Dev nD) : sProp 𝕄 :=
  iprop(bigSep Finset.univ (tokR c) ∗ bigSep Finset.univ (tokX c false) ∗ bigSep Finset.univ (tokX c true))

theorem toks_eq : bigSep allToks (fun t => (dutyTok ER t.1 t.2.1 t.2.2 : sProp 𝕄)) = bigSep Finset.univ fun c : Dev nD => toks c := by
  unfold allToks
  rw [bigSep_image_of_injOn tok_injOn, bigSep_filter, bigSep_univ_prod]
  refine bigSep_congr fun c _ => ?_
  unfold toks
  rw [bigSep_univ_sum, bigSep_univ_prod (α := Bool), bigSep_univ_eq_bigSepL [false, true] (by decide) (by decide)]
  rfl

/-- The positions of device `c`'s cells, and that they are at round 0. -/
def posR (c : Dev nD) (k : KI) : sProp 𝕄 := iprop(atPos ER (kcell (c, k)) 0 ∅ 0 ∗ reached ER (kcell (c, k)) 0)
def G (c : Dev nD) : sProp 𝕄 :=
  iprop((bigSep Finset.univ fun k : KI => roundState ER (Rd m) (kcell (c, k)) 0) ∗ bigSep Finset.univ (posR c) ∗ toks c)

theorem fund_all : BI.own (ER (initOf ownCells allToks)) ⊢ (|==> bigSep Finset.univ (G m) : sProp 𝕄) := by
  have hX (Φ : GSem nD τ sig → sProp 𝕄) : bigSep ownCells Φ = bigSep Finset.univ fun c : Dev nD => bigSep Finset.univ fun k : KI => Φ (kcell (c, k)) := by
    unfold ownCells; rw [bigSep_map, bigSep_univ_prod]; rfl
  iintro HX
  imod (Rounds.fund ER (Rd m) ownCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_eq (F := F))) $$ Htok
  unfold G posR; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄) = semsX c := rfl

/-- A device's cells, each with an invariant. -/
def invR (c : Dev nD) (k : KI) : sProp 𝕄 := iprop(∃ κ : ℕ, cellInv ER (Rd m) κ (kcell (c, k)))

theorem core_alloc (c : Dev nD) :
    iprop(Pipeline.ownSems0 (Ix := Unit) (Name := ℕ) (U := UU) (Lvl := ℕ) (Val := Elt F) (τ := τ) osem c ∗ unscopedSems0 c ∗ G m c)
      ⊢ iprop(|={Set.univ}=> (bigSep Finset.univ (invR m c) ∗ bigSep Finset.univ (posR c) ∗ toks c)) := by
  have hs : iprop(semVal (barCell c) 0 ∗ semsX c) ⊢ (bigSep Finset.univ fun k : KI => semVal (kcell (c, k)) 0 : sProp 𝕄) := by
    rw [opt_all]; exact Entails.of_eq rfl
  have ha : iprop((bigSep Finset.univ fun k : KI => semVal (kcell (c, k)) 0) ∗ bigSep Finset.univ fun k : KI => roundState ER (Rd m) (kcell (c, k)) 0)
      ⊢ iprop(|={Set.univ}=> bigSep Finset.univ (invR m c)) := by
    rw [← bigSep_sep']
    have h1 : (bigSep Finset.univ fun k : KI => (iprop(semVal (kcell (c, k)) 0 ∗ roundState ER (Rd m) (kcell (c, k)) 0) : sProp 𝕄))
        ⊢ bigSep Finset.univ fun k : KI => iprop(|={Set.univ}=> invR m c k) :=
      all_mono fun k _ => by
        unfold invR
        exact (Rounds.body_intro ER (Rd m) (kcell (c, k))).trans inv_alloc
    exact h1.trans all_upd
  rw [ownSems0_eq, unscopedSems0_eq]
  unfold G
  iintro ⟨Hos, Hus, Hst, Hat, Htok⟩
  ihave Hv := hs $$ [Hos Hus]
  · isplitl [Hus] <;> iassumption
  imod ha $$ [Hv Hst] with Hinv
  · isplitl [Hv] <;> iassumption
  imodintro
  isplitl [Hinv]; · iexact Hinv
  isplitl [Hat]; · iexact Hat
  iexact Htok

/-- What a device has of its own before it starts, but its credits. -/
def own0 (c : Dev nD) : sProp 𝕄 :=
  iprop(atPos ER (barCell c) 0 ∅ 0 ∗ bigSep Finset.univ (outB c) ∗ (bigSep Finset.univ fun x : LT => atPos ER (xCell true c x) 0 ∅ 0) ∗ bigSep Finset.univ (tokR c))
def G' (c : Dev nD) : sProp 𝕄 := iprop(∃ K, records m K ∗ own0 c)

theorem own0_intro (c : Dev nD) : iprop((bigSep Finset.univ fun k : KI => atPos ER (kcell (c, k)) 0 ∅ 0) ∗ toks c) ⊢ (own0 c : sProp 𝕄) := by
  have e : (bigSep Finset.univ fun k : KI => (atPos ER (kcell (c, k)) 0 ∅ 0 : sProp 𝕄))
      = iprop(atPos ER (barCell c) 0 ∅ 0 ∗ (bigSep Finset.univ fun x : LT => atPos ER (xCell false c x) 0 ∅ 0) ∗ bigSep Finset.univ fun x : LT => atPos ER (xCell true c x) 0 ∅ 0) := by
    rw [opt_all, bigSep_univ_prod (α := Bool), bigSep_univ_eq_bigSepL [false, true] (by decide) (by decide)]
    rfl
  have ho : iprop((bigSep Finset.univ fun x : LT => atPos ER (xCell false c x) 0 ∅ 0) ∗ bigSep Finset.univ (tokX c false) ∗ bigSep Finset.univ (tokX c true))
      ⊢ (bigSep Finset.univ (outB c) : sProp 𝕄) := by
    rw [← bigSep_sep', ← bigSep_sep']
    refine all_mono fun x _ => ?_
    unfold tokX outB
    by_cases ha : act c x.1 = true
    · rw [if_pos ha, if_pos ha, if_pos ha]
      unfold ready
      iintro ⟨H1, H2, H3⟩
      isplitl [H2]; · iexact H2
      isplitl [H3]; · iexact H3
      iexact H1
    · rw [if_neg ha, if_neg ha, if_neg ha]
      iintro ⟨H1, -, -⟩; iexact H1
  rw [e]
  unfold toks own0
  iintro ⟨⟨Hb, Ho, Hi⟩, Ht, H0, H1⟩
  isplitl [Hb]; · iexact Hb
  isplitl [Ho H0 H1]
  · iapply ho
    isplitl [Ho]; · iexact Ho
    isplitl [H0] <;> iassumption
  isplitl [Hi] <;> iassumption

theorem regroup : (bigSep Finset.univ fun c : Dev nD => iprop(bigSep Finset.univ (invR m c) ∗ bigSep Finset.univ (posR c) ∗ toks c) : sProp 𝕄)
      ⊢ bigSep Finset.univ (G' m) := by
  have e1 : (bigSep Finset.univ fun c : Dev nD => bigSep Finset.univ (invR m c))
      = bigSep Finset.univ fun ck : Dev nD × KI => iprop(∃ κ : ℕ, cellInv ER (Rd m) κ (kcell ck)) := by rw [bigSep_univ_prod]; rfl
  have e2 : (bigSep Finset.univ fun c : Dev nD => (bigSep Finset.univ (posR c) : sProp 𝕄))
      = iprop((bigSep Finset.univ fun c : Dev nD => bigSep Finset.univ fun k : KI => atPos ER (kcell (c, k)) 0 ∅ 0) ∗ bigSep Finset.univ fun ck : Dev nD × KI => reached ER (kcell ck) 0) := by
    unfold posR
    rw [bigSep_univ_prod, ← bigSep_sep']
    exact bigSep_congr fun c _ => bigSep_sep' _ _ _
  have hK : (bigSep Finset.univ fun ck : Dev nD × KI => iprop(∃ κ : ℕ, cellInv ER (Rd m) κ (kcell ck)))
      ⊢ iprop(∃ K : Dev nD × KI → ℕ, bigSep Finset.univ fun ck : Dev nD × KI => cellInv ER (Rd m) (K ck) (kcell ck)) :=
    BI.bigSep_exists_pi Finset.univ (fun (ck : Dev nD × KI) (κ : ℕ) => (cellInv ER (Rd m) κ (kcell ck) : sProp 𝕄))
  have h3 : iprop((bigSep Finset.univ fun c : Dev nD => bigSep Finset.univ fun k : KI => atPos ER (kcell (c, k)) 0 ∅ 0) ∗ bigSep Finset.univ fun c : Dev nD => toks c)
      ⊢ (bigSep Finset.univ fun c : Dev nD => own0 c : sProp 𝕄) := by
    rw [← bigSep_sep']; exact all_mono fun c _ => own0_intro c
  have h4 : ∀ K, iprop(records m K ∗ bigSep Finset.univ fun c : Dev nD => own0 c) ⊢ bigSep Finset.univ (G' m) := fun K =>
    all_with fun c _ => by unfold G'; iintro H; iexists K; iexact H
  rw [bigSep_sep', bigSep_sep', e1, e2]
  iintro ⟨HI, ⟨Hat, HR⟩, Htok⟩
  ihave HK := hK $$ HI
  icases HK with ⟨%K, HI⟩
  iapply (h4 K)
  isplitl [HI HR]
  · unfold records; isplitl [HI] <;> iassumption
  iapply h3
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Run

end
-- ==== Proof.Ideal.Credit.lean ====
/-
# The credits at launch

What all devices owe device `c`'s cells at launch is what `c` waits for: a unit per neighbour, and each landing.
-/
module

public import proofs.«01_k».proof.Proof.Ideal.Exit
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

def O₀ (c : Dev nD) : CellTallies nD τ sig Unit := oweT c 0 + oweB c 0

theorem cellB_iff {a b : Dev nD} : (barCell a = barCell b) ↔ a = b :=
  ⟨fun h => congrArg (fun g : GSem nD τ sig => g.1.1) h, fun h => h ▸ rfl⟩
theorem cellX_iff {a b : Dev nD} {x y : LT} : (xCell true a x = xCell true b y) ↔ a = b ∧ x = y := by
  refine ⟨fun h => ⟨congrArg (fun g : GSem nD τ sig => g.1.1) h, ?_⟩, fun h => by rw [h.1, h.2]⟩
  have h1 : (SemLoc.dma (xSem true x) : SemLoc sig) = .dma (xSem true y) := congrArg Prod.snd h
  have h2 : semNo true x = semNo true y := SemLoc.dma.inj h1
  have h3 := congrArg semOf h2
  rw [semOf_semNo, semOf_semNo] at h3
  exact congrArg Prod.snd h3

theorem count_bar : ∀ c : D, (∑ d : D, ∑ b : Fin 5, if bact d b = true ∧ c = bdst d b then 1 else 0) = (Finset.univ.filter fun b => bact c b = true).card := by
  decide +kernel

theorem oweT_bar (d c : Dev nD) : oweT d 0 (barCell c) () = 0 := by
  by_contra h
  obtain ⟨x, -, -, e⟩ := oweT_pos (c := d) (n := 0) (g := barCell c) (u := ()) (by omega)
  have := congrArg Prod.snd e; cases this
theorem oweB_recv (d c : Dev nD) (x : LT) : oweB d 0 (xCell true c x) () = 0 := by
  by_contra h
  obtain ⟨b, e⟩ := oweB_pos (c := d) (n := 0) (g := xCell true c x) (u := ()) (by omega)
  have := congrArg Prod.snd e; cases this
theorem oweB_bar (d c : Dev nD) : oweB d 0 (barCell c) () = ∑ b : Fin 5, if bact d b = true ∧ c = bdst d b then 1 else 0 := by
  unfold oweB
  rw [Finset.sum_apply, Finsupp.finset_sum_apply]
  refine Finset.sum_congr rfl fun b _ => ?_
  by_cases h : bact d b = true
  · rw [if_pos ⟨h, Nat.zero_le _⟩, tallyAt_apply]
    by_cases h2 : c = bdst d b
    · rw [if_pos ⟨cellB_iff.mpr h2, rfl⟩, if_pos ⟨h, h2⟩]
    · rw [if_neg fun e => h2 (cellB_iff.mp e.1), if_neg fun e => h2 e.2]
  · rw [if_neg fun e => h e.1, if_neg fun e => h e.1]; rfl
theorem oweT_recv (d c : Dev nD) (x : LT) : oweT d 0 (xCell true c x) () = if act d x.1 = true ∧ c = dst d x.1 then amt x.2 else 0 := by
  unfold oweT
  rw [Finset.sum_apply, Finsupp.finset_sum_apply, Fintype.sum_eq_single x]
  · by_cases h : act d x.1 = true
    · rw [if_pos ⟨h, Nat.zero_le _⟩, tallyAt_apply]
      by_cases h2 : c = dst d x.1
      · rw [if_pos ⟨cellX_iff.mpr ⟨h2, rfl⟩, rfl⟩, if_pos ⟨h, h2⟩]
      · rw [if_neg fun e => h2 (cellX_iff.mp e.1).1, if_neg fun e => h2 e.2]
    · rw [if_neg fun e => h e.1, if_neg fun e => h e.1]; rfl
  · intro y hy
    by_cases h : act d y.1 = true ∧ 0 ≤ tm d 0 y
    · rw [if_pos h, tallyAt_apply, if_neg fun e => hy (cellX_iff.mp e.1).2.symm]
    · rw [if_neg h]; rfl

theorem launch_bar (c : Dev nD) :
    tallyOn (barCell c) (launchCredit (Pipeline.owing O₀) 0 (barCell c)) = (tallyAt (barCell c) () (nbrs c) : CellTallies nD τ sig Unit) := by
  unfold tallyAt; refine congrArg _ (Finsupp.ext fun u => ?_); cases u
  rw [Pipeline.launchCredit_owing, Finsupp.single_eq_same]
  refine (Finset.sum_congr rfl fun d _ => ?_).trans (count_bar c)
  unfold O₀
  rw [Pi.add_apply, Finsupp.add_apply, oweT_bar, Nat.zero_add, oweB_bar]
theorem launch_recv (c : Dev nD) (x : LT) (hi : inact c x.1 = true) :
    tallyOn (xCell true c x) (launchCredit (Pipeline.owing O₀) 0 (xCell true c x)) = (tallyAt (xCell true c x) () (amt x.2) : CellTallies nD τ sig Unit) := by
  unfold tallyAt; refine congrArg _ (Finsupp.ext fun u => ?_); cases u
  rw [Pipeline.launchCredit_owing, Finsupp.single_eq_same]
  have hs := act_src c x.1 hi
  rw [Fintype.sum_eq_single (src c x.1)]
  · unfold O₀
    rw [Pi.add_apply, Finsupp.add_apply, oweB_recv, Nat.add_zero, oweT_recv, if_pos ⟨hs.1, hs.2.symm⟩]
  · intro d hd
    unfold O₀
    rw [Pi.add_apply, Finsupp.add_apply, oweB_recv, Nat.add_zero, oweT_recv, if_neg]
    rintro ⟨h1, h2⟩
    exact hd (by rw [h2]; exact (inact_dst d x.1 h1).2.symm)

/-- The credit for copy `x`'s landing. -/
def credR (c : Dev nD) (x : LT) : sProp 𝕄 := if inact c x.1 = true then cred (tallyAt (xCell true c x) () (amt x.2)) else iprop(emp)

theorem creds (c : Dev nD) : (Pipeline.launchCred O₀ c : sProp 𝕄) ⊢ iprop(cred (tallyAt (barCell c) () (nbrs c)) ∗ bigSep Finset.univ (credR c)) := by
  have hinj : Function.Injective fun x : LT => (SemLoc.dma (xSem true x) : SemLoc sig) := fun x y h => by
    have h2 : semNo true x = semNo true y := SemLoc.dma.inj h
    have h3 := congrArg semOf h2
    rw [semOf_semNo, semOf_semNo] at h3
    exact congrArg Prod.snd h3
  have hsub : (Finset.univ.map ⟨fun x : LT => (SemLoc.dma (xSem true x) : SemLoc sig), hinj⟩) ⊆ Finset.univ.erase (SemLoc.reg barS : SemLoc sig) := fun s hs => by
    obtain ⟨x, -, rfl⟩ := Finset.mem_map.mp hs
    exact Finset.mem_erase.mpr ⟨(fun h => by cases h), Finset.mem_univ _⟩
  have h1 : (bigSep (Finset.univ.erase (SemLoc.reg barS : SemLoc sig))
        (fun sm => (cred (tallyOn ((c.tc : Thread nD τ), sm) (launchCredit (Pipeline.owing O₀) 0 ((c.tc : Thread nD τ), sm))) : sProp 𝕄)))
      ⊢ bigSep Finset.univ (credR c) := by
    have a := bigSep_subset hsub (Φ := fun sm => (cred (tallyOn ((c.tc : Thread nD τ), sm) (launchCredit (Pipeline.owing O₀) 0 ((c.tc : Thread nD τ), sm))) : sProp 𝕄))
    rw [bigSep_map] at a
    have b : (bigSep Finset.univ fun x : LT => (cred (tallyOn (xCell true c x) (launchCredit (Pipeline.owing O₀) 0 (xCell true c x))) : sProp 𝕄)) ⊢ bigSep Finset.univ (credR c) :=
      all_mono fun x _ => by
        unfold credR
        by_cases hi : inact c x.1 = true
        · rw [if_pos hi, launch_recv c x hi]
        · rw [if_neg hi]; iintro -; iempintro
    exact a.trans b
  unfold Pipeline.launchCred
  rw [bigSep_univ_at _ (SemLoc.reg barS), launch_bar]
  iintro ⟨Hb, Hr⟩
  isplitl [Hb]; · iexact Hb
  iapply h1; iexact Hr

theorem in_first (c : Dev nD) : iprop((bigSep Finset.univ fun x : LT => atPos ER (xCell true c x) 0 ∅ 0) ∗ bigSep Finset.univ (credR c)) ⊢ (bigSep Finset.univ (inR c 0) : sProp 𝕄) := by
  rw [← bigSep_sep']
  refine all_mono fun x _ => ?_
  unfold credR inR
  by_cases hi : inact c x.1 = true
  · rw [if_pos hi, if_pos hi, if_pos (Nat.zero_le _)]
  · rw [if_neg hi, if_neg hi]
    iintro ⟨H, -⟩; iexact H

end Cert.KernelIdeal.Run

end
-- ==== Proof.Ideal.Launch.lean ====
/-
# The launch

The body from the pipeline's buffers, and the run of the whole program: it ends, every window's array holds what
`dats` says, and every counter is zero.
-/
module

public import proofs.«01_k».proof.Proof.Ideal.Body
public import proofs.«01_k».proof.Proof.Ideal.Ghost
public import proofs.«01_k».proof.Proof.Ideal.Credit
public import Idealize.ShloMosaic.Lib.Pipeline.CollectiveSegs

@[expose] public section

noncomputable section

namespace Cert.KernelIdeal.Run

open Cert.KernelIdeal Cert.KernelIdeal.Gen Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- Before the body: the protocol's resources. -/
def start (c : Dev nD) : sProp 𝕄 := iprop(∃ K, records m K ∗ levAts L lv ∗ rest0 K c ∗ bigSep Finset.univ (tokR c))
def Φ₀ (c : Dev nD) : sProp 𝕄 := iprop(start m c ∗ (∃ f, bufAll c false f) ∗ ∃ f, bufAll c true f)
/-- After it: every counter at zero and both buffers whole. -/
def Φ₁ (c : Dev nD) : sProp 𝕄 := iprop(semVal (barCell c) 0 ∗ semsX c ∗ bufAll c false (Vb m c) ∗ bufAll c true (Vs m c))

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => xOut m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_stg (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop(Φ₁ m c ∗ (dats m ρ 0 c).owesAt () t0_0.succ
    ∗ stg c cc0_stg0_0 (iblk m c 0 t0_0) ∗ stg c cc0_stg1_0 (iblk m c 1 t0_0) ∗ stg c cc0_stg2_0 (iblk m c 2 t0_0) ∗ stg c cc0_stg3_0 (iblk m c 3 t0_0)
    ∗ stg c cc0_stg4_0 (xOut m c))

theorem before_0 (c : Dev nD) (d) : (dats m ρ 0 c).before (0 : Fin 5) t0_0 d = iblk m c 0 t0_0 := by
  unfold Dat.before; rw [if_pos (fetch0_0 t0_0)]; rfl
theorem before_1 (c : Dev nD) (d) : (dats m ρ 0 c).before (1 : Fin 5) t0_0 d = iblk m c 1 t0_0 := by
  unfold Dat.before; rw [if_pos (fetch0_1 t0_0)]; rfl
theorem before_2 (c : Dev nD) (d) : (dats m ρ 0 c).before (2 : Fin 5) t0_0 d = iblk m c 2 t0_0 := by
  unfold Dat.before; rw [if_pos (fetch0_2 t0_0)]; rfl
theorem before_3 (c : Dev nD) (d) : (dats m ρ 0 c).before (3 : Fin 5) t0_0 d = iblk m c 3 t0_0 := by
  unfold Dat.before; rw [if_pos (fetch0_3 t0_0)]; rfl

/-- What the body's post takes from the last step's leavings. -/
theorem post_of (K : Dev nD × KI → ℕ) (c : Dev nD) : Inv m K c 144 (xOut m c) ⊢ iprop(|={Set.univ}=> bodyPost m ρ c) := by
  have h : iprop(stgs m c (xOut m c) ∗ semVal (barCell c) 0 ∗ semsX c ∗ bufAll c false (Vb m c) ∗ bufAll c true (Vs m c) ∗ owesR c 0) ⊢ bodyPost m ρ c := by
    unfold stgs bodyPost Φ₁ owesR Dat.owesAt Pipeline.owesWithin
    rw [show (dats m ρ 0 c).owed t0_0.succ = 0 from rfl]
    iintro ⟨⟨H0, H1, H2, H3, H4⟩, Hb, Hx, Hf, Ht, ⟨%W, HO⟩⟩
    isplitl [Hb Hx Hf Ht]
    · isplitl [Hb]; · iexact Hb
      isplitl [Hx]; · iexact Hx
      isplitl [Hf] <;> iassumption
    isplitl [HO]
    · iexists W
      isplitr; · ipureintro; exact fun _ _ => Or.inl trivial
      iexact HO
    isplitl [H0]
    · iexists _; isplitr; · (ipureintro; rfl)
      iexact H0
    isplitl [H1]
    · iexists _; isplitr; · (ipureintro; rfl)
      iexact H1
    isplitl [H2]
    · iexists _; isplitr; · (ipureintro; rfl)
      iexact H2
    isplitl [H3]
    · iexists _; isplitr; · (ipureintro; rfl)
      iexact H3
    iexists _; isplitr; · (ipureintro; rfl)
    iexact H4
  exact (finish m K c _).trans (BI.fupd_mono h)

theorem pre_to (c : Dev nD) : bodyPre m ρ c ⊢ iprop(∃ (K : Dev nD × KI → ℕ) (o : Buf (Elt F) ((c : Thread nD τ).loc cc0_stg4_0)), EInv m K c o) := by
  unfold bodyPre Φ₀ start Dat.owesAt Pipeline.owesWithin
  rw [show (dats m ρ 0 c).owed t0_0.castSucc = O₀ c from rfl]
  iintro ⟨⟨⟨%K, HR, HL, H0, Ht⟩, Hf, Hs⟩, ⟨%W, %hW, HO⟩, ⟨%d0, %g0, %hg0, Hx0⟩, ⟨%d1, %g1, %hg1, Hx1⟩, ⟨%d2, %g2, %hg2, Hx2⟩, ⟨%d3, %g3, %hg3, Hx3⟩, ⟨%d4, %g4, %hg4, Hx4⟩⟩
  have e0 : g0 = iblk m c 0 t0_0 := hg0.trans (before_0 m ρ c d0)
  have e1 : g1 = iblk m c 1 t0_0 := hg1.trans (before_1 m ρ c d1)
  have e2 : g2 = iblk m c 2 t0_0 := hg2.trans (before_2 m ρ c d2)
  have e3 : g3 = iblk m c 3 t0_0 := hg3.trans (before_3 m ρ c d3)
  subst e0 e1 e2 e3
  iexists K, g4
  unfold EInv stgs owesR O₀
  isplitl [HR]; · iexact HR
  isplitl [HL]; · iexact HL
  isplitl [Hx0 Hx1 Hx2 Hx3 Hx4]
  · isplitl [Hx0]; · iexact Hx0
    isplitl [Hx1]; · iexact Hx1
    isplitl [Hx2]; · iexact Hx2
    isplitl [Hx3]; · iexact Hx3
    iexact Hx4
  isplitl [H0]; · iexact H0
  isplitl [Ht]; · iexact Ht
  isplitl [Hf]; · iexact Hf
  isplitl [Hs]; · iexact Hs
  iexists W; iexact HO

theorem sound (c : Dev nD) : bodyPre m ρ c ⊢ wpc c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13) (fun _ => bodyPost m ρ c) := by
  have h := pre_to m ρ c
  have hb : ∀ K o, EInv m K c o ⊢ wpc c _ (fun _ => bodyPost m ρ c) := fun K o => body m K (post_of m ρ K c)
  iintro H
  ihave H := h $$ H
  icases H with ⟨%K, %o, H⟩
  iapply (hb K o)
  iexact H

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  simp only [owns_stg]
  exact sound m ρ c

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hc := creds (F := F) c
  have hi := in_first (F := F) c
  unfold G' own0 start rest0
  iintro ⟨-, Hlev, Hcr, -, ⟨%K, HR, Hb, Ho, Hi, Ht⟩⟩
  ihave Hc := hc $$ Hcr
  icases Hc with ⟨Hcb, Hcx⟩
  imodintro
  isplitl
  · iexists K
    isplitl [HR]; · iexact HR
    isplitl [Hlev]; · iexact Hlev
    isplitr [Ht]
    · isplitl [Hb]; · iexact Hb
      isplitl [Hcb]; · iexact Hcb
      isplitl [Ho]; · iexact Ho
      iapply hi
      isplitl [Hi] <;> iassumption
    iexact Ht
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufAll
  iintro ⟨Hs, -, Hf, Ht⟩
  isplitl [Hs]; · iexact Hs
  isplitl [Hf]; · iexact Hf
  iexact Ht

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ bufAll
  iintro ⟨Hb, Hx, Hf, Ht⟩
  isplitl [Hb]; · iexact Hb
  isplitl [Hx]; · iexact Hx
  isplitl [Hf]
  · iexists _; iexact Hf
  iexists _; iexact Ht

theorem lv_small (c : Dev nD) (s : Fin 93) (h : s.val < 5) : lv ((c : Thread nD τ), .dma s) () = 0 := if_neg fun e => absurd e.1 (by omega)
theorem waits (c : Dev nD) : (levAts L lv : sProp 𝕄) ⊢ Pipeline.cellsWaits cfgs (dats m ρ) () 0 c :=
  Pipeline.cellsWaits_intro cfgs (dats m ρ) () 0 c fun w s t => by
    have hs : lv ((c : Thread nD τ), .dma ((cfg0.win w).sem s)) () = 0 := by
      fin_cases w <;> fin_cases s
      · exact lv_small c (0 : Fin 93) (by decide)
      · exact lv_small c (1 : Fin 93) (by decide)
      · exact lv_small c (2 : Fin 93) (by decide)
      · exact lv_small c (3 : Fin 93) (by decide)
      · exact lv_small c (4 : Fin 93) (by decide)
    rcases t with ⟨_ | _, ht⟩
    · exact mayWait_low c _ hs 0 0
    · have h := mayWait_low (F := F) c _ hs 144 5
      rw [oweT_last, oweB_last, add_zero] at h
      exact h

theorem share_eq (c : Dev nD) (w : Fin cfg0.W) : (dats m ρ 0 c).share w = fullShare := by unfold Dat.share; split <;> rfl

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The program ends from any memory with zero counters; the arrays then hold `finalA` and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.KernelIdeal.Run

end
-- ==== Proof.Value.Windows.lean ====
module

public import proofs.«01_k».proof.Proof.Ideal.Launch

/-! The kernel's windows are its whole arguments, and its last window is its whole result. -/

@[expose] public section

set_option maxRecDepth 16384

noncomputable section

namespace Cert.KernelIdeal.Run

open Idealize Idealize.ShloMosaic Cert.KernelIdeal Cert.KernelIdeal.Gen Cert.Gather

variable (m : (ℓ : Loc nD τ sig) → Buf (Elt Ideal) ℓ) (c : Dev nD)

theorem x247_eq : x247 m c = m ((c.tc : Thread nD τ).loc main_arg0) := by
  have hz : (fun a => (win0_0.index (0 : Fin 1)) a * main_arg0.ty.shape.size a) = fun _ => 0 := funext fun a => by fin_cases a <;> decide
  have hr := fun f => Memref.read_access_unit_zero (Elt Ideal) main_arg0 hz (fun a => by fin_cases a <;> decide) f
  exact hr _

theorem x249_eq : x249 m c = m ((c.tc : Thread nD τ).loc main_arg1) := by
  have hz : (fun a => (win0_1.index (0 : Fin 1)) a * main_arg1.ty.shape.size a) = fun _ => 0 := funext fun a => by fin_cases a <;> decide
  have hr := fun f => Memref.read_access_unit_zero (Elt Ideal) main_arg1 hz (fun a => by fin_cases a <;> decide) f
  exact hr _

theorem x261_eq : x261 m c = m ((c.tc : Thread nD τ).loc main_arg2) := by
  have hz : (fun a => (win0_2.index (0 : Fin 1)) a * main_arg2.ty.shape.size a) = fun _ => 0 := funext fun a => by fin_cases a <;> decide
  have hr := fun f => Memref.read_access_unit_zero (Elt Ideal) main_arg2 hz (fun a => by fin_cases a <;> decide) f
  exact hr _

theorem ewBlk_eq : ewBlk m c = m ((c.tc : Thread nD τ).loc main_arg3) := by
  have hz : (fun a => (win0_3.index (0 : Fin 1)) a * main_arg3.ty.shape.size a) = fun _ => 0 := funext fun a => by fin_cases a <;> decide
  have hr := fun f => Memref.read_access_unit_zero (Elt Ideal) main_arg3 hz (fun a => by fin_cases a <;> decide) f
  exact hr _

theorem out_eq (ρ : _) : finalA m ρ c (4 : Fin 5) = xOut m c := by
  have h : (win0_4.blk (0 : Fin 1)).view.read (Elt Ideal) (finalA m ρ c (4 : Fin 5)) = xOut m c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  have hz : (fun a => (win0_4.index (0 : Fin 1)) a * main_v1.ty.shape.size a) = fun _ => 0 := funext fun a => by fin_cases a <;> decide
  have hr := fun f => Memref.read_access_unit_zero (Elt Ideal) main_v1 hz (fun a => by fin_cases a <;> decide) f
  exact (hr _).symm.trans h

end Cert.KernelIdeal.Run

end

end
-- ==== Proof.Value.Spec.lean ====
module

public import Idealize.ShloMosaic.Lib.Pointwise

/-! The scalar functions that both programs compute, over the extended reals: a token's probabilities, the largest
magnitude of a block of weights and a weight after its scaling, rounding and clipping. -/

@[expose] public section

noncomputable section

namespace Cert.Value

open Idealize Idealize.ShloMosaic

/-- Where a maximum starts: the word of minus infinity. -/
def bot : EReal := Ideal.ofBits .f32 0xFF800000#32
/-- The word of 127. -/
def hi : EReal := Ideal.ofBits .f32 0x42FE0000#32
/-- The word of −127. -/
def lo : EReal := Ideal.ofBits .f32 0xC2FE0000#32

/-- The probability of entry `e` from the scores `s`. -/
def prob (s : Fin 32 → EReal) (e : Fin 32) : EReal :=
  Ideal.div (Ideal.exp (s e - Finset.univ.fold max bot s)) (∑ k, Ideal.exp (s k - Finset.univ.fold max bot s))
/-- The largest magnitude of a block. -/
def sup (f : Fin 128 × Fin 256 → EReal) : EReal := Finset.univ.fold max bot fun p => max (f p) (-f p)
/-- A weight `w` scaled by `127 / s`, rounded and clipped. -/
def quant (w s : EReal) : EReal := min hi (max lo (Ideal.liftRound Ideal.roundHalfEven (w * Ideal.div hi s)))

end Cert.Value

end

end
-- ==== Proof.Value.Finite.lean ====
module

public import proofs.«01_k».proof.Proof.Gen.Pre_tame_KernelIdeal
public import Idealize.ShloMosaic.Lib.ReduceAll
public import proofs.«01_k».proof.Proof.Value.Spec

/-! What the precondition says: the tokens and the router's weights are finite, and the indices name experts. -/

@[expose] public section

noncomputable section

namespace Cert.Pre_tame_KernelIdeal

open Idealize Idealize.ShloMosaic

theorem real_of (x : EReal) (h : BitVec.ofBool (decide (max x (-x) < Ideal.ofBits .f32 0x7F800000#32)) = 1#1) : ∃ r : ℝ, x = r := by
  have e : Ideal.ofBits .f32 0x7F800000#32 = ⊤ := by simp [Ideal.ofBits, Ideal.ieee]
  rw [e] at h
  induction x using EReal.rec with
  | bot => simp at h
  | top => simp at h
  | coe r => exact ⟨r, rfl⟩

theorem word_of (b : BitVec 32) (h0 : IntOp.cmpi .sge b 0#32 = 1#1) (h1 : IntOp.cmpi .slt b 32#32 = 1#1) : ∃ k : Fin 32, b = BitVec.ofNat 32 k.val := by
  simp only [IntOp.cmpi] at h0 h1
  have t0 : (0#32).sle b = true := by revert h0; cases (0#32).sle b <;> simp
  have t1 : b.slt 32#32 = true := by revert h1; cases b.slt 32#32 <;> simp
  rw [BitVec.sle_iff_toInt_le] at t0
  rw [BitVec.slt_iff_toInt_lt] at t1
  have hb : b.toNat < 32 := by
    have hlt := b.isLt
    have e0 : (0#32 : BitVec 32).toInt = 0 := rfl
    have e1 : (32#32 : BitVec 32).toInt = 32 := rfl
    rw [e0] at t0
    rw [e1] at t1
    rw [BitVec.toInt_eq_toNat_cond] at t0 t1
    split at t0 <;> omega
  exact ⟨⟨b.toNat, hb⟩, by apply BitVec.eq_of_toNat_eq; simp⟩

set_option maxRecDepth 16384 in
theorem facts (a0 : FVec Ideal S256x128 .bf16) (a1 : FVec Ideal S128x32 .bf16) (a2 : IVec S256x2 32) (a3 : FVec Ideal S2x128x256 .bf16)
    (h : fn (F := Ideal) a0 a1 a2 a3 = fun _ => 1#1) :
    (∀ n d, ∃ r : ℝ, a0 (ix2 n d) = (r : EReal)) ∧ (∀ d e, ∃ r : ℝ, a1 (ix2 d e) = (r : EReal))
      ∧ ∀ n j, ∃ k : Fin 32, a2 (ix2 n j) = BitVec.ofNat 32 k.val := by
  have h := congrFun h ix0
  simp only [fn, fn_part1] at h
  obtain ⟨h, h3⟩ := IntOp.andi_eq_one.1 h
  obtain ⟨h, h2⟩ := IntOp.andi_eq_one.1 h
  obtain ⟨h0, h1⟩ := IntOp.andi_eq_one.1 h
  haveI : Subsingleton S_.Idx := ⟨fun a b => funext fun i => i.elim0⟩
  refine ⟨fun n d => real_of _ ?_, fun d e => real_of _ ?_, fun n j => word_of _ ?_ ?_⟩
  · exact Host.reduce_andi_all _ _ _ _ _ h0 (ix2 n d)
  · exact Host.reduce_andi_all _ _ _ _ _ h1 (ix2 d e)
  · exact Host.reduce_andi_all _ _ _ _ _ h2 (ix2 n j)
  · exact Host.reduce_andi_all _ _ _ _ _ h3 (ix2 n j)

end Cert.Pre_tame_KernelIdeal

end

end
-- ==== Proof.Value.Total.lean ====
module

public import Idealize.ShloMosaic.PureOps.Ideal
public import proofs.«01_k».proof.Proof.Value.Spec

/-! A sum over four rows of eight slots, each of another expert, is the sum over the experts; a token's gates leave two of them. -/

@[expose] public section

noncomputable section

namespace Cert.Value

open Idealize Idealize.ShloMosaic

variable (x : Fin 128 → ℝ) (v : Fin 32 → Fin 128 → ℝ) (a b : ℝ) (i j : Fin 32)

/-- What an expert gives a token, at one column. -/
def give (e : Fin 32) : ℝ := ∑ d, ((if e = i then a else 0) + (if e = j then b else 0)) * x d * v e d

theorem give_coe (e : Fin 32) :
    (∑ d, ((if e = i then (a : EReal) else 0) + (if e = j then (b : EReal) else 0)) * (x d : EReal) * (v e d : EReal) : EReal) = ((give x v a b i j e : ℝ) : EReal) := by
  have hc : ∀ (p : Prop) [Decidable p] (t : ℝ), (if p then (t : EReal) else 0) = ((if p then t else 0 : ℝ) : EReal) := by
    intro p _ t
    split_ifs <;> simp
  have hg : ∀ s t : ℝ, (∑ d, ((s : EReal) + (t : EReal)) * (x d : EReal) * (v e d : EReal) : EReal) = ((∑ d, (s + t) * x d * v e d : ℝ) : EReal) := by
    intro s t
    push_cast
    rfl
  unfold give
  rw [hc, hc]
  exact hg _ _

theorem give_sum : ∑ e, give x v a b i j e = a * ∑ d, x d * v i d + b * ∑ d, x d * v j d := by
  have h : ∀ e, give x v a b i j e = (if e = i then a * ∑ d, x d * v e d else 0) + (if e = j then b * ∑ d, x d * v e d else 0) := by
    intro e
    unfold give
    rw [show (if e = i then a * ∑ d, x d * v e d else 0) = (if e = i then a else 0) * ∑ d, x d * v e d by split_ifs <;> simp,
      show (if e = j then b * ∑ d, x d * v e d else 0) = (if e = j then b else 0) * ∑ d, x d * v e d by split_ifs <;> simp,
      ← add_mul, Finset.mul_sum]
    exact Finset.sum_congr rfl fun d _ => mul_assoc _ _ _
  simp only [h, Finset.sum_add_distrib, Finset.sum_ite_eq', Finset.mem_univ, if_true]

theorem total (ex : Fin 4 → Fin 8 → Fin 32) (inj : ∀ p q : Fin 4 × Fin 8, ex p.1 p.2 = ex q.1 q.2 → p = q) (T : Fin 4 → EReal)
    (hT : ∀ k, T k = ∑ s, ∑ d, ((if ex k s = i then (a : EReal) else 0) + (if ex k s = j then (b : EReal) else 0)) * (x d : EReal) * (v (ex k s) d : EReal)) :
    ((T 0 + T 1) + T 3) + T 2 = (a : EReal) * (∑ d, (x d : EReal) * (v i d : EReal)) + (b : EReal) * (∑ d, (x d : EReal) * (v j d : EReal)) := by
  have bij : Function.Bijective fun p : Fin 4 × Fin 8 => ex p.1 p.2 :=
    (Fintype.bijective_iff_injective_and_card _).2 ⟨fun p q h => inj p q h, by simp⟩
  have hs : ∑ k, ∑ s, give x v a b i j (ex k s) = a * ∑ d, x d * v i d + b * ∑ d, x d * v j d := by
    rw [← give_sum, ← Fintype.sum_prod_type' fun k s => give x v a b i j (ex k s)]
    exact bij.sum_comp fun e => give x v a b i j e
  have hk : ∀ k, T k = ((∑ s, give x v a b i j (ex k s) : ℝ) : EReal) := by
    intro k
    rw [hT k]
    simp only [give_coe]
    push_cast
    rfl
  rw [hk, hk, hk, hk]
  have hr : (a : EReal) * (∑ d, (x d : EReal) * (v i d : EReal)) + (b : EReal) * (∑ d, (x d : EReal) * (v j d : EReal))
      = ((a * ∑ d, x d * v i d + b * ∑ d, x d * v j d : ℝ) : EReal) := by push_cast; rfl
  rw [hr, ← hs, Fin.sum_univ_four]
  norm_cast
  ring

end Cert.Value

end

end
-- ==== Proof.Value.Payloads.lean ====
module

public import proofs.«01_k».proof.Proof.Ideal.Launch
public import proofs.«01_k».proof.Proof.Value.Spec

/-! The kernel's vector expressions read at one token, one slot and one column. -/

@[expose] public section

set_option maxRecDepth 16384

noncomputable section

namespace Cert.KernelIdeal.Run

open Idealize Idealize.ShloMosaic Cert.KernelIdeal Cert.KernelIdeal.Gen Cert.Gather Cert.Value

section Payloads

variable (x : Vec Ideal S256x128 .bf16) (rw : Vec Ideal S128x32 .bf16) (ix : Vec Ideal S256x2 .i32) (w : Vec Ideal S2x128x256 .bf16)

theorem pay7_at (n : Fin 256) (e : Fin 32) : k0_pay7 (F := Ideal) x rw (ix2 n e) = prob (fun e => ∑ d, (x (ix2 n d) * rw (ix2 d e) : EReal)) e := by
  pointwise [k0_pay7, k0_pay6]
  rfl

theorem pay11_at (n : Fin 256) : k0_pay11 (F := Ideal) x rw ix (ix2 n 0)
    = ∑ e : Fin 32, Scalar.select (IntOp.cmpi .eq (BitVec.ofNat 32 e.val) (ix (ix2 n 0))) (k0_pay7 (F := Ideal) x rw (ix2 n e) : EReal) 0 := by
  pointwise [k0_pay11, k0_pay9, k0_pay8]

theorem pay12_at (n : Fin 256) : k0_pay12 (F := Ideal) x rw ix (ix2 n 0)
    = ∑ e : Fin 32, Scalar.select (IntOp.cmpi .eq (BitVec.ofNat 32 e.val) (ix (ix2 n 1))) (k0_pay7 (F := Ideal) x rw (ix2 n e) : EReal) 0 := by
  pointwise [k0_pay12, k0_pay10, k0_pay8]

theorem pay14_at (n : Fin 256) : k0_pay14 (F := Ideal) x rw ix (ix2 n 0)
    = Ideal.div (k0_pay11 (F := Ideal) x rw ix (ix2 n 0)) (k0_pay11 (F := Ideal) x rw ix (ix2 n 0) + k0_pay12 (F := Ideal) x rw ix (ix2 n 0) : EReal) := by
  pointwise [k0_pay14, k0_pay13]

theorem pay15_at (n : Fin 256) : k0_pay15 (F := Ideal) (k0_pay12 x rw ix) (k0_pay13 x rw ix) (ix2 n 0)
    = Ideal.div (k0_pay12 (F := Ideal) x rw ix (ix2 n 0)) (k0_pay11 (F := Ideal) x rw ix (ix2 n 0) + k0_pay12 (F := Ideal) x rw ix (ix2 n 0) : EReal) := by
  pointwise [k0_pay15, k0_pay13]

theorem pay2_at (e : Fin 2) : k0_pay2 (F := Ideal) w (ix3 e 0 0) = sup fun p => w (ix3 e p.1 p.2) := by
  pointwise [k0_pay2, k0_pay1]
  rfl

theorem pay3_at (e : Fin 2) (d : Fin 128) (h : Fin 256) : k0_pay4 (k0_pay3 (F := Ideal) w) (ix5 0 0 e d h)
    = FloatOps.fptosi (F := Ideal) (φ := .f32) 8 (quant (w (ix3 e d h)) (sup fun p => w (ix3 e p.1 p.2))) := by
  pointwise [k0_pay4, k0_pay3, k0_pay1]
  rw [pay2_at]
  rfl

theorem pay5_at (e : Fin 2) : k0_pay5 (k0_pay2 (F := Ideal) w) (ix3 0 0 e) = ((sup fun p => w (ix3 e p.1 p.2)) * ((127⁻¹ : ℝ) : EReal) : EReal) := by
  pointwise [k0_pay5]
  rw [pay2_at, IdealRules.named_const.ideal_named_scalar _ _ _ _ rfl]

/-- The word of the expert in slot `s`, as the kernel computes it from a device's plane and place. -/
def slotWord (z p : BitVec 32) (s : ℕ) : BitVec 32 :=
  IntOp.addi (IntOp.muli (IntOp.addi (IntOp.muli (IntOp.remsi ArithUnit.vector (IntOp.addi z
      (Scalar.select (IntOp.andi
          (IntOp.cmpi .ne (IntOp.subi (BitVec.setWidth 32 (IntOp.cmpi .sgt (BitVec.ofNat 32 s) 0#32)) (BitVec.setWidth 32 (IntOp.cmpi .slt (BitVec.ofNat 32 s) 0#32)))
            (Scalar.subi (Scalar.extui (Scalar.cmpi .sgt 8#32 0#32)) (Scalar.extui (Scalar.cmpi .slt 8#32 0#32))))
          (IntOp.cmpi .ne (IntOp.remsi ArithUnit.vector (BitVec.ofNat 32 s) 8#32) 0#32))
        (IntOp.subi (IntOp.divsi ArithUnit.vector (BitVec.ofNat 32 s) 8#32) 1#32)
        (IntOp.divsi ArithUnit.vector (BitVec.ofNat 32 s) 8#32))) 4#32) 4#32)
    (IntOp.remsi ArithUnit.vector (IntOp.addi p (IntOp.remsi ArithUnit.vector
      (Scalar.select (IntOp.andi
          (IntOp.cmpi .ne (IntOp.subi (BitVec.setWidth 32 (IntOp.cmpi .sgt (BitVec.ofNat 32 s) 0#32)) (BitVec.setWidth 32 (IntOp.cmpi .slt (BitVec.ofNat 32 s) 0#32)))
            (Scalar.subi (Scalar.extui (Scalar.cmpi .sgt 2#32 0#32)) (Scalar.extui (Scalar.cmpi .slt 2#32 0#32))))
          (IntOp.cmpi .ne (IntOp.remsi ArithUnit.vector (BitVec.ofNat 32 s) 2#32) 0#32))
        (IntOp.subi (IntOp.divsi ArithUnit.vector (BitVec.ofNat 32 s) 2#32) 1#32)
        (IntOp.divsi ArithUnit.vector (BitVec.ofNat 32 s) 2#32)) 4#32)) 4#32)) 2#32)
    (IntOp.remsi ArithUnit.vector (BitVec.ofNat 32 s) 2#32)

theorem pay19_at (i0 i1 : IVec S256x1 32) (a b : FVec Ideal S256x1 .f32) (z p : BitVec 32) (n : Fin 256) (s : Fin 32) (d : Fin 128) :
    k0_pay19 (F := Ideal) z p x i0 i1 (iota .tc S256x32 32 [1] iota_S256x32_d1_w32) a b (k0_pay16 (iota .tc S256x32 32 [1] iota_S256x32_d1_w32))
      (k0_pay17 (iota .tc S256x32 32 [1] iota_S256x32_d1_w32)) (k0_pay18 (iota .tc S256x32 32 [1] iota_S256x32_d1_w32)) 1#32 (ix3 n s d)
    = ((Scalar.select (IntOp.cmpi .eq (slotWord z p s.val) (i0 (ix2 n 0))) (a (ix2 n 0)) 0
      + Scalar.select (IntOp.cmpi .eq (slotWord z p s.val) (i1 (ix2 n 0))) (b (ix2 n 0)) 0) * x (ix2 n d) : EReal) := by
  pointwise [k0_pay19, k0_pay16, k0_pay17, k0_pay18]
  rfl

end Payloads

end Cert.KernelIdeal.Run

end

end
-- ==== Proof.Value.Rows.lean ====
module

public import proofs.«01_k».proof.Proof.Ideal.Launch
public import proofs.«01_k».proof.Proof.Value.Spec

/-! The product over the eight slots of one row of the exchange. -/

@[expose] public section

set_option maxRecDepth 16384

noncomputable section

namespace Cert.KernelIdeal.Run

open Idealize Idealize.ShloMosaic Cert.KernelIdeal Cert.KernelIdeal.Gen Cert.Gather Cert.Value

/-- A sum over 1024 positions is a sum over 8 slots of 128 each. -/
theorem sum_slots (f : Fin 1024 → EReal) (T : Fin 8 → Fin 128 → EReal)
    (h : ∀ x : Fin 1024, f x = T ⟨x.val / 128, by omega⟩ ⟨x.val % 128, by omega⟩) : ∑ x, f x = ∑ j, ∑ d, T j d := by
  rw [← Fintype.sum_prod_type', ← (finProdFinEquiv (m := 8) (n := 128)).symm.sum_comp]
  exact Finset.sum_congr rfl fun x _ => h x

/-- The chain of choices by slot picks the slot's own. -/
theorem chain_at (s : Fin 8 → EReal) (j : Fin 8) :
    Scalar.select (IntOp.cmpi .eq (BitVec.ofNat 32 j.val) 7#32) (s 7)
      (Scalar.select (IntOp.cmpi .eq (BitVec.ofNat 32 j.val) 6#32) (s 6)
      (Scalar.select (IntOp.cmpi .eq (BitVec.ofNat 32 j.val) 5#32) (s 5)
      (Scalar.select (IntOp.cmpi .eq (BitVec.ofNat 32 j.val) 4#32) (s 4)
      (Scalar.select (IntOp.cmpi .eq (BitVec.ofNat 32 j.val) 3#32) (s 3)
      (Scalar.select (IntOp.cmpi .eq (BitVec.ofNat 32 j.val) 2#32) (s 2)
      (Scalar.select (IntOp.cmpi .eq (BitVec.ofNat 32 j.val) 1#32) (s 1)
      (Scalar.select (IntOp.cmpi .eq (BitVec.ofNat 32 j.val) 0#32) (s 0) 0))))))) = s j := by
  fin_cases j <;> rfl

/-- The place in its row of the device whose expert is the `j`-th of the row. -/
def half (j : Fin 8) : Fin 4 := ⟨j.val / 2, by omega⟩
/-- Which of its two experts that is. -/
def par (j : Fin 8) : Fin 2 := ⟨j.val % 2, by omega⟩
/-- The number of the `j`-th slot of row `k`. -/
def slot (k : Fin 4) (j : Fin 8) : Fin 32 := ⟨8 * k.val + j.val, by omega⟩

/-- One row's sum. -/
def rowSum (y : FVec Ideal S256x32x128 .bf16) (S : Fin 8 → EReal) (W : Vec Ideal S1x4x2x128x256 .i8) (k : Fin 4) (n h : Fin 256) : EReal :=
  ∑ j : Fin 8, ∑ d : Fin 128, y (ix3 n (slot k j) d) * S j * FloatOps.sitofp (F := Ideal) .bf16 (W (ix5 0 (half j) (par j) d h))

variable (y : FVec Ideal S256x32x128 .bf16) (S : Fin 8 → EReal) (v0 v1 v2 v3 v4 v5 v6 v7 : Vec Ideal S1x1x1 .f32) (W : Vec Ideal S1x4x2x128x256 .i8) (p : FVec Ideal S256x256 .f32) (n h : Fin 256)

theorem row0 (h0 : v0 (ix3 0 0 0) = S 0) (h1 : v1 (ix3 0 0 0) = S 1) (h2 : v2 (ix3 0 0 0) = S 2) (h3 : v3 (ix3 0 0 0) = S 3) (h4 : v4 (ix3 0 0 0) = S 4) (h5 : v5 (ix3 0 0 0) = S 5) (h6 : v6 (ix3 0 0 0) = S 6) (h7 : v7 (ix3 0 0 0) = S 7) :
    k0_pay21 (F := Ideal) y (iota .tc S1x8x1 32 [1] iota_S1x8x1_d1_w32) (k0_pay20 (iota .tc S1x8x1 32 [1] iota_S1x8x1_d1_w32) v0 v1 v2 v3 v4) v5 v6 v7 W (ix2 n h) = rowSum y S W 0 n h := by
  pointwise [k0_pay21, k0_pay20]
  refine sum_slots _ _ fun x => ?_
  rw [h0, h1, h2, h3, h4, h5, h6, h7]
  have hq : x.val / 256 = x.val / 128 / 2 := by omega
  have hc := chain_at S ⟨x.val / 128, by omega⟩
  simp only at hc
  rw [hc]
  simp only [slot, half, par, hq]
  have hk : 8 * ((0 : Fin 4) : ℕ) + x.val / 128 = x.val / 128 := by show 8 * 0 + x.val / 128 = x.val / 128; omega
  simp only [hk]

theorem row1 (h0 : v0 (ix3 0 0 0) = S 0) (h1 : v1 (ix3 0 0 0) = S 1) (h2 : v2 (ix3 0 0 0) = S 2) (h3 : v3 (ix3 0 0 0) = S 3) (h4 : v4 (ix3 0 0 0) = S 4) (h5 : v5 (ix3 0 0 0) = S 5) (h6 : v6 (ix3 0 0 0) = S 6) (h7 : v7 (ix3 0 0 0) = S 7) :
    k0_pay24 (F := Ideal) y (iota .tc S1x8x1 32 [1] iota_S1x8x1_d1_w32) p (k0_pay22 (iota .tc S1x8x1 32 [1] iota_S1x8x1_d1_w32) v0 v1 v2 v3 v4) (k0_pay23 (iota .tc S1x8x1 32 [1] iota_S1x8x1_d1_w32)) v5 v6 v7 W (ix2 n h) = (p (ix2 n h) + rowSum y S W 1 n h : EReal) := by
  pointwise [k0_pay24, k0_pay23, k0_pay22]
  refine congrArg (p (ix2 n h) + ·) ?_
  refine sum_slots _ _ fun x => ?_
  rw [h0, h1, h2, h3, h4, h5, h6, h7]
  have hq : x.val / 256 = x.val / 128 / 2 := by omega
  have hc := chain_at S ⟨x.val / 128, by omega⟩
  simp only at hc
  rw [hc]
  simp only [slot, half, par, hq]
  have hk : 8 * ((1 : Fin 4) : ℕ) + x.val / 128 = 8 + x.val / 128 := by show 8 * 1 + x.val / 128 = 8 + x.val / 128; omega
  simp only [hk]

theorem row3 (h0 : v0 (ix3 0 0 0) = S 0) (h1 : v1 (ix3 0 0 0) = S 1) (h2 : v2 (ix3 0 0 0) = S 2) (h3 : v3 (ix3 0 0 0) = S 3) (h4 : v4 (ix3 0 0 0) = S 4) (h5 : v5 (ix3 0 0 0) = S 5) (h6 : v6 (ix3 0 0 0) = S 6) (h7 : v7 (ix3 0 0 0) = S 7) :
    k0_pay27 (F := Ideal) y (iota .tc S1x8x1 32 [1] iota_S1x8x1_d1_w32) p (k0_pay25 (iota .tc S1x8x1 32 [1] iota_S1x8x1_d1_w32) v0 v1 v2 v3 v4) (k0_pay26 (iota .tc S1x8x1 32 [1] iota_S1x8x1_d1_w32)) v5 v6 v7 W (ix2 n h) = (p (ix2 n h) + rowSum y S W 3 n h : EReal) := by
  pointwise [k0_pay27, k0_pay26, k0_pay25]
  refine congrArg (p (ix2 n h) + ·) ?_
  refine sum_slots _ _ fun x => ?_
  rw [h0, h1, h2, h3, h4, h5, h6, h7]
  have hq : x.val / 256 = x.val / 128 / 2 := by omega
  have hc := chain_at S ⟨x.val / 128, by omega⟩
  simp only at hc
  rw [hc]
  simp only [slot, half, par, hq]
  have hk : 8 * ((3 : Fin 4) : ℕ) + x.val / 128 = 24 + x.val / 128 := by show 8 * 3 + x.val / 128 = 24 + x.val / 128; omega
  simp only [hk]

theorem row2 (h0 : v0 (ix3 0 0 0) = S 0) (h1 : v1 (ix3 0 0 0) = S 1) (h2 : v2 (ix3 0 0 0) = S 2) (h3 : v3 (ix3 0 0 0) = S 3) (h4 : v4 (ix3 0 0 0) = S 4) (h5 : v5 (ix3 0 0 0) = S 5) (h6 : v6 (ix3 0 0 0) = S 6) (h7 : v7 (ix3 0 0 0) = S 7) :
    k0_pay30 (F := Ideal) y (iota .tc S1x8x1 32 [1] iota_S1x8x1_d1_w32) p (k0_pay29 (iota .tc S1x8x1 32 [1] iota_S1x8x1_d1_w32) k0_pay28 v0 v1 v2 v3 v4 v5) v6 v7 W (ix2 n h) = (p (ix2 n h) + rowSum y S W 2 n h : EReal) := by
  pointwise [k0_pay30, k0_pay29, k0_pay28]
  refine congrArg (p (ix2 n h) + ·) ?_
  refine sum_slots _ _ fun x => ?_
  rw [h0, h1, h2, h3, h4, h5, h6, h7]
  have hq : x.val / 256 = x.val / 128 / 2 := by omega
  have hc := chain_at S ⟨x.val / 128, by omega⟩
  simp only at hc
  rw [hc]
  simp only [slot, half, par, hq]
  have hk : 8 * ((2 : Fin 4) : ℕ) + x.val / 128 = 16 + x.val / 128 := by show 8 * 2 + x.val / 128 = 16 + x.val / 128; omega
  simp only [hk]

end Cert.KernelIdeal.Run

end

end
-- ==== Proof.Value.Slots.lean ====
module

public import proofs.«01_k».proof.Proof.Ideal.Launch
public import proofs.«01_k».proof.Proof.Value.Payloads
public import proofs.«01_k».proof.Proof.Value.Rows

/-! The expert of each slot. -/

@[expose] public section

set_option maxRecDepth 16384

noncomputable section

namespace Cert.KernelIdeal.Run

open Idealize Idealize.ShloMosaic Cert.KernelIdeal Cert.KernelIdeal.Gen Cert.Gather Cert.Value

/-- The expert in slot `8 k + j` of device `c`. -/
def expert (c : Dev nD) (k : Fin 4) (j : Fin 8) : Fin 32 := ⟨2 * (owner c k (half j)).val + (par j).val, by
  have := (owner c k (half j)).isLt; have := (par j).isLt; show _ < 32; omega⟩

theorem slotWord_eq : ∀ (c : Dev nD) (k : Fin 4) (j : Fin 8), slotWord (zW c) (pW c) (slot k j).val = BitVec.ofNat 32 (expert c k j).val := by
  decide +kernel
theorem expert_inj : ∀ (c : Dev nD) (a b : Fin 4 × Fin 8), expert c a.1 a.2 = expert c b.1 b.2 → a = b := by
  decide +kernel

end Cert.KernelIdeal.Run

end

end
-- ==== Proof.Value.Sum.lean ====
module

public import proofs.«01_k».proof.Proof.Ideal.Launch
public import proofs.«01_k».proof.Proof.Value.Payloads
public import proofs.«01_k».proof.Proof.Value.Rows

/-! The kernel's result as a sum over slots, and its windows as its arguments. -/

@[expose] public section

set_option maxRecDepth 16384

noncomputable section

namespace Cert.KernelIdeal.Run

open Idealize Idealize.ShloMosaic Cert.KernelIdeal Cert.KernelIdeal.Gen Cert.Gather Cert.Value

variable (m : (ℓ : Loc nD τ sig) → Buf (Elt Ideal) ℓ)

/-- The scale in the `j`-th slot of row `k`. -/
def scaleOf (c : Dev nD) (k : Fin 4) (j : Fin 8) : EReal := qs m (owner c k (half j)) (ix3 0 0 (par j))
/-- The eight-bit weights in the `j`-th slot of row `k`. -/
def blockOf (c : Dev nD) (k : Fin 4) (j : Fin 8) (d : Fin 128) (h : Fin 256) : BitVec 8 := qb m (owner c k (half j)) (ix5 0 0 (par j) d h)
/-- The part of the result that row `k` gives. -/
def part (c : Dev nD) (n h : Fin 256) (k : Fin 4) : EReal :=
  ∑ j : Fin 8, ∑ d : Fin 128, x366 m c (ix3 n (slot k j) d) * scaleOf m c k j * FloatOps.sitofp (F := Ideal) .bf16 (blockOf m c k j d h)

theorem scale_at (c : Dev nD) (k : Fin 4) (j : Fin 8) (i : S4x4x2.Idx) (h0 : (i 0).val = k.val) (h1 : (i 1).val = (half j).val) (h2 : (i 2).val = (par j).val) :
    Vs m c i = scaleOf m c k j := by
  have e0 : (i 0 : Fin 4) = k := Fin.ext h0
  have e1 : (i 1 : Fin 4) = half j := Fin.ext h1
  have e2 : (i 2 : Fin 2) = par j := Fin.ext h2
  unfold Vs scaleOf
  rw [e0, e1]
  congr 1
  funext a
  match a with
  | 0 => rfl
  | 1 => rfl
  | 2 => exact e2

theorem block_at (c : Dev nD) (k : Fin 4) (j : Fin 8) (d : Fin 128) (h : Fin 256) (i : S4x4x2x128x256.Idx) (h0 : (i 0).val = k.val) (h1 : (i 1).val = (half j).val)
    (h2 : (i 2).val = (par j).val) (h3 : (i 3).val = d.val) (h4 : (i 4).val = h.val) : Vb m c i = blockOf m c k j d h := by
  have e0 : (i 0 : Fin 4) = k := Fin.ext h0
  have e1 : (i 1 : Fin 4) = half j := Fin.ext h1
  have e2 : (i 2 : Fin 2) = par j := Fin.ext h2
  have e3 : (i 3 : Fin 128) = d := Fin.ext h3
  have e4 : (i 4 : Fin 256) = h := Fin.ext h4
  unfold Vb blockOf
  rw [e0, e1]
  congr 1
  funext a
  match a with
  | 0 => rfl
  | 1 => rfl
  | 2 => exact e2
  | 3 => exact e3
  | 4 => exact e4

theorem x470_at (c : Dev nD) (j : Fin 8) (d : Fin 128) (h : Fin 256) : x470 m c (ix5 0 (half j) (par j) d h) = blockOf m c 0 j d h := by
  unfold x470 bufAt
  refine block_at m c 0 j d h _ ?_ ?_ ?_ ?_ ?_ <;> simp [Rect.emb, Rect.unit]
theorem x470_sum (c : Dev nD) (n h : Fin 256) : rowSum (x366 m c) (scaleOf m c 0) (x470 m c) 0 n h = part m c n h 0 := by
  unfold rowSum part
  simp only [x470_at]

theorem x577_at (c : Dev nD) (j : Fin 8) (d : Fin 128) (h : Fin 256) : x577 m c (ix5 0 (half j) (par j) d h) = blockOf m c 1 j d h := by
  unfold x577 bufAt
  refine block_at m c 1 j d h _ ?_ ?_ ?_ ?_ ?_ <;> simp [Rect.emb, Rect.unit]
theorem x577_sum (c : Dev nD) (n h : Fin 256) : rowSum (x366 m c) (scaleOf m c 1) (x577 m c) 1 n h = part m c n h 1 := by
  unfold rowSum part
  simp only [x577_at]

theorem x793_at (c : Dev nD) (j : Fin 8) (d : Fin 128) (h : Fin 256) : x793 m c (ix5 0 (half j) (par j) d h) = blockOf m c 2 j d h := by
  unfold x793 bufAt
  refine block_at m c 2 j d h _ ?_ ?_ ?_ ?_ ?_ <;> simp [Rect.emb, Rect.unit]
theorem x793_sum (c : Dev nD) (n h : Fin 256) : rowSum (x366 m c) (scaleOf m c 2) (x793 m c) 2 n h = part m c n h 2 := by
  unfold rowSum part
  simp only [x793_at]

theorem x685_at (c : Dev nD) (j : Fin 8) (d : Fin 128) (h : Fin 256) : x685 m c (ix5 0 (half j) (par j) d h) = blockOf m c 3 j d h := by
  unfold x685 bufAt
  refine block_at m c 3 j d h _ ?_ ?_ ?_ ?_ ?_ <;> simp [Rect.emb, Rect.unit]
theorem x685_sum (c : Dev nD) (n h : Fin 256) : rowSum (x366 m c) (scaleOf m c 3) (x685 m c) 3 n h = part m c n h 3 := by
  unfold rowSum part
  simp only [x685_at]

theorem x474_at (c : Dev nD) (n h : Fin 256) : x474 m c (ix2 n h) = part m c n h 0 := by
  refine (row0 (x366 m c) (scaleOf m c 0) (x419 m c) (x425 m c) (x431 m c) (x437 m c) (x443 m c) (x449 m c) (x455 m c) (x461 m c) (x470 m c) n h (scale_at m c 0 0 _ rfl rfl rfl) (scale_at m c 0 1 _ rfl rfl rfl) (scale_at m c 0 2 _ rfl rfl rfl) (scale_at m c 0 3 _ rfl rfl rfl) (scale_at m c 0 4 _ rfl rfl rfl) (scale_at m c 0 5 _ rfl rfl rfl) (scale_at m c 0 6 _ rfl rfl rfl) (scale_at m c 0 7 _ rfl rfl rfl)).trans ?_
  rw [x470_sum]

theorem x582_at (c : Dev nD) (n h : Fin 256) : x582 m c (ix2 n h) = (part m c n h 0 + part m c n h 1 : EReal) := by
  refine (row1 (x366 m c) (scaleOf m c 1) (x526 m c) (x532 m c) (x538 m c) (x544 m c) (x550 m c) (x556 m c) (x562 m c) (x568 m c) (x577 m c) (x474 m c) n h (scale_at m c 1 0 _ rfl rfl rfl) (scale_at m c 1 1 _ rfl rfl rfl) (scale_at m c 1 2 _ rfl rfl rfl) (scale_at m c 1 3 _ rfl rfl rfl) (scale_at m c 1 4 _ rfl rfl rfl) (scale_at m c 1 5 _ rfl rfl rfl) (scale_at m c 1 6 _ rfl rfl rfl) (scale_at m c 1 7 _ rfl rfl rfl)).trans ?_
  rw [x577_sum, x474_at]

theorem x690_at (c : Dev nD) (n h : Fin 256) : x690 m c (ix2 n h) = ((part m c n h 0 + part m c n h 1 : EReal) + part m c n h 3 : EReal) := by
  refine (row3 (x366 m c) (scaleOf m c 3) (x634 m c) (x640 m c) (x646 m c) (x652 m c) (x658 m c) (x664 m c) (x670 m c) (x676 m c) (x685 m c) (x582 m c) n h (scale_at m c 3 0 _ rfl rfl rfl) (scale_at m c 3 1 _ rfl rfl rfl) (scale_at m c 3 2 _ rfl rfl rfl) (scale_at m c 3 3 _ rfl rfl rfl) (scale_at m c 3 4 _ rfl rfl rfl) (scale_at m c 3 5 _ rfl rfl rfl) (scale_at m c 3 6 _ rfl rfl rfl) (scale_at m c 3 7 _ rfl rfl rfl)).trans ?_
  rw [x685_sum, x582_at]

theorem xOut_at (c : Dev nD) (n h : Fin 256) : xOut m c (ix2 n h) = (((part m c n h 0 + part m c n h 1 : EReal) + part m c n h 3 : EReal) + part m c n h 2 : EReal) := by
  refine (row2 (x366 m c) (scaleOf m c 2) (x742 m c) (x748 m c) (x754 m c) (x760 m c) (x766 m c) (x772 m c) (x778 m c) (x784 m c) (x793 m c) (x690 m c) n h (scale_at m c 2 0 _ rfl rfl rfl) (scale_at m c 2 1 _ rfl rfl rfl) (scale_at m c 2 2 _ rfl rfl rfl) (scale_at m c 2 3 _ rfl rfl rfl) (scale_at m c 2 4 _ rfl rfl rfl) (scale_at m c 2 5 _ rfl rfl rfl) (scale_at m c 2 6 _ rfl rfl rfl) (scale_at m c 2 7 _ rfl rfl rfl)).trans ?_
  rw [x793_sum, x690_at]

end Cert.KernelIdeal.Run

end

end
-- ==== Proof.Value.Real.lean ====
module

public import proofs.«01_k».proof.Proof.Value.Spec

/-! The scalar functions on finite arguments are real, and an eight-bit integer holds a clipped weight exactly. -/

@[expose] public section

noncomputable section

namespace Cert.Value

open Idealize Idealize.ShloMosaic

theorem hi_eq : hi = ((127 : ℝ) : EReal) := by
  unfold hi; simp [Ideal.ofBits, Ideal.ieee, -EReal.coe_mul]; norm_num
theorem lo_eq : lo = ((-127 : ℝ) : EReal) := by
  unfold lo; simp [Ideal.ofBits, Ideal.ieee, -EReal.coe_mul, -EReal.coe_neg]; norm_num
theorem bot_eq : bot = ⊥ := by
  unfold bot; simp [Ideal.ofBits, Ideal.ieee]

/-- A clipped weight is an integer between −127 and 127. -/
theorem quant_int (w s : EReal) : ∃ z : ℤ, -127 ≤ z ∧ z ≤ 127 ∧ quant w s = ((z : ℝ) : EReal) := by
  unfold quant
  rw [hi_eq, lo_eq]
  generalize w * Ideal.div ((127 : ℝ) : EReal) s = y
  induction y using EReal.rec with
  | bot =>
    refine ⟨-127, by norm_num, by norm_num, ?_⟩
    show min _ (max _ (⊥ : EReal)) = _
    rw [max_eq_left bot_le, ← EReal.coe_strictMono.monotone.map_min]; norm_num
  | top =>
    refine ⟨127, by norm_num, by norm_num, ?_⟩
    show min _ (max _ (⊤ : EReal)) = _
    rw [max_eq_right le_top, min_eq_left le_top]; norm_num
  | coe r =>
    refine ⟨min 127 (max (-127) (Ideal.roundHalfEven r)), ?_, ?_, ?_⟩
    · exact le_min (by norm_num) (le_max_left _ _)
    · exact min_le_left _ _
    · show min _ (max _ (((Ideal.roundHalfEven r : ℤ) : ℝ) : EReal)) = _
      rw [← EReal.coe_strictMono.monotone.map_max, ← EReal.coe_strictMono.monotone.map_min]
      push_cast; rfl

/-- Stored in eight bits and read back, a clipped weight is itself. -/
theorem quant_store (w s : EReal) : FloatOps.sitofp (F := Ideal) .bf16 (FloatOps.fptosi (F := Ideal) (φ := .f32) 8 (quant w s)) = quant w s := by
  obtain ⟨z, h0, h1, e⟩ := quant_int w s
  rw [e]
  show (((BitVec.ofInt 8 (Ideal.toIntClamped (-(2 ^ (8 - 1) : Nat)) ((2 ^ (8 - 1) : Nat) - 1) ((z : ℝ) : EReal))).toInt : ℝ) : EReal) = _
  have t : Ideal.toIntClamped (-(2 ^ (8 - 1) : Nat)) ((2 ^ (8 - 1) : Nat) - 1) ((z : ℝ) : EReal) = z := by
    show max _ (min _ (if 0 ≤ (z : ℝ) then ⌊(z : ℝ)⌋ else ⌈(z : ℝ)⌉)) = z
    rw [Int.floor_intCast, Int.ceil_intCast, ite_self]
    norm_num
    omega
  rw [t, BitVec.toInt_ofInt]
  have b : z.bmod (2 ^ 8) = z := by rw [Int.bmod_def]; norm_num; split <;> omega
  rw [b]

/-- The named constant times a scale is the scale over 127. -/
theorem scale_eq (s : EReal) : s * ((127⁻¹ : ℝ) : EReal) = Ideal.div s hi := by
  rw [hi_eq, Ideal.div_coe (by norm_num), one_div]

/-- A weight scaled back is real. -/
theorem weight_real (w s : EReal) (h : max w (-w) ≤ s) : ∃ r : ℝ, quant w s * Ideal.div s hi = (r : EReal) := by
  obtain ⟨z, h0, h1, e⟩ := quant_int w s
  induction s using EReal.rec with
  | bot =>
    have hw := le_bot_iff.1 ((le_max_left _ _).trans h)
    have hn := le_bot_iff.1 ((le_max_right _ _).trans h)
    rw [hw] at hn; simp at hn
  | top =>
    have z0 : quant w ⊤ = 0 := by
      unfold quant
      have d : Ideal.div hi ⊤ = 0 := by unfold Ideal.div; simp
      rw [d, mul_zero, hi_eq, lo_eq]
      have r0 : Ideal.liftRound Ideal.roundHalfEven (0 : EReal) = ((0 : ℝ) : EReal) := by
        show (((Ideal.roundHalfEven 0 : ℤ) : ℝ) : EReal) = _
        norm_num [Ideal.roundHalfEven]
      rw [r0, ← EReal.coe_strictMono.monotone.map_max, ← EReal.coe_strictMono.monotone.map_min]
      norm_num
    exact ⟨0, by rw [z0, zero_mul]; rfl⟩
  | coe r =>
    exact ⟨z * (r * 127⁻¹), by rw [e, ← scale_eq, ← EReal.coe_mul, ← EReal.coe_mul]⟩

theorem le_sup (f : Fin 128 × Fin 256 → EReal) (p : Fin 128 × Fin 256) : max (f p) (-f p) ≤ sup f :=
  (Finset.le_fold_max _).2 (Or.inr ⟨p, Finset.mem_univ _, le_rfl⟩)

/-- The probabilities of real scores are real and positive. -/
theorem prob_real (s : Fin 32 → EReal) (σ : Fin 32 → ℝ) (h : ∀ e, s e = (σ e : EReal)) : ∃ p : Fin 32 → ℝ, (∀ e, 0 < p e) ∧ ∀ e, prob s e = (p e : EReal) := by
  obtain ⟨k, -, hk⟩ := Finset.exists_mem_eq_sup (Finset.univ : Finset (Fin 32)) ⟨0, Finset.mem_univ _⟩ s
  have hM : Finset.univ.fold max bot s = (σ k : EReal) := by
    rw [bot_eq, ← h k, ← hk]; rfl
  have he : ∀ e, Ideal.exp (s e - (σ k : EReal)) = (Real.exp (σ e - σ k) : EReal) := fun e => by
    rw [h e, ← EReal.coe_sub]; rfl
  have hpos : 0 < ∑ e : Fin 32, Real.exp (σ e - σ k) := Finset.sum_pos (fun e _ => Real.exp_pos _) ⟨0, Finset.mem_univ _⟩
  refine ⟨fun e => Real.exp (σ e - σ k) / ∑ e : Fin 32, Real.exp (σ e - σ k), fun e => div_pos (Real.exp_pos _) hpos, fun e => ?_⟩
  unfold prob
  rw [hM]
  simp only [he]
  have hs : (∑ x : Fin 32, ((Real.exp (σ x - σ k) : ℝ) : EReal)) = ((∑ e : Fin 32, Real.exp (σ e - σ k) : ℝ) : EReal) := by
    norm_cast
  rw [hs, Ideal.div_coe hpos.ne', ← EReal.coe_mul]
  congr 1
  rw [mul_one_div]

/-- Two words below 32 are equal when their numbers are. -/
theorem select_word (e i : Fin 32) (A B : EReal) : Scalar.select (IntOp.cmpi .eq (BitVec.ofNat 32 e.val) (BitVec.ofNat 32 i.val)) A B = if e = i then A else B := by
  have h : IntOp.cmpi .eq (BitVec.ofNat 32 e.val) (BitVec.ofNat 32 i.val) = if e = i then 1#1 else 0#1 := by
    revert e i; decide
  rw [h]
  split <;> rfl

end Cert.Value

end

end
-- ==== Proof.Value.Terms.lean ====
module

public import proofs.«01_k».proof.Proof.Value.Payloads
public import proofs.«01_k».proof.Proof.Value.Slots
public import proofs.«01_k».proof.Proof.Value.Sum
public import proofs.«01_k».proof.Proof.Value.Real

/-! The terms of the kernel's sum: the gated token and the weight scaled back. -/

@[expose] public section

set_option maxRecDepth 16384

noncomputable section

namespace Cert.KernelIdeal.Run

open Idealize Idealize.ShloMosaic Cert.KernelIdeal Cert.KernelIdeal.Gen Cert.Gather Cert.Value

theorem pay6_at (x : FVec Ideal S256x128 .bf16) (n : Fin 256) (d : Fin 128) : k0_pay6 (F := Ideal) x (ix2 n d) = x (ix2 n d) := by
  pointwise [k0_pay6]
theorem pay9_at (ix : IVec S256x2 32) (n : Fin 256) : k0_pay9 (F := Ideal) ix (ix2 n 0) = ix (ix2 n 0) := by
  pointwise [k0_pay9, k0_pay8]
theorem pay10_at (ix : IVec S256x2 32) (n : Fin 256) : k0_pay10 (F := Ideal) ix (ix2 n 0) = ix (ix2 n 1) := by
  pointwise [k0_pay10, k0_pay8]

theorem pick_word (P : Fin 32 → EReal) (w : BitVec 32) (i : Fin 32) (hw : w = BitVec.ofNat 32 i.val) :
    ∑ e : Fin 32, Scalar.select (IntOp.cmpi .eq (BitVec.ofNat 32 e.val) w) (P e) 0 = P i := by
  subst hw
  simp only [select_word, Finset.sum_ite_eq', Finset.mem_univ, if_true]

variable (m : (ℓ : Loc nD τ sig) → Buf (Elt Ideal) ℓ)

/-- The scores of a token of device `c`. -/
def score (c : Dev nD) (n : Fin 256) (e : Fin 32) : EReal := ∑ d : Fin 128, (x247 m c (ix2 n d) * x249 m c (ix2 d e) : EReal)

theorem x366_at (c : Dev nD) (n : Fin 256) (k : Fin 4) (s : Fin 8) (d : Fin 128) (i j : Fin 32)
    (hi : x261 m c (ix2 n 0) = BitVec.ofNat 32 i.val) (hj : x261 m c (ix2 n 1) = BitVec.ofNat 32 j.val) :
    x366 m c (ix3 n (slot k s) d)
      = ((if expert c k s = i then Ideal.div (prob (score m c n) i) (prob (score m c n) i + prob (score m c n) j) else 0)
        + (if expert c k s = j then Ideal.div (prob (score m c n) j) (prob (score m c n) i + prob (score m c n) j) else 0)) * x247 m c (ix2 n d) := by
  refine (pay19_at (x248 m c) (x263 m c) (x264 m c) (x279 m c) (x280 m c) (zW c) (pW c) n (slot k s) d).trans ?_
  have p11 : k0_pay11 (F := Ideal) (x247 m c) (x249 m c) (x261 m c) (ix2 n 0) = prob (score m c n) i := by
    rw [pay11_at]
    simp only [pay7_at]
    exact pick_word _ _ i hi
  have p12 : k0_pay12 (F := Ideal) (x247 m c) (x249 m c) (x261 m c) (ix2 n 0) = prob (score m c n) j := by
    rw [pay12_at]
    simp only [pay7_at]
    exact pick_word _ _ j hj
  have h0 : x263 m c (ix2 n 0) = BitVec.ofNat 32 i.val := (pay9_at _ n).trans hi
  have h1 : x264 m c (ix2 n 0) = BitVec.ofNat 32 j.val := (pay10_at _ n).trans hj
  have ha : x279 m c (ix2 n 0) = Ideal.div (prob (score m c n) i) (prob (score m c n) i + prob (score m c n) j) :=
    (pay14_at _ _ _ n).trans (by rw [p11, p12])
  have hb : x280 m c (ix2 n 0) = Ideal.div (prob (score m c n) j) (prob (score m c n) i + prob (score m c n) j) :=
    (pay15_at _ _ _ n).trans (by rw [p11, p12])
  have hx : x248 m c (ix2 n d) = x247 m c (ix2 n d) := pay6_at _ n d
  rw [h0, h1, ha, hb, hx, slotWord_eq, select_word, select_word]

/-- A slot's weight times its scale is the expert's weight as the reference scales it back. -/
theorem weight_at (c : Dev nD) (k : Fin 4) (s : Fin 8) (d : Fin 128) (h : Fin 256) :
    scaleOf m c k s * FloatOps.sitofp (F := Ideal) .bf16 (blockOf m c k s d h)
      = quant (ewBlk m (owner c k (half s)) (ix3 (par s) d h)) (sup fun p => ewBlk m (owner c k (half s)) (ix3 (par s) p.1 p.2))
        * Ideal.div (sup fun p => ewBlk m (owner c k (half s)) (ix3 (par s) p.1 p.2)) hi := by
  have e1 : scaleOf m c k s = (sup fun p => ewBlk m (owner c k (half s)) (ix3 (par s) p.1 p.2)) * ((127⁻¹ : ℝ) : EReal) := pay5_at _ _
  have e2 : blockOf m c k s d h = FloatOps.fptosi (F := Ideal) (φ := .f32) 8 (quant (ewBlk m (owner c k (half s)) (ix3 (par s) d h)) (sup fun p => ewBlk m (owner c k (half s)) (ix3 (par s) p.1 p.2))) :=
    pay3_at _ _ d h
  rw [e1, e2, quant_store, scale_eq, mul_comm]

end Cert.KernelIdeal.Run

end

end
-- ==== Proof.Value.Blocks.lean ====
module

public import Idealize.ShloMosaic.Lib.Layout
public import Idealize.ShloMosaic.Lib.LayoutAt
public import Idealize.ShloMosaic.Lib.Pointwise

/-! A device's block of a whole array, read at an index. -/

@[expose] public section

noncomputable section

namespace Cert.Value

open Idealize Idealize.ShloMosaic

/-- A device's token among all tokens. -/
def token (c : Fin 16) (n : Fin 256) : Fin 4096 := ⟨256 * c.val + n.val, by have := c.isLt; have := n.isLt; omega⟩
/-- A device's expert among all experts. -/
def expertOf (c : Fin 16) (e : Fin 2) : Fin 32 := ⟨2 * c.val + e.val, by have := c.isLt; have := e.isLt; omega⟩

variable {α : Type} (c : Fin 16)

theorem block_x (X : (⟨2, ![4096, 128]⟩ : Shape).Idx → α) (n : Fin 256) (d : Fin 128) :
    Layout.block ⟨2, ![256, 128]⟩ ⟨2, ![4096, 128]⟩ 0 16 c X (by decide) (ix2 n d) = X (ix2 (token c n) d) := by
  rw [Layout.block_apply]
  congr 1
  funext a
  refine Fin.ext ?_
  match a with
  | 0 => show c.val * 256 + n.val = 256 * c.val + n.val; omega
  | 1 => rfl

theorem block_i (X : (⟨2, ![4096, 2]⟩ : Shape).Idx → α) (n : Fin 256) (d : Fin 2) :
    Layout.block ⟨2, ![256, 2]⟩ ⟨2, ![4096, 2]⟩ 0 16 c X (by decide) (ix2 n d) = X (ix2 (token c n) d) := by
  rw [Layout.block_apply]
  congr 1
  funext a
  refine Fin.ext ?_
  match a with
  | 0 => show c.val * 256 + n.val = 256 * c.val + n.val; omega
  | 1 => rfl

theorem block_w (X : (⟨3, ![32, 128, 256]⟩ : Shape).Idx → α) (e : Fin 2) (d : Fin 128) (h : Fin 256) :
    Layout.block ⟨3, ![2, 128, 256]⟩ ⟨3, ![32, 128, 256]⟩ 0 16 c X (by decide) (ix3 e d h) = X (ix3 (expertOf c e) d h) := by
  rw [Layout.block_apply]
  congr 1
  funext a
  refine Fin.ext ?_
  match a with
  | 0 => show c.val * 2 + e.val = 2 * c.val + e.val; omega
  | 1 => rfl
  | 2 => rfl

theorem block_o (X : (⟨2, ![4096, 256]⟩ : Shape).Idx → α) (n h : Fin 256) :
    Layout.block ⟨2, ![256, 256]⟩ ⟨2, ![4096, 256]⟩ 0 16 c X (by decide) (ix2 n h) = X (ix2 (token c n) h) := by
  rw [Layout.block_apply]
  congr 1
  funext a
  refine Fin.ext ?_
  match a with
  | 0 => show c.val * 256 + n.val = 256 * c.val + n.val; omega
  | 1 => rfl

end Cert.Value

end

end
-- ==== Proof.Value.Reference.lean ====
module

public import proofs.«01_k».proof.Proof.Gen.ReferenceIdeal.Run
public import proofs.«01_k».proof.Proof.Value.Spec

/-! The value of the reference read at one token and one column. -/

@[expose] public section

noncomputable section

namespace Cert.ReferenceIdeal.Value

open Idealize Idealize.ShloMosaic Cert.ReferenceIdeal Cert.ReferenceIdeal.Gen

theorem clamp_word (k : Fin 32) : min (BitVec.ofNat 32 k.val).toInt.toNat 31 = k.val := by
  revert k; decide

/-- The entry a token picks from its row. -/
theorem pick2 (x : S4096x32.Idx → EReal) (idx : IVec S4096x2x1 32) (N : Fin 4096) (j : Fin 2) (k : Fin 32)
    (hk : idx (ix3 N j 0) = BitVec.ofNat 32 k.val) :
    Host.gather gather_S4096x32_S4096x2x1_S4096x2_n_1_0_0_1_2_11 x idx (ix2 N j) = x (ix2 N k) := by
  unfold Host.gather
  congr 1
  funext a
  refine Fin.ext ?_
  show gather_S4096x32_S4096x2x1_S4096x2_n_1_0_0_1_2_11.start (ix2 N j) idx a
    + gather_S4096x32_S4096x2x1_S4096x2_n_1_0_0_1_2_11.batchCoord (ix2 N j) a
    + gather_S4096x32_S4096x2x1_S4096x2_n_1_0_0_1_2_11.offCoord (ix2 N j) a = _
  have h01 : a = 0 ∨ a = 1 := by
    match a with
    | ⟨0, _⟩ => exact Or.inl rfl
    | ⟨1, _⟩ => exact Or.inr rfl
  rcases h01 with rfl | rfl
  · rw [GatherDims.start_batching _ _ _ _ (by decide), GatherDims.offCoord_eq_zero _ _ _ (by decide)]
    simp only [Nat.zero_add, Nat.add_zero]
    rfl
  · rw [GatherDims.batchCoord_eq_zero _ _ _ (by decide), GatherDims.offCoord_eq_zero _ _ _ (by decide)]
    simp only [Nat.add_zero]
    unfold GatherDims.start
    rw [dif_pos (by decide)]
    have hsi : gather_S4096x32_S4096x2x1_S4096x2_n_1_0_0_1_2_11.siIdx (ix2 N j)
        ⟨List.idxOf (1 : Fin 2) gather_S4096x32_S4096x2x1_S4096x2_n_1_0_0_1_2_11.startIndexMap, by decide⟩ = ix3 N j 0 := by
      funext b; refine Fin.ext ?_
      match b with
      | ⟨0, _⟩ => rfl
      | ⟨1, _⟩ => rfl
      | ⟨2, _⟩ => rfl
    rw [hsi, hk]
    exact clamp_word k

/-- The row a token picks from its table. -/
theorem pick3 (x : S4096x32x256.Idx → EReal) (idx : IVec S4096x1x1 32) (N : Fin 4096) (h : Fin 256) (k : Fin 32)
    (hk : idx (ix3 N 0 0) = BitVec.ofNat 32 k.val) :
    Host.gather gather_S4096x32x256_S4096x1x1_S4096x1x256_2_1_0_0_1_2_11256 x idx (ix3 N 0 h) = x (ix3 N k h) := by
  unfold Host.gather
  congr 1
  funext a
  refine Fin.ext ?_
  show gather_S4096x32x256_S4096x1x1_S4096x1x256_2_1_0_0_1_2_11256.start (ix3 N 0 h) idx a
    + gather_S4096x32x256_S4096x1x1_S4096x1x256_2_1_0_0_1_2_11256.batchCoord (ix3 N 0 h) a
    + gather_S4096x32x256_S4096x1x1_S4096x1x256_2_1_0_0_1_2_11256.offCoord (ix3 N 0 h) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (by decide), GatherDims.offCoord_eq_zero _ _ _ (by decide)]
    simp only [Nat.zero_add, Nat.add_zero]
    rfl
  · rw [GatherDims.batchCoord_eq_zero _ _ _ (by decide), GatherDims.offCoord_eq_zero _ _ _ (by decide)]
    simp only [Nat.add_zero]
    unfold GatherDims.start
    rw [dif_pos (by decide)]
    have hsi : gather_S4096x32x256_S4096x1x1_S4096x1x256_2_1_0_0_1_2_11256.siIdx (ix3 N 0 h)
        ⟨List.idxOf (1 : Fin 3) gather_S4096x32x256_S4096x1x1_S4096x1x256_2_1_0_0_1_2_11256.startIndexMap, by decide⟩ = ix3 N 0 0 := by
      funext b; refine Fin.ext ?_
      match b with
      | ⟨0, _⟩ => rfl
      | ⟨1, _⟩ => rfl
      | ⟨2, _⟩ => rfl
    rw [hsi, hk]
    exact clamp_word k
  · rw [GatherDims.batchCoord_eq_zero _ _ _ (by decide)]
    unfold GatherDims.start
    rw [dif_neg (by decide)]
    simp only [Nat.zero_add, Nat.add_zero]
    rfl

theorem wrap_word (k : Fin 32) : Scalar.select (IntOp.cmpi .slt (BitVec.ofNat 32 k.val) 0#32) (BitVec.ofNat 32 k.val + 32#32) (BitVec.ofNat 32 k.val) = BitVec.ofNat 32 k.val := by
  revert k; decide

variable (x : FVec Ideal S4096x128 .bf16) (rw : FVec Ideal S128x32 .bf16) (ix : IVec S4096x2 32) (w : FVec Ideal S32x128x256 .bf16)

/-- The router's scores. -/
def scores : FVec Ideal S4096x32 .f32 :=
  Host.dotGeneral dot_S4096x128_S128x32_S4096x32_1_0_0_1_n_n none (extf .f32 x bitsLt_bf16_f32) (extf .f32 rw bitsLt_bf16_f32)
/-- The exponentials of the scores below their maximum. -/
def exps : FVec Ideal S4096x32 .f32 :=
  Host.exp (subf (scores x rw) (broadcastInDim S4096x32 ![0, 1] bcast_S4096x1_S4096x32_0_1 (broadcastInDim S4096x1 ![0] bcast_S4096_S4096x1_0
    (Host.reduce FloatOps.maximumf (scores x rw) (constant S_ .f32 0xFF800000#32) reducesTo_S4096x32_S4096_d1 h_S_))))
/-- The probabilities. -/
def probs : FVec Ideal S4096x32 .f32 :=
  Host.divf (exps x rw) (broadcastInDim S4096x32 ![0, 1] bcast_S4096x1_S4096x32_0_1 (broadcastInDim S4096x1 ![0] bcast_S4096_S4096x1_0
    (Host.reduceAdd (exps x rw) (constant S_ .f32 0x00000000#32) reducesTo_S4096x32_S4096_d1 h_S_)))
/-- The largest magnitude of each expert's weights. -/
def sups : FVec Ideal S32 .f32 :=
  Host.reduce FloatOps.maximumf (Host.absf (extf .f32 w bitsLt_bf16_f32)) (constant S_ .f32 0xFF800000#32) reducesTo_S32x128x256_S32_d1_2 h_S_
/-- The weights after rounding, scaled back. -/
def weights : FVec Ideal S32x128x256 .f32 :=
  mulf (minimumf (broadcastInDim S32x128x256 ![] bcast_S_S32x128x256 (id (constant S_ .f32 0x42FE0000#32))) (maximumf (broadcastInDim S32x128x256 ![] bcast_S_S32x128x256 (id (constant S_ .f32 0xC2FE0000#32))) (Host.roundeven (mulf (extf .f32 w bitsLt_bf16_f32) (broadcastInDim S32x128x256 ![0, 1, 2] bcast_S32x1x1_S32x128x256_0_1_2 (Host.divf (broadcastInDim S32x1x1 ![] bcast_S_S32x1x1 (constant S_ .f32 0x42FE0000#32)) (broadcastInDim S32x1x1 ![0] bcast_S32_S32x1x1_0 (sups w)))))))) (broadcastInDim S32x128x256 ![0, 1, 2] bcast_S32x1x1_S32x128x256_0_1_2 (Host.divf (broadcastInDim S32x1x1 ![0] bcast_S32_S32x1x1_0 (sups w)) (broadcastInDim S32x1x1 ![] bcast_S_S32x1x1 (constant S_ .f32 0x42FE0000#32))))
/-- Every token through every expert. -/
def table : FVec Ideal S4096x32x256 .f32 :=
  Host.dotGeneral dot_S4096x128_S32x128x256_S4096x32x256_1_1_0_02_n_n none (extf .f32 x bitsLt_bf16_f32) (weights w)
/-- The two probabilities each token picks. -/
def gates : FVec Ideal S4096x2 .f32 :=
  Host.gather gather_S4096x32_S4096x2x1_S4096x2_n_1_0_0_1_2_11 (probs x rw) (shapeCast _ (select (cmpi .slt ix (broadcastInDim S4096x2 ![] bcast_S_S4096x2 (constantI S_ 32 0#32))) (addi ix (broadcastInDim S4096x2 ![] bcast_S_S4096x2 (constantI S_ 32 32#32))) ix) shapeCasts_S4096x2_S4096x2x1)
/-- An index below zero counted from the end. -/
def wrap (b : IVec S4096x1 32) : IVec S4096x1x1 32 :=
  select (cmpi .slt (broadcastInDim S4096x1x1 ![0, 1] bcast_S4096x1_S4096x1x1_0_1 b) (broadcastInDim S4096x1x1 ![] bcast_S_S4096x1x1 (constantI S_ 32 0#32)))
    (addi (broadcastInDim S4096x1x1 ![0, 1] bcast_S4096x1_S4096x1x1_0_1 b) (broadcastInDim S4096x1x1 ![] bcast_S_S4096x1x1 (constantI S_ 32 32#32)))
    (broadcastInDim S4096x1x1 ![0, 1] bcast_S4096x1_S4096x1x1_0_1 b)
/-- The rows each token picks. -/
def rows (b : IVec S4096x1 32) : FVec Ideal S4096x1x256 .f32 :=
  Host.gather gather_S4096x32x256_S4096x1x1_S4096x1x256_2_1_0_0_1_2_11256 (table x w) (wrap b)
/-- The reference's value, from its arguments. -/
def whole : FVec Ideal S4096x256 .f32 :=
  addf (mulf (broadcastInDim S4096x256 ![0, 1] bcast_S4096x1_S4096x256_0_1 (Host.divf (extractStridedSlice S4096x1 ![0, 0] (gates x rw ix) slices_S4096x2_S4096x1_0_0) (addf (extractStridedSlice S4096x1 ![0, 0] (gates x rw ix) slices_S4096x2_S4096x1_0_0) (extractStridedSlice S4096x1 ![0, 1] (gates x rw ix) slices_S4096x2_S4096x1_0_1)))) (shapeCast _ (rows x w (extractStridedSlice S4096x1 ![0, 0] ix slices_S4096x2_S4096x1_0_0)) shapeCasts_S4096x1x256_S4096x256))
    (mulf (broadcastInDim S4096x256 ![0, 1] bcast_S4096x1_S4096x256_0_1 (Host.divf (extractStridedSlice S4096x1 ![0, 1] (gates x rw ix) slices_S4096x2_S4096x1_0_1) (addf (extractStridedSlice S4096x1 ![0, 0] (gates x rw ix) slices_S4096x2_S4096x1_0_0) (extractStridedSlice S4096x1 ![0, 1] (gates x rw ix) slices_S4096x2_S4096x1_0_1)))) (shapeCast _ (rows x w (extractStridedSlice S4096x1 ![0, 1] ix slices_S4096x2_S4096x1_0_1)) shapeCasts_S4096x1x256_S4096x256))

theorem res_eq (m : (ℓ : Loc nD τ sig) → Buf (Elt Ideal) ℓ) (c : Dev nD) :
    res_main_v47 (F := Ideal) m c = whole (m ((c.tc : Thread nD τ).loc main_arg0)) (m ((c.tc : Thread nD τ).loc main_arg1)) (m ((c.tc : Thread nD τ).loc main_arg2)) (m ((c.tc : Thread nD τ).loc main_arg3)) := rfl

open Cert.Value in
theorem probs_at (N : Fin 4096) (e : Fin 32) : probs x rw (ix2 N e) = prob (fun e => ∑ d, (x (ix2 N d) * rw (ix2 d e) : EReal)) e := by
  pointwise [probs, exps, scores]
  rfl

open Cert.Value in
theorem table_at (N : Fin 4096) (e : Fin 32) (h : Fin 256) : table x w (ix3 N e h)
    = ∑ d : Fin 128, (x (ix2 N d) * (quant (w (ix3 e d h)) (sup fun p => w (ix3 e p.1 p.2)) * Ideal.div (sup fun p => w (ix3 e p.1 p.2)) hi) : EReal) := by
  pointwise [table, weights, sups]
  rfl

theorem gates_at (N : Fin 4096) (j : Fin 2) (k : Fin 32) (hk : ix (ix2 N j) = BitVec.ofNat 32 k.val) : gates x rw ix (ix2 N j) = probs x rw (ix2 N k) := by
  unfold gates
  refine pick2 _ _ N j k ?_
  pointwise [hk]
  exact wrap_word k

theorem rows_at (b : IVec S4096x1 32) (N : Fin 4096) (h : Fin 256) (k : Fin 32) (hk : b (ix2 N 0) = BitVec.ofNat 32 k.val) : rows x w b (ix3 N 0 h) = table x w (ix3 N k h) := by
  unfold rows
  refine pick3 _ _ N h k ?_
  pointwise [wrap, hk]
  exact wrap_word k

/-- The reference's value at token `N` and column `h`, where the token's two indices are `i` and `j`. -/
theorem whole_at (N : Fin 4096) (h : Fin 256) (i j : Fin 32) (hi : ix (ix2 N 0) = BitVec.ofNat 32 i.val) (hj : ix (ix2 N 1) = BitVec.ofNat 32 j.val) :
    whole x rw ix w (ix2 N h) = (Ideal.div (probs x rw (ix2 N i)) (probs x rw (ix2 N i) + probs x rw (ix2 N j)) * table x w (ix3 N i h)
      + Ideal.div (probs x rw (ix2 N j)) (probs x rw (ix2 N i) + probs x rw (ix2 N j)) * table x w (ix3 N j h) : EReal) := by
  have h0 := rows_at x w (extractStridedSlice S4096x1 ![0, 0] ix slices_S4096x2_S4096x1_0_0) N h i (by pointwise [hi])
  have h1 := rows_at x w (extractStridedSlice S4096x1 ![0, 1] ix slices_S4096x2_S4096x1_0_1) N h j (by pointwise [hj])
  pointwise [whole]
  rw [h0, h1, gates_at x rw ix N 0 i hi, gates_at x rw ix N 1 j hj]

end Cert.ReferenceIdeal.Value

end

end
-- ==== Proof.Value.Equation.lean ====
module

public import proofs.«01_k».proof.Proof.Value.Total
public import proofs.«01_k».proof.Proof.Value.Terms
public import proofs.«01_k».proof.Proof.Value.Blocks
public import proofs.«01_k».proof.Proof.Value.Reference

/-! The kernel's result on a device is the device's block of the reference's result. -/

@[expose] public section

set_option maxRecDepth 16384

noncomputable section

namespace Cert.KernelIdeal.Run

open Idealize Idealize.ShloMosaic Cert.KernelIdeal Cert.KernelIdeal.Gen Cert.Gather Cert.Value

theorem gate_real (P Q R : EReal) (p q r : ℝ) (hp : 0 < p) (hq : 0 < q) (eP : P = (p : EReal)) (eQ : Q = (q : EReal)) (eR : R = (r : EReal)) :
    ∃ a : ℝ, Ideal.div R (P + Q) = (a : EReal) := by
  subst eP eQ eR
  refine ⟨r * (1 / (p + q)), ?_⟩
  rw [← EReal.coe_add, Ideal.div_coe (by positivity), ← EReal.coe_mul]

variable (m : (ℓ : Loc nD τ sig) → Buf (Elt Ideal) ℓ)
  (X : FVec Ideal Cert.ReferenceIdeal.S4096x128 .bf16) (R : FVec Ideal Cert.ReferenceIdeal.S128x32 .bf16)
  (I : IVec Cert.ReferenceIdeal.S4096x2 32) (W : FVec Ideal Cert.ReferenceIdeal.S32x128x256 .bf16)

/-- A weight of an expert as the reference scales it back. -/
def scaled (h : Fin 256) (e : Fin 32) (d : Fin 128) : EReal :=
  quant (W (ix3 e d h)) (sup fun p => W (ix3 e p.1 p.2)) * Ideal.div (sup fun p => W (ix3 e p.1 p.2)) hi

theorem slot_weight (hw : ∀ c e d h, ewBlk m c (ix3 e d h) = W (ix3 (expertOf c e) d h)) (c : Dev nD) (k : Fin 4) (s : Fin 8) (d : Fin 128) (h : Fin 256) :
    scaleOf m c k s * FloatOps.sitofp (F := Ideal) .bf16 (blockOf m c k s d h) = scaled W h (expert c k s) d := by
  have he : expertOf (owner c k (half s)) (par s) = expert c k s := rfl
  rw [weight_at]
  simp only [hw, he]
  rfl

theorem agree
    (hx : ∀ c n d, x247 m c (ix2 n d) = X (ix2 (token c n) d)) (hr : ∀ c d e, x249 m c (ix2 d e) = R (ix2 d e))
    (hi : ∀ c n t, x261 m c (ix2 n t) = I (ix2 (token c n) t)) (hw : ∀ c e d h, ewBlk m c (ix3 e d h) = W (ix3 (expertOf c e) d h))
    (fx : ∀ c n d, ∃ r : ℝ, x247 m c (ix2 n d) = (r : EReal)) (fr : ∀ c d e, ∃ r : ℝ, x249 m c (ix2 d e) = (r : EReal))
    (fi : ∀ c n t, ∃ k : Fin 32, x261 m c (ix2 n t) = BitVec.ofNat 32 k.val)
    (c : Dev nD) (n h : Fin 256) :
    xOut m c (ix2 n h) = Cert.ReferenceIdeal.Value.whole X R I W (ix2 (token c n) h) := by
  choose x ex using fx c n
  choose r er using fr c
  obtain ⟨i, ei⟩ := fi c n 0
  obtain ⟨j, ej⟩ := fi c n 1
  have hs : ∀ e, score m c n e = ((∑ d, x d * r d e : ℝ) : EReal) := by
    intro e
    unfold score
    simp only [ex, er]
    push_cast
    rfl
  obtain ⟨p, hp, ep⟩ := prob_real (score m c n) _ hs
  obtain ⟨a, ea⟩ := gate_real _ _ _ (p i) (p j) (p i) (hp i) (hp j) (ep i) (ep j) (ep i)
  obtain ⟨b, eb⟩ := gate_real _ _ _ (p i) (p j) (p j) (hp i) (hp j) (ep i) (ep j) (ep j)
  have hv : ∀ (e : Fin 32) (d : Fin 128), ∃ v : ℝ, scaled W h e d = (v : EReal) := fun e d =>
    weight_real _ _ (le_sup (fun p => W (ix3 e p.1 p.2)) (d, h))
  choose v ev using hv
  have hpr : ∀ e, Cert.ReferenceIdeal.Value.probs X R (ix2 (token c n) e) = prob (score m c n) e := by
    intro e
    rw [Cert.ReferenceIdeal.Value.probs_at]
    unfold score
    simp only [hx, hr]
  have ht : ∀ e, Cert.ReferenceIdeal.Value.table X W (ix3 (token c n) e h) = ∑ d, (x d : EReal) * (v e d : EReal) := by
    intro e
    rw [Cert.ReferenceIdeal.Value.table_at]
    refine Finset.sum_congr rfl fun d _ => ?_
    rw [← ex d, hx, ← ev e d]
    rfl
  rw [Cert.ReferenceIdeal.Value.whole_at X R I W (token c n) h i j ((hi c n 0).symm.trans ei) ((hi c n 1).symm.trans ej)]
  simp only [hpr]
  rw [ea, eb, ht, ht, xOut_at]
  refine total x v a b i j (expert c) (expert_inj c) (part m c n h) fun k => ?_
  unfold part
  refine Finset.sum_congr rfl fun s _ => Finset.sum_congr rfl fun d _ => ?_
  rw [mul_assoc, slot_weight m W hw, ev, x366_at m c n k s d i j ei ej, ea, eb, ex]

end Cert.KernelIdeal.Run

end

end
-- ==== Proof.Value.Algebraic.lean ====
module

public import proofs.«01_k».proof.Defs
public import proofs.«01_k».proof.Proof.Ideal.Launch
public import proofs.«01_k».proof.Proof.Value.Windows
public import proofs.«01_k».proof.Proof.Value.Finite
public import proofs.«01_k».proof.Proof.Value.Equation

/-! The value claim: from blocks of one set of arrays, the kernel leaves on every device its block of the reference's result. -/

@[expose] public section

set_option maxRecDepth 16384

noncomputable section

namespace Cert.Proof

open Idealize Idealize.ShloMosaic Idealize.SL.Sem Cert.Value

open Cert.KernelIdeal Cert.KernelIdeal.Run in
/-- The kernel's result on a device is its block of the reference's. -/
theorem result_block (m : (ℓ : Loc nD τ sig) → Buf (Elt Ideal) ℓ)
    (m' : (ℓ : Loc Cert.ReferenceIdeal.nD Cert.ReferenceIdeal.τ Cert.ReferenceIdeal.sig) → Buf (Elt Ideal) ℓ)
    (pre : Cert.Pre_KernelIdeal_tame_KernelIdeal m)
    (h0 : ∀ c : Dev nD, m ((c.tc : Thread nD τ).loc main_arg0) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg0)))
    (h1 : ∀ c : Dev nD, m ((c.tc : Thread nD τ).loc main_arg1) = m' (((0 : Dev Cert.ReferenceIdeal.nD).tc : Thread Cert.ReferenceIdeal.nD Cert.ReferenceIdeal.τ).loc Cert.ReferenceIdeal.main_arg1))
    (h2 : ∀ c : Dev nD, m ((c.tc : Thread nD τ).loc main_arg2) = Layout.block ⟨2, ![256, 2]⟩ ⟨2, ![4096, 2]⟩ 0 16 c (m' (((0 : Dev Cert.ReferenceIdeal.nD).tc : Thread Cert.ReferenceIdeal.nD Cert.ReferenceIdeal.τ).loc Cert.ReferenceIdeal.main_arg2)))
    (h3 : ∀ c : Dev nD, m ((c.tc : Thread nD τ).loc main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3)))
    (c : Dev nD) :
    xOut m c = Layout.block ⟨2, ![256, 256]⟩ ⟨2, ![4096, 256]⟩ 0 16 c (Cert.ReferenceIdeal.Value.res_main_v47 (F := Ideal) m' 0) := by
  have ft := fun c => Cert.Pre_tame_KernelIdeal.facts _ _ _ _ (pre c)
  have e0 := fun c => (x247_eq m c).trans (h0 c)
  have e1 := fun c => (x249_eq m c).trans (h1 c)
  have e2 := fun c => (x261_eq m c).trans (h2 c)
  have e3 := fun c => (ewBlk_eq m c).trans (h3 c)
  funext q
  rw [eq_ix2 q]
  refine (agree m _ _ _ _ (fun c n d => (congrFun (e0 c) _).trans (block_x c _ n d)) (fun c d e => congrFun (e1 c) _)
    (fun c n t => (congrFun (e2 c) _).trans (block_i c _ n t)) (fun c e d h => (congrFun (e3 c) _).trans (block_w c _ e d h))
    (fun c n d => ?_) (fun c d e => ?_) (fun c n t => ?_) c (q 0) (q 1)).trans ?_
  · rw [x247_eq]; exact (ft c).1 n d
  · rw [x249_eq]; exact (ft c).2.1 d e
  · rw [x261_eq]; exact (ft c).2.2 n t
  · rw [Cert.ReferenceIdeal.Value.res_eq]
    exact (block_o c _ (q 0) (q 1)).symm

theorem algebraic : Cert.algebraic_KernelIdeal_ReferenceIdeal_pre_tame_KernelIdeal := by
  intro m g m' g' pre h
  refine ⟨Cert.ReferenceIdeal.Value.res_main_v47 (F := Ideal) m' 0, ?_, ?_⟩
  · refine (θ_run Cert.KernelIdeal.defs _ _).mono (fun _ q c => ⟨(q.1 c (4 : Fin 5)).trans ?_,
        (q.1 c (0 : Fin 5)).trans (Cert.KernelIdeal.Run.finalA_in m g c (0 : Fin 5) rfl), (q.1 c (1 : Fin 5)).trans (Cert.KernelIdeal.Run.finalA_in m g c (1 : Fin 5) rfl),
        (q.1 c (2 : Fin 5)).trans (Cert.KernelIdeal.Run.finalA_in m g c (2 : Fin 5) rfl), (q.1 c (3 : Fin 5)).trans (Cert.KernelIdeal.Run.finalA_in m g c (3 : Fin 5) rfl)⟩)
      (Cert.KernelIdeal.Run.run_main (F := Ideal) m g)
    exact (Cert.KernelIdeal.Run.out_eq m c g).trans
      (result_block m m' pre (fun c => (h c).1) (fun c => (h c).2.1) (fun c => (h c).2.2.1) (fun c => (h c).2.2.2) c)
  · exact (θ_run Cert.ReferenceIdeal.defs _ _).mono (fun _ q => q 0) (Cert.ReferenceIdeal.Value.run (F := Ideal) m' g')

end Cert.Proof

end

end
-- ==== Proof.lean ====
/-
  The proof of `Cert.Claim`. The kernel's run is proved once, generically in the float values, in Proof/Ideal/ and read in
  Proof/Bits/ of the program at bit patterns; the two frames are that run with its values dropped, and the value claim is
  that run at extended reals joined to the reference's in Proof/Value/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_tame_KernelIdeal
public import proofs.«01_k».proof.Proof.Gen.Pre_tame_ReferenceIdeal
public import proofs.«01_k».proof.Proof.Bits.Launch
public import proofs.«01_k».proof.Proof.Ideal.Launch
public import proofs.«01_k».proof.Proof.Value.Algebraic
public import Idealize.ShloMosaic.Lib.Quiescent

@[expose] public section

noncomputable section

namespace Cert.Proof

open Idealize.ShloMosaic Idealize.SL.Sem

/-- The kernel at bit patterns ends from any memory, with its arguments kept and every counter at zero. -/
theorem frame_kernel : Cert.quiescent_Kernel := fun m ρ _ =>
  (θ_run Cert.Kernel.defs _ _).mono (fun _ h => ⟨fun c =>
      ⟨(h.1 c (0 : Fin 5)).trans (Cert.Kernel.Run.finalA_in m ρ c (0 : Fin 5) rfl), (h.1 c (1 : Fin 5)).trans (Cert.Kernel.Run.finalA_in m ρ c (1 : Fin 5) rfl),
        (h.1 c (2 : Fin 5)).trans (Cert.Kernel.Run.finalA_in m ρ c (2 : Fin 5) rfl), (h.1 c (3 : Fin 5)).trans (Cert.Kernel.Run.finalA_in m ρ c (3 : Fin 5) rfl)⟩, h.2⟩)
    (Cert.Kernel.Run.run_main (F := Bits) m ρ)

/-- The same of the kernel at extended reals. -/
theorem frame_ideal : Cert.quiescent_KernelIdeal := fun m ρ _ =>
  (θ_run Cert.KernelIdeal.defs _ _).mono (fun _ h => ⟨fun c =>
      ⟨(h.1 c (0 : Fin 5)).trans (Cert.KernelIdeal.Run.finalA_in m ρ c (0 : Fin 5) rfl), (h.1 c (1 : Fin 5)).trans (Cert.KernelIdeal.Run.finalA_in m ρ c (1 : Fin 5) rfl),
        (h.1 c (2 : Fin 5)).trans (Cert.KernelIdeal.Run.finalA_in m ρ c (2 : Fin 5) rfl), (h.1 c (3 : Fin 5)).trans (Cert.KernelIdeal.Run.finalA_in m ρ c (3 : Fin 5) rfl)⟩, h.2⟩)
    (Cert.KernelIdeal.Run.run_main (F := Ideal) m ρ)

/-- The reference ends with its arguments kept; it uses no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one named constant: the reciprocal of 127, whose float32 is the constant the kernel was printed with. -/
theorem preserves : Cert.preserves_Kernel_KernelIdeal :=
  IdealRules.named_const.statement Cert.KernelIdeal.κ "inv_127" .f32 0x3C010204#32 ((127⁻¹ : ℝ) : EReal) rfl

theorem claim : Cert.Claim :=
  ⟨Cert.Kernel.Gen.facts, Cert.KernelIdeal.Gen.facts, Cert.ReferenceIdeal.Gen.facts, Cert.Pre_tame_KernelIdeal.Gen.facts, Cert.Pre_tame_ReferenceIdeal.Gen.facts,
    frame_kernel, frame_ideal, fun m ρ _ => frame_ideal m ρ trivial, frame_reference, fun m ρ _ => frame_reference m ρ trivial,
    preserves, algebraic⟩

end Cert.Proof

end
